-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "mask" .f32 0xF149F2CA#32 ⊥
  ∧ IdealRules.named_const.Statement Cert.Kernel6Ideal.κ "log2e" .f32 0x3FB8AA3B#32 (((Real.log 2)⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v25) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite.lean ====
abbrev S16384x1024 : Shape := ⟨2, ![16384, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v4 : IVec S_ 1) (main_v9 : IVec S_ 1) (main_v14 : IVec S_ 1) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S16384x1024 .bf16) (main_arg1 : FVec F S16384x1024 .bf16) (main_arg2 : FVec F S16384x1024 .bf16) (main_arg3 : FVec F S16384x1024 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : FVec F S16384x1024 .f32 := (extf .f32 · bitsLt_bf16_f32) main_arg2
  let main_v11 : FVec F S16384x1024 .f32 := Host.absf main_v10
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : FVec F S16384x1024 .f32 := (extf .f32 · bitsLt_bf16_f32) main_arg3
  let main_v16 : FVec F S16384x1024 .f32 := Host.absf main_v15
  let main_cst_4 : FVec F S_ .f32 := constant S_ .f32 0x7F800000#32
  fn_part1 (F := F) main_v4 main_v9 main_v14 main_v16 main_cst_4
-- ==== Pre_finite6.lean ====
abbrev S16384x1024 : Shape := ⟨2, ![16384, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .bf16) (main_arg1 : FVec F S16384x1024 .bf16) (main_arg2 : FVec F S16384x1024 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : FVec F S16384x1024 .f32 := (extf .f32 · bitsLt_bf16_f32) main_arg2
  let main_v11 : FVec F S16384x1024 .f32 := Host.absf main_v10
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v4 main_v9
  let main_v16 : IVec S_ 1 := andi main_v15 main_v14
  main_v16
-- ==== Kernel.lean ====
abbrev S16384x1024 : Shape := ⟨2, ![16384, 1024]⟩
abbrev S_ : Shape := ⟨0, ![]⟩
abbrev S16384x8x128 : Shape := ⟨3, ![16384, 8, 128]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x8 : Shape := ⟨2, ![16384, 8]⟩
abbrev S8x32x1x512 : Shape := ⟨4, ![8, 32, 1, 512]⟩
abbrev S16384x128 : Shape := ⟨2, ![16384, 128]⟩
abbrev S512x128 : Shape := ⟨2, ![512, 128]⟩
abbrev S1x32x1x512 : Shape := ⟨4, ![1, 32, 1, 512]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 90
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S16384x8x128, .f32⟩
  | .hbm, ⟨16, _⟩ => ⟨S16384x1024, .f32⟩
  | .hbm, ⟨17, _⟩ => ⟨S16384x8x128, .f32⟩
  | .hbm, ⟨18, _⟩ => ⟨S8x16384x16384, .f32⟩
  | .hbm, ⟨19, _⟩ => ⟨S16384, .i32⟩
  | .hbm, ⟨20, _⟩ => ⟨S1x16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S1x16384x16384, .i1⟩
  | .hbm, ⟨26, _⟩ => ⟨S_, .f32⟩
  | .hbm, ⟨27, _⟩ => ⟨S_, .f32⟩
  | .hbm, ⟨28, _⟩ => ⟨S8x16384x16384, .i1⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384, .f32⟩
  | .hbm, ⟨40, _⟩ => ⟨S8x16384, .f32⟩
  | .hbm, ⟨41, _⟩ => ⟨S8x16384, .f32⟩
  | .hbm, ⟨42, _⟩ => ⟨S8x16384, .f32⟩
  | .hbm, ⟨43, _⟩ => ⟨S16384x8x128, .f32⟩
  | .hbm, ⟨44, _⟩ => ⟨S16384x1024, .f32⟩
  | .hbm, ⟨45, _⟩ => ⟨S16384x8x128, .f32⟩
  | .hbm, ⟨46, _⟩ => ⟨S8x16384x16384, .f32⟩
  | .hbm, ⟨47, _⟩ => ⟨S16384, .i32⟩
  | .hbm, ⟨48, _⟩ => ⟨S1x16384, .i32⟩
  | .hbm, ⟨49, _⟩ => ⟨S16384x1, .i32⟩
  | .hbm, ⟨50, _⟩ => ⟨S16384x16384, .i32⟩
  | .hbm, ⟨51, _⟩ => ⟨S16384x16384, .i32⟩
  | .hbm, ⟨52, _⟩ => ⟨S16384x16384, .i1⟩
  | .hbm, ⟨53, _⟩ => ⟨S1x16384x16384, .i1⟩
  | .hbm, ⟨54, _⟩ => ⟨S_, .f32⟩
  | .hbm, ⟨55, _⟩ => ⟨S_, .f32⟩
  | .hbm, ⟨56, _⟩ => ⟨S8x16384x16384, .i1⟩
  | .hbm, ⟨57, _⟩ => ⟨S8x16384x16384, .f32⟩
  | .hbm, ⟨58, _⟩ => ⟨S8x16384x16384, .f32⟩
  | .hbm, ⟨59, _⟩ => ⟨S_, .f32⟩
  | .hbm, ⟨60, _⟩ => ⟨S8x16384, .f32⟩
  | .hbm, ⟨61, _⟩ => ⟨S_, .f32⟩
  | .hbm, ⟨62, _⟩ => ⟨S8x16384, .f32⟩
  | .hbm, ⟨63, _⟩ => ⟨S8x16384, .f32⟩
  | .hbm, ⟨64, _⟩ => ⟨S8x16384x1, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S_, .f32⟩
  | .hbm, ⟨69, _⟩ => ⟨S8x16384, .f32⟩
  | .hbm, ⟨70, _⟩ => ⟨S8x16384x1, .f32⟩
  | .hbm, ⟨71, _⟩ => ⟨S8x16384x16384, .f32⟩
  | .hbm, ⟨72, _⟩ => ⟨S8x16384x16384, .f32⟩
  | .hbm, ⟨73, _⟩ => ⟨S16384x1024, .f32⟩
  | .hbm, ⟨74, _⟩ => ⟨S16384x8x128, .f32⟩
  | .hbm, ⟨75, _⟩ => ⟨S8x128x16384, .f32⟩
  | .hbm, ⟨76, _⟩ => ⟨S16384x8x128, .f32⟩
  | .hbm, ⟨77, _⟩ => ⟨S16384x1024, .f32⟩
  | .hbm, ⟨78, _⟩ => ⟨S16384x1024, .f32⟩
  | .hbm, ⟨79, _⟩ => ⟨S16384x8x128, .f32⟩
  | .hbm, ⟨80, _⟩ => ⟨S16384x8x128, .f32⟩
  | .hbm, ⟨81, _⟩ => ⟨S16384x8x128, .f32⟩
  | .hbm, ⟨82, _⟩ => ⟨S_, .f32⟩
  | .hbm, ⟨83, _⟩ => ⟨S16384x8, .f32⟩
  | .hbm, ⟨84, _⟩ => ⟨S8x16384, .f32⟩
  | .hbm, ⟨85, _⟩ => ⟨S8x32x1x512, .f32⟩
  | .hbm, ⟨86, _⟩ => ⟨S8x32x1x512, .f32⟩
  | .hbm, ⟨87, _⟩ => ⟨S16384x1024, .f32⟩
  | .hbm, ⟨88, _⟩ => ⟨S16384x1024, .f32⟩
  | .hbm, ⟨89, _⟩ => ⟨S16384x1024, .f32⟩
  | .local _ .vmem, ⟨0, _⟩ => ⟨S16384x128, .bf16⟩
  | .local _ .vmem, ⟨1, _⟩ => ⟨S16384x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S16384x128, .bf16⟩
  | .local _ .vmem, ⟨7, _⟩ => ⟨S16384x128, .bf16⟩
  | .local _ .vmem, ⟨8, _⟩ => ⟨S1x32x1x512, .f32⟩
  | .local _ .vmem, ⟨9, _⟩ => ⟨S1x32x1x512, .f32⟩
  | .local _ .vmem, ⟨10, _⟩ => ⟨S1x32x1x512, .f32⟩
  | .local _ .vmem, ⟨11, _⟩ => ⟨S1x32x1x512, .f32⟩
  | .local _ .vmem, ⟨12, _⟩ => ⟨S16384x128, .f32⟩
  | .local _ .vmem, ⟨13, _⟩ => ⟨S16384x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66_0 : Ref sig .tc := ⟨.hbm, 87, rfl⟩
abbrev main_v66_1 : Ref sig .tc := ⟨.hbm, 88, rfl⟩
abbrev main_v66_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_4 : Index := 0#32
  ![v8.toNat, 0]
def k0_off2 (i : grid0.Coords) : Fin 4 → Nat :=
  let c0_8 : Index := 0#32
  let arg1 : BitVec 32 := BitVec.ofNat 32 (i 1).val
  let v19 : Index := Scalar.indexCast arg1
  let c0_9 : Index := 0#32
  let c0_10 : Index := 0#32
  ![0, v19.toNat, 0, 0]
@[reducible] def k0_t1_loop (i : grid0.Coords) : Scf.Loop 32 :=
  let c0_i32_26 : BitVec 32 := 0#32
  let c32_i32 : BitVec 32 := 32#32
  let arg1 : BitVec 32 := BitVec.ofNat 32 (i 1).val
  let c1_i32 : BitVec 32 := 1#32
  let v45 : BitVec 32 := Scalar.addi arg1 c1_i32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_28 : BitVec 32 := 1#32
  ⟨c0_i32_26, v68, c1_i32_28⟩
def k0_mult2 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_72 : BitVec 32 := 8#32
  let c0_i32_26 : BitVec 32 := 0#32
  let c1_i32_28 : BitVec 32 := 1#32
  let arg11 : BitVec 32 := Scf.iv c0_i32_26 c1_i32_28 k0_t1
  let v156 : BitVec 32 := Scalar.muli c8_i32_72 arg11
  let v157 : BitVec 32 := Scalar.addi v45 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off3 (i : grid0.Coords) (k0_t1 : Fin (k0_t1_loop i).trips) (c0_i32_73 : BitVec 32) : Fin 2 → Nat :=
  let arg1 : BitVec 32 := BitVec.ofNat 32 (i 1).val
  let c1_i32 : BitVec 32 := 1#32
  let v45 : BitVec 32 := Scalar.addi arg1 c1_i32
  let c8_i32_72 : BitVec 32 := 8#32
  let c0_i32_26 : BitVec 32 := 0#32
  let c1_i32_28 : BitVec 32 := 1#32
  let arg11 : BitVec 32 := Scf.iv c0_i32_26 c1_i32_28 k0_t1
  let v156 : BitVec 32 := Scalar.muli c8_i32_72 arg11
  let v157 : BitVec 32 := Scalar.addi v45 v156
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off4 (i : grid0.Coords) (k0_t1 : Fin (k0_t1_loop i).trips) (c0_i32_73 : BitVec 32) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_72 : BitVec 32 := 8#32
  let c0_i32_26 : BitVec 32 := 0#32
  let c1_i32_28 : BitVec 32 := 1#32
  let arg11 : BitVec 32 := Scf.iv c0_i32_26 c1_i32_28 k0_t1
  let v156 : BitVec 32 := Scalar.muli c8_i32_72 arg11
  let v157 : BitVec 32 := Scalar.addi v45 v156
  let v158 : BitVec 32 := Scalar.addi v157 c0_i32_73
  let v167 : Index := Scalar.indexCast v158
  let c0_79 : Index := 0#32
  let c0_80 : Index := 0#32
  ![0, v167.toNat, 0, 0]
def k0_mult3 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_90 : BitVec 32 := 8#32
  let c0_i32_26 : BitVec 32 := 0#32
  let c1_i32_28 : BitVec 32 := 1#32
  let arg11 : BitVec 32 := Scf.iv c0_i32_26 c1_i32_28 k0_t1
  let v193 : BitVec 32 := Scalar.muli c8_i32_90 arg11
  let v194 : BitVec 32 := Scalar.addi v45 v193
  let c1_i32_91 : BitVec 32 := 1#32
  let v195 : BitVec 32 := Scalar.addi v194 c1_i32_91
  let c512_i32_92 : BitVec 32 := 512#32
  let v196 : BitVec 32 := Scalar.muli v195 c512_i32_92
  v196
def k0_mult4 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_108 : BitVec 32 := 8#32
  let c0_i32_26 : BitVec 32 := 0#32
  let c1_i32_28 : BitVec 32 := 1#32
  let arg11 : BitVec 32 := Scf.iv c0_i32_26 c1_i32_28 k0_t1
  let v230 : BitVec 32 := Scalar.muli c8_i32_108 arg11
  let v231 : BitVec 32 := Scalar.addi v45 v230
  let c2_i32_109 : BitVec 32 := 2#32
  let v232 : BitVec 32 := Scalar.addi v231 c2_i32_109
  let c512_i32_110 : BitVec 32 := 512#32
  let v233 : BitVec 32 := Scalar.muli v232 c512_i32_110
  v233
def k0_mult5 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_126 : BitVec 32 := 8#32
  let c0_i32_26 : BitVec 32 := 0#32
  let c1_i32_28 : BitVec 32 := 1#32
  let arg11 : BitVec 32 := Scf.iv c0_i32_26 c1_i32_28 k0_t1
  let v267 : BitVec 32 := Scalar.muli c8_i32_126 arg11
  let v268 : BitVec 32 := Scalar.addi v45 v267
  let c3_i32 : BitVec 32 := 3#32
  let v269 : BitVec 32 := Scalar.addi v268 c3_i32
  let c512_i32_127 : BitVec 32 := 512#32
  let v270 : BitVec 32 := Scalar.muli v269 c512_i32_127
  v270
def k0_mult6 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_143 : BitVec 32 := 8#32
  let c0_i32_26 : BitVec 32 := 0#32
  let c1_i32_28 : BitVec 32 := 1#32
  let arg11 : BitVec 32 := Scf.iv c0_i32_26 c1_i32_28 k0_t1
  let v304 : BitVec 32 := Scalar.muli c8_i32_143 arg11
  let v305 : BitVec 32 := Scalar.addi v45 v304
  let c4_i32_144 : BitVec 32 := 4#32
  let v306 : BitVec 32 := Scalar.addi v305 c4_i32_144
  let c512_i32_145 : BitVec 32 := 512#32
  let v307 : BitVec 32 := Scalar.muli v306 c512_i32_145
  v307
def k0_mult7 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_161 : BitVec 32 := 8#32
  let c0_i32_26 : BitVec 32 := 0#32
  let c1_i32_28 : BitVec 32 := 1#32
  let arg11 : BitVec 32 := Scf.iv c0_i32_26 c1_i32_28 k0_t1
  let v341 : BitVec 32 := Scalar.muli c8_i32_161 arg11
  let v342 : BitVec 32 := Scalar.addi v45 v341
  let c5_i32 : BitVec 32 := 5#32
  let v343 : BitVec 32 := Scalar.addi v342 c5_i32
  let c512_i32_162 : BitVec 32 := 512#32
  let v344 : BitVec 32 := Scalar.muli v343 c512_i32_162
  v344
def k0_mult8 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_178 : BitVec 32 := 8#32
  let c0_i32_26 : BitVec 32 := 0#32
  let c1_i32_28 : BitVec 32 := 1#32
  let arg11 : BitVec 32 := Scf.iv c0_i32_26 c1_i32_28 k0_t1
  let v378 : BitVec 32 := Scalar.muli c8_i32_178 arg11
  let v379 : BitVec 32 := Scalar.addi v45 v378
  let c6_i32 : BitVec 32 := 6#32
  let v380 : BitVec 32 := Scalar.addi v379 c6_i32
  let c512_i32_179 : BitVec 32 := 512#32
  let v381 : BitVec 32 := Scalar.muli v380 c512_i32_179
  v381
def k0_mult9 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c8_i32_195 : BitVec 32 := 8#32
  let c0_i32_26 : BitVec 32 := 0#32
  let c1_i32_28 : BitVec 32 := 1#32
  let arg11 : BitVec 32 := Scf.iv c0_i32_26 c1_i32_28 k0_t1
  let v415 : BitVec 32 := Scalar.muli c8_i32_195 arg11
  let v416 : BitVec 32 := Scalar.addi v45 v415
  let c7_i32 : BitVec 32 := 7#32
  let v417 : BitVec 32 := Scalar.addi v416 c7_i32
  let c512_i32_196 : BitVec 32 := 512#32
  let v418 : BitVec 32 := Scalar.muli v417 c512_i32_196
  v418
@[reducible] def k0_t2_loop (i : grid0.Coords) : Scf.Loop 32 :=
  let c0_i32_26 : BitVec 32 := 0#32
  let c32_i32 : BitVec 32 := 32#32
  let arg1 : BitVec 32 := BitVec.ofNat 32 (i 1).val
  let c1_i32 : BitVec 32 := 1#32
  let v45 : BitVec 32 := Scalar.addi arg1 c1_i32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let v65 : BitVec 32 := Scalar.addi c0_i32_26 v64
  let c1_i32_29 : BitVec 32 := 1#32
  ⟨v68, v65, c1_i32_29⟩
def k0_mult10 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_72 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v156 : BitVec 32 := Scalar.muli c8_i32_72 arg11
  let v157 : BitVec 32 := Scalar.addi v45 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off5 (i : grid0.Coords) (k0_t2 : Fin (k0_t2_loop i).trips) (c0_i32_73 : BitVec 32) : Fin 2 → Nat :=
  let arg1 : BitVec 32 := BitVec.ofNat 32 (i 1).val
  let c1_i32 : BitVec 32 := 1#32
  let v45 : BitVec 32 := Scalar.addi arg1 c1_i32
  let c8_i32_72 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v156 : BitVec 32 := Scalar.muli c8_i32_72 arg11
  let v157 : BitVec 32 := Scalar.addi v45 v156
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off6 (i : grid0.Coords) (k0_t2 : Fin (k0_t2_loop i).trips) (c0_i32_73 : BitVec 32) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_72 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v156 : BitVec 32 := Scalar.muli c8_i32_72 arg11
  let v157 : BitVec 32 := Scalar.addi v45 v156
  let v158 : BitVec 32 := Scalar.addi v157 c0_i32_73
  let v167 : Index := Scalar.indexCast v158
  let c0_79 : Index := 0#32
  let c0_80 : Index := 0#32
  ![0, v167.toNat, 0, 0]
def k0_mult11 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_90 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v193 : BitVec 32 := Scalar.muli c8_i32_90 arg11
  let v194 : BitVec 32 := Scalar.addi v45 v193
  let c1_i32_91 : BitVec 32 := 1#32
  let v195 : BitVec 32 := Scalar.addi v194 c1_i32_91
  let c512_i32_92 : BitVec 32 := 512#32
  let v196 : BitVec 32 := Scalar.muli v195 c512_i32_92
  v196
def k0_mult12 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_108 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v230 : BitVec 32 := Scalar.muli c8_i32_108 arg11
  let v231 : BitVec 32 := Scalar.addi v45 v230
  let c2_i32_109 : BitVec 32 := 2#32
  let v232 : BitVec 32 := Scalar.addi v231 c2_i32_109
  let c512_i32_110 : BitVec 32 := 512#32
  let v233 : BitVec 32 := Scalar.muli v232 c512_i32_110
  v233
def k0_mult13 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_126 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v267 : BitVec 32 := Scalar.muli c8_i32_126 arg11
  let v268 : BitVec 32 := Scalar.addi v45 v267
  let c3_i32 : BitVec 32 := 3#32
  let v269 : BitVec 32 := Scalar.addi v268 c3_i32
  let c512_i32_127 : BitVec 32 := 512#32
  let v270 : BitVec 32 := Scalar.muli v269 c512_i32_127
  v270
def k0_mult14 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_143 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v304 : BitVec 32 := Scalar.muli c8_i32_143 arg11
  let v305 : BitVec 32 := Scalar.addi v45 v304
  let c4_i32_144 : BitVec 32 := 4#32
  let v306 : BitVec 32 := Scalar.addi v305 c4_i32_144
  let c512_i32_145 : BitVec 32 := 512#32
  let v307 : BitVec 32 := Scalar.muli v306 c512_i32_145
  v307
def k0_mult15 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_161 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v341 : BitVec 32 := Scalar.muli c8_i32_161 arg11
  let v342 : BitVec 32 := Scalar.addi v45 v341
  let c5_i32 : BitVec 32 := 5#32
  let v343 : BitVec 32 := Scalar.addi v342 c5_i32
  let c512_i32_162 : BitVec 32 := 512#32
  let v344 : BitVec 32 := Scalar.muli v343 c512_i32_162
  v344
def k0_mult16 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_178 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v378 : BitVec 32 := Scalar.muli c8_i32_178 arg11
  let v379 : BitVec 32 := Scalar.addi v45 v378
  let c6_i32 : BitVec 32 := 6#32
  let v380 : BitVec 32 := Scalar.addi v379 c6_i32
  let c512_i32_179 : BitVec 32 := 512#32
  let v381 : BitVec 32 := Scalar.muli v380 c512_i32_179
  v381
def k0_mult17 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32_195 : BitVec 32 := 8#32
  let c0_i32_26 : BitVec 32 := 0#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg11 : BitVec 32 := Scf.iv v68 c1_i32_29 k0_t2
  let v415 : BitVec 32 := Scalar.muli c8_i32_195 arg11
  let v416 : BitVec 32 := Scalar.addi v45 v415
  let c7_i32 : BitVec 32 := 7#32
  let v417 : BitVec 32 := Scalar.addi v416 c7_i32
  let c512_i32_196 : BitVec 32 := 512#32
  let v418 : BitVec 32 := Scalar.muli v417 c512_i32_196
  v418
@[reducible] def k0_t3_loop (i : grid0.Coords) : Scf.Loop 32 :=
  let c0_i32_38 : BitVec 32 := 0#32
  let c32_i32_31 : BitVec 32 := 32#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_40 : BitVec 32 := 1#32
  ⟨c0_i32_38, v95, c1_i32_40⟩
def k0_mult18 (i : grid0.Coords) (k0_t3 : Fin (k0_t3_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_72 : BitVec 32 := 4#32
  let c0_i32_38 : BitVec 32 := 0#32
  let c1_i32_40 : BitVec 32 := 1#32
  let arg11 : BitVec 32 := Scf.iv c0_i32_38 c1_i32_40 k0_t3
  let v156 : BitVec 32 := Scalar.muli c4_i32_72 arg11
  let v157 : BitVec 32 := Scalar.addi v72 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off7 (i : grid0.Coords) (k0_t3 : Fin (k0_t3_loop i).trips) (c0_i32_73 : BitVec 32) : Fin 2 → Nat :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_72 : BitVec 32 := 4#32
  let c0_i32_38 : BitVec 32 := 0#32
  let c1_i32_40 : BitVec 32 := 1#32
  let arg11 : BitVec 32 := Scf.iv c0_i32_38 c1_i32_40 k0_t3
  let v156 : BitVec 32 := Scalar.muli c4_i32_72 arg11
  let v157 : BitVec 32 := Scalar.addi v72 v156
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off8 (i : grid0.Coords) (k0_t3 : Fin (k0_t3_loop i).trips) (c0_i32_73 : BitVec 32) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_72 : BitVec 32 := 4#32
  let c0_i32_38 : BitVec 32 := 0#32
  let c1_i32_40 : BitVec 32 := 1#32
  let arg11 : BitVec 32 := Scf.iv c0_i32_38 c1_i32_40 k0_t3
  let v156 : BitVec 32 := Scalar.muli c4_i32_72 arg11
  let v157 : BitVec 32 := Scalar.addi v72 v156
  let v158 : BitVec 32 := Scalar.addi v157 c0_i32_73
  let v167 : Index := Scalar.indexCast v158
  let c0_79 : Index := 0#32
  let c0_80 : Index := 0#32
  ![0, v167.toNat, 0, 0]
def k0_mult19 (i : grid0.Coords) (k0_t3 : Fin (k0_t3_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_90 : BitVec 32 := 4#32
  let c0_i32_38 : BitVec 32 := 0#32
  let c1_i32_40 : BitVec 32 := 1#32
  let arg11 : BitVec 32 := Scf.iv c0_i32_38 c1_i32_40 k0_t3
  let v193 : BitVec 32 := Scalar.muli c4_i32_90 arg11
  let v194 : BitVec 32 := Scalar.addi v72 v193
  let c1_i32_91 : BitVec 32 := 1#32
  let v195 : BitVec 32 := Scalar.addi v194 c1_i32_91
  let c512_i32_92 : BitVec 32 := 512#32
  let v196 : BitVec 32 := Scalar.muli v195 c512_i32_92
  v196
def k0_mult20 (i : grid0.Coords) (k0_t3 : Fin (k0_t3_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_108 : BitVec 32 := 4#32
  let c0_i32_38 : BitVec 32 := 0#32
  let c1_i32_40 : BitVec 32 := 1#32
  let arg11 : BitVec 32 := Scf.iv c0_i32_38 c1_i32_40 k0_t3
  let v230 : BitVec 32 := Scalar.muli c4_i32_108 arg11
  let v231 : BitVec 32 := Scalar.addi v72 v230
  let c2_i32_109 : BitVec 32 := 2#32
  let v232 : BitVec 32 := Scalar.addi v231 c2_i32_109
  let c512_i32_110 : BitVec 32 := 512#32
  let v233 : BitVec 32 := Scalar.muli v232 c512_i32_110
  v233
def k0_mult21 (i : grid0.Coords) (k0_t3 : Fin (k0_t3_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_126 : BitVec 32 := 4#32
  let c0_i32_38 : BitVec 32 := 0#32
  let c1_i32_40 : BitVec 32 := 1#32
  let arg11 : BitVec 32 := Scf.iv c0_i32_38 c1_i32_40 k0_t3
  let v267 : BitVec 32 := Scalar.muli c4_i32_126 arg11
  let v268 : BitVec 32 := Scalar.addi v72 v267
  let c3_i32 : BitVec 32 := 3#32
  let v269 : BitVec 32 := Scalar.addi v268 c3_i32
  let c512_i32_127 : BitVec 32 := 512#32
  let v270 : BitVec 32 := Scalar.muli v269 c512_i32_127
  v270
@[reducible] def k0_t4_loop (i : grid0.Coords) : Scf.Loop 32 :=
  let c0_i32_38 : BitVec 32 := 0#32
  let c32_i32_31 : BitVec 32 := 32#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let v92 : BitVec 32 := Scalar.addi c0_i32_38 v91
  let c1_i32_41 : BitVec 32 := 1#32
  ⟨v95, v92, c1_i32_41⟩
def k0_mult22 (i : grid0.Coords) (k0_t4 : Fin (k0_t4_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_72 : BitVec 32 := 4#32
  let c0_i32_38 : BitVec 32 := 0#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg11 : BitVec 32 := Scf.iv v95 c1_i32_41 k0_t4
  let v156 : BitVec 32 := Scalar.muli c4_i32_72 arg11
  let v157 : BitVec 32 := Scalar.addi v72 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off9 (i : grid0.Coords) (k0_t4 : Fin (k0_t4_loop i).trips) (c0_i32_73 : BitVec 32) : Fin 2 → Nat :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_72 : BitVec 32 := 4#32
  let c0_i32_38 : BitVec 32 := 0#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg11 : BitVec 32 := Scf.iv v95 c1_i32_41 k0_t4
  let v156 : BitVec 32 := Scalar.muli c4_i32_72 arg11
  let v157 : BitVec 32 := Scalar.addi v72 v156
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off10 (i : grid0.Coords) (k0_t4 : Fin (k0_t4_loop i).trips) (c0_i32_73 : BitVec 32) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_72 : BitVec 32 := 4#32
  let c0_i32_38 : BitVec 32 := 0#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg11 : BitVec 32 := Scf.iv v95 c1_i32_41 k0_t4
  let v156 : BitVec 32 := Scalar.muli c4_i32_72 arg11
  let v157 : BitVec 32 := Scalar.addi v72 v156
  let v158 : BitVec 32 := Scalar.addi v157 c0_i32_73
  let v167 : Index := Scalar.indexCast v158
  let c0_79 : Index := 0#32
  let c0_80 : Index := 0#32
  ![0, v167.toNat, 0, 0]
def k0_mult23 (i : grid0.Coords) (k0_t4 : Fin (k0_t4_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_90 : BitVec 32 := 4#32
  let c0_i32_38 : BitVec 32 := 0#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg11 : BitVec 32 := Scf.iv v95 c1_i32_41 k0_t4
  let v193 : BitVec 32 := Scalar.muli c4_i32_90 arg11
  let v194 : BitVec 32 := Scalar.addi v72 v193
  let c1_i32_91 : BitVec 32 := 1#32
  let v195 : BitVec 32 := Scalar.addi v194 c1_i32_91
  let c512_i32_92 : BitVec 32 := 512#32
  let v196 : BitVec 32 := Scalar.muli v195 c512_i32_92
  v196
def k0_mult24 (i : grid0.Coords) (k0_t4 : Fin (k0_t4_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_108 : BitVec 32 := 4#32
  let c0_i32_38 : BitVec 32 := 0#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg11 : BitVec 32 := Scf.iv v95 c1_i32_41 k0_t4
  let v230 : BitVec 32 := Scalar.muli c4_i32_108 arg11
  let v231 : BitVec 32 := Scalar.addi v72 v230
  let c2_i32_109 : BitVec 32 := 2#32
  let v232 : BitVec 32 := Scalar.addi v231 c2_i32_109
  let c512_i32_110 : BitVec 32 := 512#32
  let v233 : BitVec 32 := Scalar.muli v232 c512_i32_110
  v233
def k0_mult25 (i : grid0.Coords) (k0_t4 : Fin (k0_t4_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_126 : BitVec 32 := 4#32
  let c0_i32_38 : BitVec 32 := 0#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v91 : BitVec 32 := Scalar.subi v90 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg11 : BitVec 32 := Scf.iv v95 c1_i32_41 k0_t4
  let v267 : BitVec 32 := Scalar.muli c4_i32_126 arg11
  let v268 : BitVec 32 := Scalar.addi v72 v267
  let c3_i32 : BitVec 32 := 3#32
  let v269 : BitVec 32 := Scalar.addi v268 c3_i32
  let c512_i32_127 : BitVec 32 := 512#32
  let v270 : BitVec 32 := Scalar.muli v269 c512_i32_127
  v270
@[reducible] def k0_t5_loop (i : grid0.Coords) : Scf.Loop 32 :=
  let c0_i32_50 : BitVec 32 := 0#32
  let c32_i32_43 : BitVec 32 := 32#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v118 : BitVec 32 := Scalar.subi v117 c0_i32_50
  let c1_i32_51 : BitVec 32 := 1#32
  let v120 : BitVec 32 := Scalar.divsi v118 c1_i32_51
  let v121 : BitVec 32 := Scalar.muli v120 c1_i32_51
  let v122 : BitVec 32 := Scalar.addi c0_i32_50 v121
  let c1_i32_52 : BitVec 32 := 1#32
  ⟨c0_i32_50, v122, c1_i32_52⟩
def k0_mult26 (i : grid0.Coords) (k0_t5 : Fin (k0_t5_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_72 : BitVec 32 := 2#32
  let c0_i32_50 : BitVec 32 := 0#32
  let c1_i32_52 : BitVec 32 := 1#32
  let arg11 : BitVec 32 := Scf.iv c0_i32_50 c1_i32_52 k0_t5
  let v156 : BitVec 32 := Scalar.muli c2_i32_72 arg11
  let v157 : BitVec 32 := Scalar.addi v99 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off11 (i : grid0.Coords) (k0_t5 : Fin (k0_t5_loop i).trips) (c0_i32_73 : BitVec 32) : Fin 2 → Nat :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_72 : BitVec 32 := 2#32
  let c0_i32_50 : BitVec 32 := 0#32
  let c1_i32_52 : BitVec 32 := 1#32
  let arg11 : BitVec 32 := Scf.iv c0_i32_50 c1_i32_52 k0_t5
  let v156 : BitVec 32 := Scalar.muli c2_i32_72 arg11
  let v157 : BitVec 32 := Scalar.addi v99 v156
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off12 (i : grid0.Coords) (k0_t5 : Fin (k0_t5_loop i).trips) (c0_i32_73 : BitVec 32) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_72 : BitVec 32 := 2#32
  let c0_i32_50 : BitVec 32 := 0#32
  let c1_i32_52 : BitVec 32 := 1#32
  let arg11 : BitVec 32 := Scf.iv c0_i32_50 c1_i32_52 k0_t5
  let v156 : BitVec 32 := Scalar.muli c2_i32_72 arg11
  let v157 : BitVec 32 := Scalar.addi v99 v156
  let v158 : BitVec 32 := Scalar.addi v157 c0_i32_73
  let v167 : Index := Scalar.indexCast v158
  let c0_79 : Index := 0#32
  let c0_80 : Index := 0#32
  ![0, v167.toNat, 0, 0]
def k0_mult27 (i : grid0.Coords) (k0_t5 : Fin (k0_t5_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_90 : BitVec 32 := 2#32
  let c0_i32_50 : BitVec 32 := 0#32
  let c1_i32_52 : BitVec 32 := 1#32
  let arg11 : BitVec 32 := Scf.iv c0_i32_50 c1_i32_52 k0_t5
  let v193 : BitVec 32 := Scalar.muli c2_i32_90 arg11
  let v194 : BitVec 32 := Scalar.addi v99 v193
  let c1_i32_91 : BitVec 32 := 1#32
  let v195 : BitVec 32 := Scalar.addi v194 c1_i32_91
  let c512_i32_92 : BitVec 32 := 512#32
  let v196 : BitVec 32 := Scalar.muli v195 c512_i32_92
  v196
@[reducible] def k0_t6_loop (i : grid0.Coords) : Scf.Loop 32 :=
  let c0_i32_50 : BitVec 32 := 0#32
  let c32_i32_43 : BitVec 32 := 32#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v118 : BitVec 32 := Scalar.subi v117 c0_i32_50
  let c1_i32_51 : BitVec 32 := 1#32
  let v120 : BitVec 32 := Scalar.divsi v118 c1_i32_51
  let v121 : BitVec 32 := Scalar.muli v120 c1_i32_51
  let v122 : BitVec 32 := Scalar.addi c0_i32_50 v121
  let v119 : BitVec 32 := Scalar.addi c0_i32_50 v118
  let c1_i32_53 : BitVec 32 := 1#32
  ⟨v122, v119, c1_i32_53⟩
def k0_mult28 (i : grid0.Coords) (k0_t6 : Fin (k0_t6_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_72 : BitVec 32 := 2#32
  let c0_i32_50 : BitVec 32 := 0#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v118 : BitVec 32 := Scalar.subi v117 c0_i32_50
  let c1_i32_51 : BitVec 32 := 1#32
  let v120 : BitVec 32 := Scalar.divsi v118 c1_i32_51
  let v121 : BitVec 32 := Scalar.muli v120 c1_i32_51
  let v122 : BitVec 32 := Scalar.addi c0_i32_50 v121
  let c1_i32_53 : BitVec 32 := 1#32
  let arg11 : BitVec 32 := Scf.iv v122 c1_i32_53 k0_t6
  let v156 : BitVec 32 := Scalar.muli c2_i32_72 arg11
  let v157 : BitVec 32 := Scalar.addi v99 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off13 (i : grid0.Coords) (k0_t6 : Fin (k0_t6_loop i).trips) (c0_i32_73 : BitVec 32) : Fin 2 → Nat :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_72 : BitVec 32 := 2#32
  let c0_i32_50 : BitVec 32 := 0#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v118 : BitVec 32 := Scalar.subi v117 c0_i32_50
  let c1_i32_51 : BitVec 32 := 1#32
  let v120 : BitVec 32 := Scalar.divsi v118 c1_i32_51
  let v121 : BitVec 32 := Scalar.muli v120 c1_i32_51
  let v122 : BitVec 32 := Scalar.addi c0_i32_50 v121
  let c1_i32_53 : BitVec 32 := 1#32
  let arg11 : BitVec 32 := Scf.iv v122 c1_i32_53 k0_t6
  let v156 : BitVec 32 := Scalar.muli c2_i32_72 arg11
  let v157 : BitVec 32 := Scalar.addi v99 v156
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off14 (i : grid0.Coords) (k0_t6 : Fin (k0_t6_loop i).trips) (c0_i32_73 : BitVec 32) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_72 : BitVec 32 := 2#32
  let c0_i32_50 : BitVec 32 := 0#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v118 : BitVec 32 := Scalar.subi v117 c0_i32_50
  let c1_i32_51 : BitVec 32 := 1#32
  let v120 : BitVec 32 := Scalar.divsi v118 c1_i32_51
  let v121 : BitVec 32 := Scalar.muli v120 c1_i32_51
  let v122 : BitVec 32 := Scalar.addi c0_i32_50 v121
  let c1_i32_53 : BitVec 32 := 1#32
  let arg11 : BitVec 32 := Scf.iv v122 c1_i32_53 k0_t6
  let v156 : BitVec 32 := Scalar.muli c2_i32_72 arg11
  let v157 : BitVec 32 := Scalar.addi v99 v156
  let v158 : BitVec 32 := Scalar.addi v157 c0_i32_73
  let v167 : Index := Scalar.indexCast v158
  let c0_79 : Index := 0#32
  let c0_80 : Index := 0#32
  ![0, v167.toNat, 0, 0]
def k0_mult29 (i : grid0.Coords) (k0_t6 : Fin (k0_t6_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_90 : BitVec 32 := 2#32
  let c0_i32_50 : BitVec 32 := 0#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v118 : BitVec 32 := Scalar.subi v117 c0_i32_50
  let c1_i32_51 : BitVec 32 := 1#32
  let v120 : BitVec 32 := Scalar.divsi v118 c1_i32_51
  let v121 : BitVec 32 := Scalar.muli v120 c1_i32_51
  let v122 : BitVec 32 := Scalar.addi c0_i32_50 v121
  let c1_i32_53 : BitVec 32 := 1#32
  let arg11 : BitVec 32 := Scf.iv v122 c1_i32_53 k0_t6
  let v193 : BitVec 32 := Scalar.muli c2_i32_90 arg11
  let v194 : BitVec 32 := Scalar.addi v99 v193
  let c1_i32_91 : BitVec 32 := 1#32
  let v195 : BitVec 32 := Scalar.addi v194 c1_i32_91
  let c512_i32_92 : BitVec 32 := 512#32
  let v196 : BitVec 32 := Scalar.muli v195 c512_i32_92
  v196
@[reducible] def k0_t7_loop (i : grid0.Coords) : Scf.Loop 32 :=
  let c0_i32_63 : BitVec 32 := 0#32
  let c32_i32_55 : BitVec 32 := 32#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let v127 : BitVec 32 := Scalar.subi c32_i32_55 v126
  let c0_i32_57 : BitVec 32 := 0#32
  let v129 : BitVec 1 := Scalar.cmpi .sgt v127 c0_i32_57
  let v130 : BitVec 32 := Scalar.extui v129
  let c0_i32_58 : BitVec 32 := 0#32
  let v131 : BitVec 1 := Scalar.cmpi .slt v127 c0_i32_58
  let v132 : BitVec 32 := Scalar.extui v131
  let v133 : BitVec 32 := Scalar.subi v130 v132
  let c1_i32_56 : BitVec 32 := 1#32
  let c0_i32_59 : BitVec 32 := 0#32
  let v134 : BitVec 1 := Scalar.cmpi .sgt c1_i32_56 c0_i32_59
  let v135 : BitVec 32 := Scalar.extui v134
  let c0_i32_60 : BitVec 32 := 0#32
  let v136 : BitVec 1 := Scalar.cmpi .slt c1_i32_56 c0_i32_60
  let v137 : BitVec 32 := Scalar.extui v136
  let v138 : BitVec 32 := Scalar.subi v135 v137
  let v139 : BitVec 1 := Scalar.cmpi .ne v133 v138
  let v140 : BitVec 32 := Scalar.remsi v127 c1_i32_56
  let c0_i32_61 : BitVec 32 := 0#32
  let v141 : BitVec 1 := Scalar.cmpi .ne v140 c0_i32_61
  let v142 : BitVec 1 := Scalar.andi v139 v141
  let v128 : BitVec 32 := Scalar.divsi v127 c1_i32_56
  let c1_i32_62 : BitVec 32 := 1#32
  let v143 : BitVec 32 := Scalar.subi v128 c1_i32_62
  let v144 : BitVec 32 := Scalar.select v142 v143 v128
  let v145 : BitVec 32 := Scalar.subi v144 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_65 : BitVec 32 := 1#32
  ⟨c0_i32_63, v149, c1_i32_65⟩
def k0_mult30 (i : grid0.Coords) (k0_t7 : Fin (k0_t7_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let c1_i32_72 : BitVec 32 := 1#32
  let c0_i32_63 : BitVec 32 := 0#32
  let c1_i32_65 : BitVec 32 := 1#32
  let arg11 : BitVec 32 := Scf.iv c0_i32_63 c1_i32_65 k0_t7
  let v156 : BitVec 32 := Scalar.muli c1_i32_72 arg11
  let v157 : BitVec 32 := Scalar.addi v126 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off15 (i : grid0.Coords) (k0_t7 : Fin (k0_t7_loop i).trips) : Fin 2 → Nat :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let c1_i32_72 : BitVec 32 := 1#32
  let c0_i32_63 : BitVec 32 := 0#32
  let c1_i32_65 : BitVec 32 := 1#32
  let arg11 : BitVec 32 := Scf.iv c0_i32_63 c1_i32_65 k0_t7
  let v156 : BitVec 32 := Scalar.muli c1_i32_72 arg11
  let v157 : BitVec 32 := Scalar.addi v126 v156
  let c0_i32_73 : BitVec 32 := 0#32
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off16 (i : grid0.Coords) (k0_t7 : Fin (k0_t7_loop i).trips) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let c1_i32_72 : BitVec 32 := 1#32
  let c0_i32_63 : BitVec 32 := 0#32
  let c1_i32_65 : BitVec 32 := 1#32
  let arg11 : BitVec 32 := Scf.iv c0_i32_63 c1_i32_65 k0_t7
  let v156 : BitVec 32 := Scalar.muli c1_i32_72 arg11
  let v157 : BitVec 32 := Scalar.addi v126 v156
  let c0_i32_73 : BitVec 32 := 0#32
  let v158 : BitVec 32 := Scalar.addi v157 c0_i32_73
  let v167 : Index := Scalar.indexCast v158
  let c0_79 : Index := 0#32
  let c0_80 : Index := 0#32
  ![0, v167.toNat, 0, 0]
@[reducible] def k0_t8_loop (i : grid0.Coords) : Scf.Loop 32 :=
  let c0_i32_63 : BitVec 32 := 0#32
  let c32_i32_55 : BitVec 32 := 32#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let v127 : BitVec 32 := Scalar.subi c32_i32_55 v126
  let c0_i32_57 : BitVec 32 := 0#32
  let v129 : BitVec 1 := Scalar.cmpi .sgt v127 c0_i32_57
  let v130 : BitVec 32 := Scalar.extui v129
  let c0_i32_58 : BitVec 32 := 0#32
  let v131 : BitVec 1 := Scalar.cmpi .slt v127 c0_i32_58
  let v132 : BitVec 32 := Scalar.extui v131
  let v133 : BitVec 32 := Scalar.subi v130 v132
  let c1_i32_56 : BitVec 32 := 1#32
  let c0_i32_59 : BitVec 32 := 0#32
  let v134 : BitVec 1 := Scalar.cmpi .sgt c1_i32_56 c0_i32_59
  let v135 : BitVec 32 := Scalar.extui v134
  let c0_i32_60 : BitVec 32 := 0#32
  let v136 : BitVec 1 := Scalar.cmpi .slt c1_i32_56 c0_i32_60
  let v137 : BitVec 32 := Scalar.extui v136
  let v138 : BitVec 32 := Scalar.subi v135 v137
  let v139 : BitVec 1 := Scalar.cmpi .ne v133 v138
  let v140 : BitVec 32 := Scalar.remsi v127 c1_i32_56
  let c0_i32_61 : BitVec 32 := 0#32
  let v141 : BitVec 1 := Scalar.cmpi .ne v140 c0_i32_61
  let v142 : BitVec 1 := Scalar.andi v139 v141
  let v128 : BitVec 32 := Scalar.divsi v127 c1_i32_56
  let c1_i32_62 : BitVec 32 := 1#32
  let v143 : BitVec 32 := Scalar.subi v128 c1_i32_62
  let v144 : BitVec 32 := Scalar.select v142 v143 v128
  let v145 : BitVec 32 := Scalar.subi v144 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let v146 : BitVec 32 := Scalar.addi c0_i32_63 v145
  let c1_i32_66 : BitVec 32 := 1#32
  ⟨v149, v146, c1_i32_66⟩
def k0_mult31 (i : grid0.Coords) (k0_t8 : Fin (k0_t8_loop i).trips) : BitVec 32 :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let c1_i32_72 : BitVec 32 := 1#32
  let c0_i32_63 : BitVec 32 := 0#32
  let c32_i32_55 : BitVec 32 := 32#32
  let v127 : BitVec 32 := Scalar.subi c32_i32_55 v126
  let c0_i32_57 : BitVec 32 := 0#32
  let v129 : BitVec 1 := Scalar.cmpi .sgt v127 c0_i32_57
  let v130 : BitVec 32 := Scalar.extui v129
  let c0_i32_58 : BitVec 32 := 0#32
  let v131 : BitVec 1 := Scalar.cmpi .slt v127 c0_i32_58
  let v132 : BitVec 32 := Scalar.extui v131
  let v133 : BitVec 32 := Scalar.subi v130 v132
  let c1_i32_56 : BitVec 32 := 1#32
  let c0_i32_59 : BitVec 32 := 0#32
  let v134 : BitVec 1 := Scalar.cmpi .sgt c1_i32_56 c0_i32_59
  let v135 : BitVec 32 := Scalar.extui v134
  let c0_i32_60 : BitVec 32 := 0#32
  let v136 : BitVec 1 := Scalar.cmpi .slt c1_i32_56 c0_i32_60
  let v137 : BitVec 32 := Scalar.extui v136
  let v138 : BitVec 32 := Scalar.subi v135 v137
  let v139 : BitVec 1 := Scalar.cmpi .ne v133 v138
  let v140 : BitVec 32 := Scalar.remsi v127 c1_i32_56
  let c0_i32_61 : BitVec 32 := 0#32
  let v141 : BitVec 1 := Scalar.cmpi .ne v140 c0_i32_61
  let v142 : BitVec 1 := Scalar.andi v139 v141
  let v128 : BitVec 32 := Scalar.divsi v127 c1_i32_56
  let c1_i32_62 : BitVec 32 := 1#32
  let v143 : BitVec 32 := Scalar.subi v128 c1_i32_62
  let v144 : BitVec 32 := Scalar.select v142 v143 v128
  let v145 : BitVec 32 := Scalar.subi v144 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_66 : BitVec 32 := 1#32
  let arg11 : BitVec 32 := Scf.iv v149 c1_i32_66 k0_t8
  let v156 : BitVec 32 := Scalar.muli c1_i32_72 arg11
  let v157 : BitVec 32 := Scalar.addi v126 v156
  let c0_i32_73 : BitVec 32 := 0#32
  let v158 : BitVec 32 := Scalar.addi v157 c0_i32_73
  let c512_i32_74 : BitVec 32 := 512#32
  let v159 : BitVec 32 := Scalar.muli v158 c512_i32_74
  v159
def k0_off17 (i : grid0.Coords) (k0_t8 : Fin (k0_t8_loop i).trips) : Fin 2 → Nat :=
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let c1_i32_72 : BitVec 32 := 1#32
  let c0_i32_63 : BitVec 32 := 0#32
  let c32_i32_55 : BitVec 32 := 32#32
  let v127 : BitVec 32 := Scalar.subi c32_i32_55 v126
  let c0_i32_57 : BitVec 32 := 0#32
  let v129 : BitVec 1 := Scalar.cmpi .sgt v127 c0_i32_57
  let v130 : BitVec 32 := Scalar.extui v129
  let c0_i32_58 : BitVec 32 := 0#32
  let v131 : BitVec 1 := Scalar.cmpi .slt v127 c0_i32_58
  let v132 : BitVec 32 := Scalar.extui v131
  let v133 : BitVec 32 := Scalar.subi v130 v132
  let c1_i32_56 : BitVec 32 := 1#32
  let c0_i32_59 : BitVec 32 := 0#32
  let v134 : BitVec 1 := Scalar.cmpi .sgt c1_i32_56 c0_i32_59
  let v135 : BitVec 32 := Scalar.extui v134
  let c0_i32_60 : BitVec 32 := 0#32
  let v136 : BitVec 1 := Scalar.cmpi .slt c1_i32_56 c0_i32_60
  let v137 : BitVec 32 := Scalar.extui v136
  let v138 : BitVec 32 := Scalar.subi v135 v137
  let v139 : BitVec 1 := Scalar.cmpi .ne v133 v138
  let v140 : BitVec 32 := Scalar.remsi v127 c1_i32_56
  let c0_i32_61 : BitVec 32 := 0#32
  let v141 : BitVec 1 := Scalar.cmpi .ne v140 c0_i32_61
  let v142 : BitVec 1 := Scalar.andi v139 v141
  let v128 : BitVec 32 := Scalar.divsi v127 c1_i32_56
  let c1_i32_62 : BitVec 32 := 1#32
  let v143 : BitVec 32 := Scalar.subi v128 c1_i32_62
  let v144 : BitVec 32 := Scalar.select v142 v143 v128
  let v145 : BitVec 32 := Scalar.subi v144 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_66 : BitVec 32 := 1#32
  let arg11 : BitVec 32 := Scf.iv v149 c1_i32_66 k0_t8
  let v156 : BitVec 32 := Scalar.muli c1_i32_72 arg11
  let v157 : BitVec 32 := Scalar.addi v126 v156
  let c0_i32_73 : BitVec 32 := 0#32
  let v158 : BitVec 32 := Scalar.addi v157 c0_i32_73
  let c512_i32_74 : BitVec 32 := 512#32
  let v159 : BitVec 32 := Scalar.muli v158 c512_i32_74
  let v160 : BitVec 32 := v159
  let v161 : Index := Scalar.indexCast v160
  let c0_75 : Index := 0#32
  ![v161.toNat, 0]
def k0_off18 (i : grid0.Coords) (k0_t8 : Fin (k0_t8_loop i).trips) : Fin 4 → Nat :=
  let c0_78 : Index := 0#32
  let arg1 : BitVec 32 := BitVec.ofNat 32 (i 1).val
  let c1_i32 : BitVec 32 := 1#32
  let v45 : BitVec 32 := Scalar.addi arg1 c1_i32
  let c8_i32_30 : BitVec 32 := 8#32
  let c32_i32 : BitVec 32 := 32#32
  let v46 : BitVec 32 := Scalar.subi c32_i32 v45
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c8_i32 : BitVec 32 := 8#32
  let c0_i32_22 : BitVec 32 := 0#32
  let v53 : BitVec 1 := Scalar.cmpi .sgt c8_i32 c0_i32_22
  let v54 : BitVec 32 := Scalar.extui v53
  let c0_i32_23 : BitVec 32 := 0#32
  let v55 : BitVec 1 := Scalar.cmpi .slt c8_i32 c0_i32_23
  let v56 : BitVec 32 := Scalar.extui v55
  let v57 : BitVec 32 := Scalar.subi v54 v56
  let v58 : BitVec 1 := Scalar.cmpi .ne v52 v57
  let v59 : BitVec 32 := Scalar.remsi v46 c8_i32
  let c0_i32_24 : BitVec 32 := 0#32
  let v60 : BitVec 1 := Scalar.cmpi .ne v59 c0_i32_24
  let v61 : BitVec 1 := Scalar.andi v58 v60
  let v47 : BitVec 32 := Scalar.divsi v46 c8_i32
  let c1_i32_25 : BitVec 32 := 1#32
  let v62 : BitVec 32 := Scalar.subi v47 c1_i32_25
  let v63 : BitVec 32 := Scalar.select v61 v62 v47
  let v71 : BitVec 32 := Scalar.muli c8_i32_30 v63
  let v72 : BitVec 32 := Scalar.addi v45 v71
  let c4_i32_42 : BitVec 32 := 4#32
  let c32_i32_31 : BitVec 32 := 32#32
  let v73 : BitVec 32 := Scalar.subi c32_i32_31 v72
  let c0_i32_32 : BitVec 32 := 0#32
  let v75 : BitVec 1 := Scalar.cmpi .sgt v73 c0_i32_32
  let v76 : BitVec 32 := Scalar.extui v75
  let c0_i32_33 : BitVec 32 := 0#32
  let v77 : BitVec 1 := Scalar.cmpi .slt v73 c0_i32_33
  let v78 : BitVec 32 := Scalar.extui v77
  let v79 : BitVec 32 := Scalar.subi v76 v78
  let c4_i32 : BitVec 32 := 4#32
  let c0_i32_34 : BitVec 32 := 0#32
  let v80 : BitVec 1 := Scalar.cmpi .sgt c4_i32 c0_i32_34
  let v81 : BitVec 32 := Scalar.extui v80
  let c0_i32_35 : BitVec 32 := 0#32
  let v82 : BitVec 1 := Scalar.cmpi .slt c4_i32 c0_i32_35
  let v83 : BitVec 32 := Scalar.extui v82
  let v84 : BitVec 32 := Scalar.subi v81 v83
  let v85 : BitVec 1 := Scalar.cmpi .ne v79 v84
  let v86 : BitVec 32 := Scalar.remsi v73 c4_i32
  let c0_i32_36 : BitVec 32 := 0#32
  let v87 : BitVec 1 := Scalar.cmpi .ne v86 c0_i32_36
  let v88 : BitVec 1 := Scalar.andi v85 v87
  let v74 : BitVec 32 := Scalar.divsi v73 c4_i32
  let c1_i32_37 : BitVec 32 := 1#32
  let v89 : BitVec 32 := Scalar.subi v74 c1_i32_37
  let v90 : BitVec 32 := Scalar.select v88 v89 v74
  let v98 : BitVec 32 := Scalar.muli c4_i32_42 v90
  let v99 : BitVec 32 := Scalar.addi v72 v98
  let c2_i32_54 : BitVec 32 := 2#32
  let c32_i32_43 : BitVec 32 := 32#32
  let v100 : BitVec 32 := Scalar.subi c32_i32_43 v99
  let c0_i32_44 : BitVec 32 := 0#32
  let v102 : BitVec 1 := Scalar.cmpi .sgt v100 c0_i32_44
  let v103 : BitVec 32 := Scalar.extui v102
  let c0_i32_45 : BitVec 32 := 0#32
  let v104 : BitVec 1 := Scalar.cmpi .slt v100 c0_i32_45
  let v105 : BitVec 32 := Scalar.extui v104
  let v106 : BitVec 32 := Scalar.subi v103 v105
  let c2_i32 : BitVec 32 := 2#32
  let c0_i32_46 : BitVec 32 := 0#32
  let v107 : BitVec 1 := Scalar.cmpi .sgt c2_i32 c0_i32_46
  let v108 : BitVec 32 := Scalar.extui v107
  let c0_i32_47 : BitVec 32 := 0#32
  let v109 : BitVec 1 := Scalar.cmpi .slt c2_i32 c0_i32_47
  let v110 : BitVec 32 := Scalar.extui v109
  let v111 : BitVec 32 := Scalar.subi v108 v110
  let v112 : BitVec 1 := Scalar.cmpi .ne v106 v111
  let v113 : BitVec 32 := Scalar.remsi v100 c2_i32
  let c0_i32_48 : BitVec 32 := 0#32
  let v114 : BitVec 1 := Scalar.cmpi .ne v113 c0_i32_48
  let v115 : BitVec 1 := Scalar.andi v112 v114
  let v101 : BitVec 32 := Scalar.divsi v100 c2_i32
  let c1_i32_49 : BitVec 32 := 1#32
  let v116 : BitVec 32 := Scalar.subi v101 c1_i32_49
  let v117 : BitVec 32 := Scalar.select v115 v116 v101
  let v125 : BitVec 32 := Scalar.muli c2_i32_54 v117
  let v126 : BitVec 32 := Scalar.addi v99 v125
  let c1_i32_72 : BitVec 32 := 1#32
  let c0_i32_63 : BitVec 32 := 0#32
  let c32_i32_55 : BitVec 32 := 32#32
  let v127 : BitVec 32 := Scalar.subi c32_i32_55 v126
  let c0_i32_57 : BitVec 32 := 0#32
  let v129 : BitVec 1 := Scalar.cmpi .sgt v127 c0_i32_57
  let v130 : BitVec 32 := Scalar.extui v129
  let c0_i32_58 : BitVec 32 := 0#32
  let v131 : BitVec 1 := Scalar.cmpi .slt v127 c0_i32_58
  let v132 : BitVec 32 := Scalar.extui v131
  let v133 : BitVec 32 := Scalar.subi v130 v132
  let c1_i32_56 : BitVec 32 := 1#32
  let c0_i32_59 : BitVec 32 := 0#32
  let v134 : BitVec 1 := Scalar.cmpi .sgt c1_i32_56 c0_i32_59
  let v135 : BitVec 32 := Scalar.extui v134
  let c0_i32_60 : BitVec 32 := 0#32
  let v136 : BitVec 1 := Scalar.cmpi .slt c1_i32_56 c0_i32_60
  let v137 : BitVec 32 := Scalar.extui v136
  let v138 : BitVec 32 := Scalar.subi v135 v137
  let v139 : BitVec 1 := Scalar.cmpi .ne v133 v138
  let v140 : BitVec 32 := Scalar.remsi v127 c1_i32_56
  let c0_i32_61 : BitVec 32 := 0#32
  let v141 : BitVec 1 := Scalar.cmpi .ne v140 c0_i32_61
  let v142 : BitVec 1 := Scalar.andi v139 v141
  let v128 : BitVec 32 := Scalar.divsi v127 c1_i32_56
  let c1_i32_62 : BitVec 32 := 1#32
  let v143 : BitVec 32 := Scalar.subi v128 c1_i32_62
  let v144 : BitVec 32 := Scalar.select v142 v143 v128
  let v145 : BitVec 32 := Scalar.subi v144 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_66 : BitVec 32 := 1#32
  let arg11 : BitVec 32 := Scf.iv v149 c1_i32_66 k0_t8
  let v156 : BitVec 32 := Scalar.muli c1_i32_72 arg11
  let v157 : BitVec 32 := Scalar.addi v126 v156
  let c0_i32_73 : BitVec 32 := 0#32
  let v158 : BitVec 32 := Scalar.addi v157 c0_i32_73
  let v167 : Index := Scalar.indexCast v158
  let c0_79 : Index := 0#32
  let c0_80 : Index := 0#32
  ![0, v167.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S16384x1024 : Shape := ⟨2, ![16384, 1024]⟩
abbrev S_ : Shape := ⟨0, ![]⟩
abbrev S16384x8x128 : Shape := ⟨3, ![16384, 8, 128]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16384x128 : Shape := ⟨3, ![8, 16384, 128]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x8x128, .f32⟩
  | .hbm, ⟨11, _⟩ => ⟨S16384x8x128, .f32⟩
  | .hbm, ⟨12, _⟩ => ⟨S8x16384x16384, .f32⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S1x16384x16384, .i1⟩
  | .hbm, ⟨20, _⟩ => ⟨S_, .f32⟩
  | .hbm, ⟨21, _⟩ => ⟨S_, .f32⟩
  | .hbm, ⟨22, _⟩ => ⟨S8x16384x16384, .i1⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .i1⟩
  | .hbm, ⟨32, _⟩ => ⟨S8x16384x16384, .f32⟩
  | .hbm, ⟨33, _⟩ => ⟨S_, .f32⟩
  | .hbm, ⟨34, _⟩ => ⟨S8x16384, .f32⟩
  | .hbm, ⟨35, _⟩ => ⟨S_, .f32⟩
  | .hbm, ⟨36, _⟩ => ⟨S8x16384, .f32⟩
  | .hbm, ⟨37, _⟩ => ⟨S8x16384, .f32⟩
  | .hbm, ⟨38, _⟩ => ⟨S_, .f32⟩
  | .hbm, ⟨39, _⟩ => ⟨S8x16384, .f32⟩
  | .hbm, ⟨40, _⟩ => ⟨S8x16384, .i1⟩
  | .hbm, ⟨41, _⟩ => ⟨S_, .f32⟩
  | .hbm, ⟨42, _⟩ => ⟨S8x16384, .f32⟩
  | .hbm, ⟨43, _⟩ => ⟨S8x16384, .i1⟩
  | .hbm, ⟨44, _⟩ => ⟨S_, .f32⟩
  | .hbm, ⟨45, _⟩ => ⟨S8x16384, .f32⟩
  | .hbm, ⟨46, _⟩ => ⟨S_, .f32⟩
  | .hbm, ⟨47, _⟩ => ⟨S8x16384, .f32⟩
  | .hbm, ⟨48, _⟩ => ⟨S_, .f32⟩
  | .hbm, ⟨49, _⟩ => ⟨S8x16384, .f32⟩
  | .hbm, ⟨50, _⟩ => ⟨S8x16384, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S_, .f32⟩
  | .hbm, ⟨57, _⟩ => ⟨S8x16384, .f32⟩
  | .hbm, ⟨58, _⟩ => ⟨S8x16384x1, .f32⟩
  | .hbm, ⟨59, _⟩ => ⟨S8x16384x16384, .f32⟩
  | .hbm, ⟨60, _⟩ => ⟨S8x16384x16384, .f32⟩
  | .hbm, ⟨61, _⟩ => ⟨S8x16384x1, .f32⟩
  | .hbm, ⟨62, _⟩ => ⟨S_, .f32⟩
  | .hbm, ⟨63, _⟩ => ⟨S8x16384x1, .f32⟩
  | .hbm, ⟨64, _⟩ => ⟨S8x16384x1, .f32⟩
  | .hbm, ⟨65, _⟩ => ⟨S16384x8x128, .f32⟩
  | .hbm, ⟨66, _⟩ => ⟨S8x128x16384, .f32⟩
  | .hbm, ⟨67, _⟩ => ⟨S16384x8x128, .f32⟩
  | .hbm, ⟨68, _⟩ => ⟨S16384x1024, .f32⟩
  | .hbm, ⟨69, _⟩ => ⟨S16384x1024, .f32⟩
  | .hbm, ⟨70, _⟩ => ⟨S16384x8x128, .f32⟩
  | .hbm, ⟨71, _⟩ => ⟨S8x128x16384, .f32⟩
  | .hbm, ⟨72, _⟩ => ⟨S8x16384x16384, .f32⟩
  | .hbm, ⟨73, _⟩ => ⟨S8x128x16384, .f32⟩
  | .hbm, ⟨74, _⟩ => ⟨S16384x8x128, .f32⟩
  | .hbm, ⟨75, _⟩ => ⟨S16384x1024, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384, .f32⟩
  | .hbm, ⟨81, _⟩ => ⟨S8x16384x1, .f32⟩
  | .hbm, ⟨82, _⟩ => ⟨S8x16384x1, .f32⟩
  | .hbm, ⟨83, _⟩ => ⟨S8x16384x16384, .f32⟩
  | .hbm, ⟨84, _⟩ => ⟨S8x16384x16384, .f32⟩
  | .hbm, ⟨85, _⟩ => ⟨S_, .f32⟩
  | .hbm, ⟨86, _⟩ => ⟨S8x16384, .f32⟩
  | .hbm, ⟨87, _⟩ => ⟨S8x16384x16384, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384x16384, .f32⟩
  | .hbm, ⟨92, _⟩ => ⟨S8x16384x16384, .f32⟩
  | .hbm, ⟨93, _⟩ => ⟨S8x16384x128, .f32⟩
  | .hbm, ⟨94, _⟩ => ⟨S16384x8x128, .f32⟩
  | .hbm, ⟨95, _⟩ => ⟨S8x16384x128, .f32⟩
  | .hbm, ⟨96, _⟩ => ⟨S16384x8x128, .f32⟩
  | .hbm, ⟨97, _⟩ => ⟨S16384x1024, .f32⟩
  | .hbm, ⟨98, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel2.lean ====
abbrev S16384x1024 : Shape := ⟨2, ![16384, 1024]⟩
abbrev S8x16384x704 : Shape := ⟨3, ![8, 16384, 704]⟩
abbrev S8x1024x704 : Shape := ⟨3, ![8, 1024, 704]⟩
abbrev S4096x1024 : Shape := ⟨2, ![4096, 1024]⟩
abbrev S1x4096x704 : Shape := ⟨3, ![1, 4096, 704]⟩
abbrev S1x1024x704 : Shape := ⟨3, ![1, 1024, 704]⟩
abbrev S1024x704 : Shape := ⟨2, ![1024, 704]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S8x16384x704, .bf16⟩
  | .hbm, ⟨2, _⟩ => ⟨S8x1024x704, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S8x16384x704 : Shape := ⟨3, ![8, 16384, 704]⟩
abbrev S_ : Shape := ⟨0, ![]⟩
abbrev S8x1024x704 : Shape := ⟨3, ![8, 1024, 704]⟩
abbrev S8x704x16384 : Shape := ⟨3, ![8, 704, 16384]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x16384x704, .bf16⟩
  | .hbm, ⟨2, _⟩ => ⟨S_, .f32⟩
  | .hbm, ⟨3, _⟩ => ⟨S8x1024x704, .f32⟩
  | .hbm, ⟨4, _⟩ => ⟨S16384x1024, .f32⟩
  | .hbm, ⟨5, _⟩ => ⟨S8x704x16384, .f32⟩
  | .hbm, ⟨6, _⟩ => ⟨S8x16384x704, .f32⟩
  | .hbm, ⟨7, _⟩ => ⟨S8x16384x704, .f32⟩
  | .hbm, ⟨8, _⟩ => ⟨S8x704x16384, .f32⟩
  | .hbm, ⟨9, _⟩ => ⟨S8x704x1024, .f32⟩
  | .hbm, ⟨10, _⟩ => ⟨S8x1024x704, .f32⟩
  | .hbm, ⟨11, _⟩ => ⟨S8x1024x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4x16384x704 : Shape := ⟨3, ![4, 16384, 704]⟩
abbrev S16384x1024 : Shape := ⟨2, ![16384, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .f32⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x16384x704 : Shape := ⟨3, ![4, 16384, 704]⟩
abbrev S16384x1024 : Shape := ⟨2, ![16384, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .f32⟩
  | .hbm, ⟨2, _⟩ => ⟨S_, .f32⟩
  | .hbm, ⟨3, _⟩ => ⟨S4x704x1024, .f32⟩
  | .hbm, ⟨4, _⟩ => ⟨S4x16384x704, .f32⟩
  | .hbm, ⟨5, _⟩ => ⟨S16384x1024, .f32⟩
  | .hbm, ⟨6, _⟩ => ⟨S1024x4x704, .f32⟩
  | .hbm, ⟨7, _⟩ => ⟨S4x704x1024, .f32⟩
  | .hbm, ⟨8, _⟩ => ⟨S4x704x1024, .bf16⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x1024 : Shape := ⟨2, ![16384, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S16384x1024 : Shape := ⟨2, ![16384, 1024]⟩
abbrev S_ : Shape := ⟨0, ![]⟩
abbrev S1024 : Shape := ⟨1, ![1024]⟩
abbrev S8x32x1x512 : Shape := ⟨4, ![8, 32, 1, 512]⟩
abbrev S512x128 : Shape := ⟨2, ![512, 128]⟩
abbrev S16384x128 : Shape := ⟨2, ![16384, 128]⟩
abbrev S1x1x1x512 : Shape := ⟨4, ![1, 1, 1, 512]⟩
abbrev S512x1 : Shape := ⟨2, ![512, 1]⟩
abbrev S512x512 : Shape := ⟨2, ![512, 512]⟩
abbrev S512 : Shape := ⟨1, ![512]⟩
abbrev S128x512 : Shape := ⟨2, ![128, 512]⟩
abbrev S1x512 : Shape := ⟨2, ![1, 512]⟩

abbrev nBuf : Space → Nat
  | .hbm => 49
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S_, .i1⟩
  | .hbm, ⟨31, _⟩ => ⟨S1024, .i1⟩
  | .hbm, ⟨32, _⟩ => ⟨S1024, .i1⟩
  | .hbm, ⟨33, _⟩ => ⟨S1024, .i1⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S16384x1024, .f32⟩
  | .hbm, ⟨41, _⟩ => ⟨S_, .f32⟩
  | .hbm, ⟨42, _⟩ => ⟨S_, .f32⟩
  | .hbm, ⟨43, _⟩ => ⟨S16384x1024, .i1⟩
  | .hbm, ⟨44, _⟩ => ⟨S16384x1024, .f32⟩
  | .hbm, ⟨45, _⟩ => ⟨S16384x1024, .f32⟩
  | .hbm, ⟨46, _⟩ => ⟨S16384x1024, .bf16⟩
  | .hbm, ⟨47, _⟩ => ⟨S16384x1024, .f32⟩
  | .hbm, ⟨48, _⟩ => ⟨S8x32x1x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S512x128, .f32⟩
  | .local _ .vmem, ⟨7, _⟩ => ⟨S512x128, .f32⟩
  | .local _ .vmem, ⟨8, _⟩ => ⟨S1x1x1x512, .f32⟩
  | .local _ .vmem, ⟨9, _⟩ => ⟨S1x1x1x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v13 : Ref sig .tc := ⟨.hbm, 45, rfl⟩
abbrev main_v14 : Ref sig .tc := ⟨.hbm, 46, rfl⟩
abbrev main_v15_0 : Ref sig .tc := ⟨.hbm, 47, rfl⟩
abbrev main_v15_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k0_mult1 (i : grid0.Coords) (k0_t1 : Fin (k0_t1_loop i).trips) : BitVec 32 :=
  let c0_i32_71 : BitVec 32 := 0#32
  let c16_i32_70 : BitVec 32 := 16#32
  let c0_i32_7 : BitVec 32 := 0#32
  let c1_i32_9 : BitVec 32 := 1#32
  let arg7 : BitVec 32 := Scf.iv c0_i32_7 c1_i32_9 k0_t1
  let v178 : BitVec 32 := Scalar.muli c16_i32_70 arg7
  let v179 : BitVec 32 := Scalar.addi c0_i32_71 v178
  let c0_i32_72 : BitVec 32 := 0#32
  let v180 : BitVec 32 := Scalar.addi v179 c0_i32_72
  let c512_i32_73 : BitVec 32 := 512#32
  let v181 : BitVec 32 := Scalar.muli v180 c512_i32_73
  v181
def k0_off1 (i : grid0.Coords) (k0_t1 : Fin (k0_t1_loop i).trips) (c0_i32_72 : BitVec 32) : Fin 2 → Nat :=
  let c0_i32_71 : BitVec 32 := 0#32
  let c16_i32_70 : BitVec 32 := 16#32
  let c0_i32_7 : BitVec 32 := 0#32
  let c1_i32_9 : BitVec 32 := 1#32
  let arg7 : BitVec 32 := Scf.iv c0_i32_7 c1_i32_9 k0_t1
  let v178 : BitVec 32 := Scalar.muli c16_i32_70 arg7
  let v179 : BitVec 32 := Scalar.addi c0_i32_71 v178
  let v180 : BitVec 32 := Scalar.addi v179 c0_i32_72
  let c512_i32_73 : BitVec 32 := 512#32
  let v181 : BitVec 32 := Scalar.muli v180 c512_i32_73
  let v182 : BitVec 32 := v181
  let v183 : Index := Scalar.indexCast v182
  let c0_74 : Index := 0#32
  ![v183.toNat, 0]
def k0_mult2 (i : grid0.Coords) (k0_t1 : Fin (k0_t1_loop i).trips) : BitVec 32 :=
  let c0_i32_80 : BitVec 32 := 0#32
  let c16_i32_79 : BitVec 32 := 16#32
  let c0_i32_7 : BitVec 32 := 0#32
  let c1_i32_9 : BitVec 32 := 1#32
  let arg7 : BitVec 32 := Scf.iv c0_i32_7 c1_i32_9 k0_t1
  let v202 : BitVec 32 := Scalar.muli c16_i32_79 arg7
  let v203 : BitVec 32 := Scalar.addi c0_i32_80 v202
  let c1_i32_81 : BitVec 32 := 1#32
  let v204 : BitVec 32 := Scalar.addi v203 c1_i32_81
  let c512_i32_82 : BitVec 32 := 512#32
  let v205 : BitVec 32 := Scalar.muli v204 c512_i32_82
  v205
def k0_mult3 (i : grid0.Coords) (k0_t1 : Fin (k0_t1_loop i).trips) : BitVec 32 :=
  let c0_i32_89 : BitVec 32 := 0#32
  let c16_i32_88 : BitVec 32 := 16#32
  let c0_i32_7 : BitVec 32 := 0#32
  let c1_i32_9 : BitVec 32 := 1#32
  let arg7 : BitVec 32 := Scf.iv c0_i32_7 c1_i32_9 k0_t1
  let v226 : BitVec 32 := Scalar.muli c16_i32_88 arg7
  let v227 : BitVec 32 := Scalar.addi c0_i32_89 v226
  let c2_i32_90 : BitVec 32 := 2#32
  let v228 : BitVec 32 := Scalar.addi v227 c2_i32_90
  let c512_i32_91 : BitVec 32 := 512#32
  let v229 : BitVec 32 := Scalar.muli v228 c512_i32_91
  v229
def k0_mult4 (i : grid0.Coords) (k0_t1 : Fin (k0_t1_loop i).trips) : BitVec 32 :=
  let c0_i32_98 : BitVec 32 := 0#32
  let c16_i32_97 : BitVec 32 := 16#32
  let c0_i32_7 : BitVec 32 := 0#32
  let c1_i32_9 : BitVec 32 := 1#32
  let arg7 : BitVec 32 := Scf.iv c0_i32_7 c1_i32_9 k0_t1
  let v250 : BitVec 32 := Scalar.muli c16_i32_97 arg7
  let v251 : BitVec 32 := Scalar.addi c0_i32_98 v250
  let c3_i32 : BitVec 32 := 3#32
  let v252 : BitVec 32 := Scalar.addi v251 c3_i32
  let c512_i32_99 : BitVec 32 := 512#32
  let v253 : BitVec 32 := Scalar.muli v252 c512_i32_99
  v253
def k0_mult5 (i : grid0.Coords) (k0_t1 : Fin (k0_t1_loop i).trips) : BitVec 32 :=
  let c0_i32_106 : BitVec 32 := 0#32
  let c16_i32_105 : BitVec 32 := 16#32
  let c0_i32_7 : BitVec 32 := 0#32
  let c1_i32_9 : BitVec 32 := 1#32
  let arg7 : BitVec 32 := Scf.iv c0_i32_7 c1_i32_9 k0_t1
  let v274 : BitVec 32 := Scalar.muli c16_i32_105 arg7
  let v275 : BitVec 32 := Scalar.addi c0_i32_106 v274
  let c4_i32_107 : BitVec 32 := 4#32
  let v276 : BitVec 32 := Scalar.addi v275 c4_i32_107
  let c512_i32_108 : BitVec 32 := 512#32
  let v277 : BitVec 32 := Scalar.muli v276 c512_i32_108
  v277
def k0_mult6 (i : grid0.Coords) (k0_t1 : Fin (k0_t1_loop i).trips) : BitVec 32 :=
  let c0_i32_115 : BitVec 32 := 0#32
  let c16_i32_114 : BitVec 32 := 16#32
  let c0_i32_7 : BitVec 32 := 0#32
  let c1_i32_9 : BitVec 32 := 1#32
  let arg7 : BitVec 32 := Scf.iv c0_i32_7 c1_i32_9 k0_t1
  let v298 : BitVec 32 := Scalar.muli c16_i32_114 arg7
  let v299 : BitVec 32 := Scalar.addi c0_i32_115 v298
  let c5_i32 : BitVec 32 := 5#32
  let v300 : BitVec 32 := Scalar.addi v299 c5_i32
  let c512_i32_116 : BitVec 32 := 512#32
  let v301 : BitVec 32 := Scalar.muli v300 c512_i32_116
  v301
def k0_mult7 (i : grid0.Coords) (k0_t1 : Fin (k0_t1_loop i).trips) : BitVec 32 :=
  let c0_i32_123 : BitVec 32 := 0#32
  let c16_i32_122 : BitVec 32 := 16#32
  let c0_i32_7 : BitVec 32 := 0#32
  let c1_i32_9 : BitVec 32 := 1#32
  let arg7 : BitVec 32 := Scf.iv c0_i32_7 c1_i32_9 k0_t1
  let v322 : BitVec 32 := Scalar.muli c16_i32_122 arg7
  let v323 : BitVec 32 := Scalar.addi c0_i32_123 v322
  let c6_i32 : BitVec 32 := 6#32
  let v324 : BitVec 32 := Scalar.addi v323 c6_i32
  let c512_i32_124 : BitVec 32 := 512#32
  let v325 : BitVec 32 := Scalar.muli v324 c512_i32_124
  v325
def k0_mult8 (i : grid0.Coords) (k0_t1 : Fin (k0_t1_loop i).trips) : BitVec 32 :=
  let c0_i32_131 : BitVec 32 := 0#32
  let c16_i32_130 : BitVec 32 := 16#32
  let c0_i32_7 : BitVec 32 := 0#32
  let c1_i32_9 : BitVec 32 := 1#32
  let arg7 : BitVec 32 := Scf.iv c0_i32_7 c1_i32_9 k0_t1
  let v346 : BitVec 32 := Scalar.muli c16_i32_130 arg7
  let v347 : BitVec 32 := Scalar.addi c0_i32_131 v346
  let c7_i32 : BitVec 32 := 7#32
  let v348 : BitVec 32 := Scalar.addi v347 c7_i32
  let c512_i32_132 : BitVec 32 := 512#32
  let v349 : BitVec 32 := Scalar.muli v348 c512_i32_132
  v349
def k0_mult9 (i : grid0.Coords) (k0_t1 : Fin (k0_t1_loop i).trips) : BitVec 32 :=
  let c0_i32_139 : BitVec 32 := 0#32
  let c16_i32_138 : BitVec 32 := 16#32
  let c0_i32_7 : BitVec 32 := 0#32
  let c1_i32_9 : BitVec 32 := 1#32
  let arg7 : BitVec 32 := Scf.iv c0_i32_7 c1_i32_9 k0_t1
  let v370 : BitVec 32 := Scalar.muli c16_i32_138 arg7
  let v371 : BitVec 32 := Scalar.addi c0_i32_139 v370
  let c8_i32_140 : BitVec 32 := 8#32
  let v372 : BitVec 32 := Scalar.addi v371 c8_i32_140
  let c512_i32_141 : BitVec 32 := 512#32
  let v373 : BitVec 32 := Scalar.muli v372 c512_i32_141
  v373
def k0_mult10 (i : grid0.Coords) (k0_t1 : Fin (k0_t1_loop i).trips) : BitVec 32 :=
  let c0_i32_148 : BitVec 32 := 0#32
  let c16_i32_147 : BitVec 32 := 16#32
  let c0_i32_7 : BitVec 32 := 0#32
  let c1_i32_9 : BitVec 32 := 1#32
  let arg7 : BitVec 32 := Scf.iv c0_i32_7 c1_i32_9 k0_t1
  let v394 : BitVec 32 := Scalar.muli c16_i32_147 arg7
  let v395 : BitVec 32 := Scalar.addi c0_i32_148 v394
  let c9_i32 : BitVec 32 := 9#32
  let v396 : BitVec 32 := Scalar.addi v395 c9_i32
  let c512_i32_149 : BitVec 32 := 512#32
  let v397 : BitVec 32 := Scalar.muli v396 c512_i32_149
  v397
def k0_mult11 (i : grid0.Coords) (k0_t1 : Fin (k0_t1_loop i).trips) : BitVec 32 :=
  let c0_i32_156 : BitVec 32 := 0#32
  let c16_i32_155 : BitVec 32 := 16#32
  let c0_i32_7 : BitVec 32 := 0#32
  let c1_i32_9 : BitVec 32 := 1#32
  let arg7 : BitVec 32 := Scf.iv c0_i32_7 c1_i32_9 k0_t1
  let v418 : BitVec 32 := Scalar.muli c16_i32_155 arg7
  let v419 : BitVec 32 := Scalar.addi c0_i32_156 v418
  let c10_i32 : BitVec 32 := 10#32
  let v420 : BitVec 32 := Scalar.addi v419 c10_i32
  let c512_i32_157 : BitVec 32 := 512#32
  let v421 : BitVec 32 := Scalar.muli v420 c512_i32_157
  v421
def k0_mult12 (i : grid0.Coords) (k0_t1 : Fin (k0_t1_loop i).trips) : BitVec 32 :=
  let c0_i32_164 : BitVec 32 := 0#32
  let c16_i32_163 : BitVec 32 := 16#32
  let c0_i32_7 : BitVec 32 := 0#32
  let c1_i32_9 : BitVec 32 := 1#32
  let arg7 : BitVec 32 := Scf.iv c0_i32_7 c1_i32_9 k0_t1
  let v442 : BitVec 32 := Scalar.muli c16_i32_163 arg7
  let v443 : BitVec 32 := Scalar.addi c0_i32_164 v442
  let c11_i32 : BitVec 32 := 11#32
  let v444 : BitVec 32 := Scalar.addi v443 c11_i32
  let c512_i32_165 : BitVec 32 := 512#32
  let v445 : BitVec 32 := Scalar.muli v444 c512_i32_165
  v445
def k0_mult13 (i : grid0.Coords) (k0_t1 : Fin (k0_t1_loop i).trips) : BitVec 32 :=
  let c0_i32_172 : BitVec 32 := 0#32
  let c16_i32_171 : BitVec 32 := 16#32
  let c0_i32_7 : BitVec 32 := 0#32
  let c1_i32_9 : BitVec 32 := 1#32
  let arg7 : BitVec 32 := Scf.iv c0_i32_7 c1_i32_9 k0_t1
  let v466 : BitVec 32 := Scalar.muli c16_i32_171 arg7
  let v467 : BitVec 32 := Scalar.addi c0_i32_172 v466
  let c12_i32 : BitVec 32 := 12#32
  let v468 : BitVec 32 := Scalar.addi v467 c12_i32
  let c512_i32_173 : BitVec 32 := 512#32
  let v469 : BitVec 32 := Scalar.muli v468 c512_i32_173
  v469
def k0_mult14 (i : grid0.Coords) (k0_t1 : Fin (k0_t1_loop i).trips) : BitVec 32 :=
  let c0_i32_180 : BitVec 32 := 0#32
  let c16_i32_179 : BitVec 32 := 16#32
  let c0_i32_7 : BitVec 32 := 0#32
  let c1_i32_9 : BitVec 32 := 1#32
  let arg7 : BitVec 32 := Scf.iv c0_i32_7 c1_i32_9 k0_t1
  let v490 : BitVec 32 := Scalar.muli c16_i32_179 arg7
  let v491 : BitVec 32 := Scalar.addi c0_i32_180 v490
  let c13_i32 : BitVec 32 := 13#32
  let v492 : BitVec 32 := Scalar.addi v491 c13_i32
  let c512_i32_181 : BitVec 32 := 512#32
  let v493 : BitVec 32 := Scalar.muli v492 c512_i32_181
  v493
def k0_mult15 (i : grid0.Coords) (k0_t1 : Fin (k0_t1_loop i).trips) : BitVec 32 :=
  let c0_i32_188 : BitVec 32 := 0#32
  let c16_i32_187 : BitVec 32 := 16#32
  let c0_i32_7 : BitVec 32 := 0#32
  let c1_i32_9 : BitVec 32 := 1#32
  let arg7 : BitVec 32 := Scf.iv c0_i32_7 c1_i32_9 k0_t1
  let v514 : BitVec 32 := Scalar.muli c16_i32_187 arg7
  let v515 : BitVec 32 := Scalar.addi c0_i32_188 v514
  let c14_i32 : BitVec 32 := 14#32
  let v516 : BitVec 32 := Scalar.addi v515 c14_i32
  let c512_i32_189 : BitVec 32 := 512#32
  let v517 : BitVec 32 := Scalar.muli v516 c512_i32_189
  v517
def k0_mult16 (i : grid0.Coords) (k0_t1 : Fin (k0_t1_loop i).trips) : BitVec 32 :=
  let c0_i32_196 : BitVec 32 := 0#32
  let c16_i32_195 : BitVec 32 := 16#32
  let c0_i32_7 : BitVec 32 := 0#32
  let c1_i32_9 : BitVec 32 := 1#32
  let arg7 : BitVec 32 := Scf.iv c0_i32_7 c1_i32_9 k0_t1
  let v538 : BitVec 32 := Scalar.muli c16_i32_195 arg7
  let v539 : BitVec 32 := Scalar.addi c0_i32_196 v538
  let c15_i32 : BitVec 32 := 15#32
  let v540 : BitVec 32 := Scalar.addi v539 c15_i32
  let c512_i32_197 : BitVec 32 := 512#32
  let v541 : BitVec 32 := Scalar.muli v540 c512_i32_197
  v541
@[reducible] def k0_t2_loop (i : grid0.Coords) : Scf.Loop 32 :=
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k0_mult17 (i : grid0.Coords) (k0_t2 : Fin (k0_t2_loop i).trips) : BitVec 32 :=
  let c0_i32_71 : BitVec 32 := 0#32
  let c16_i32_70 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v178 : BitVec 32 := Scalar.muli c16_i32_70 arg7
  let v179 : BitVec 32 := Scalar.addi c0_i32_71 v178
  let c0_i32_72 : BitVec 32 := 0#32
  let v180 : BitVec 32 := Scalar.addi v179 c0_i32_72
  let c512_i32_73 : BitVec 32 := 512#32
  let v181 : BitVec 32 := Scalar.muli v180 c512_i32_73
  v181
def k0_off2 (i : grid0.Coords) (k0_t2 : Fin (k0_t2_loop i).trips) (c0_i32_72 : BitVec 32) : Fin 2 → Nat :=
  let c0_i32_71 : BitVec 32 := 0#32
  let c16_i32_70 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v178 : BitVec 32 := Scalar.muli c16_i32_70 arg7
  let v179 : BitVec 32 := Scalar.addi c0_i32_71 v178
  let v180 : BitVec 32 := Scalar.addi v179 c0_i32_72
  let c512_i32_73 : BitVec 32 := 512#32
  let v181 : BitVec 32 := Scalar.muli v180 c512_i32_73
  let v182 : BitVec 32 := v181
  let v183 : Index := Scalar.indexCast v182
  let c0_74 : Index := 0#32
  ![v183.toNat, 0]
def k0_mult18 (i : grid0.Coords) (k0_t2 : Fin (k0_t2_loop i).trips) : BitVec 32 :=
  let c0_i32_80 : BitVec 32 := 0#32
  let c16_i32_79 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v202 : BitVec 32 := Scalar.muli c16_i32_79 arg7
  let v203 : BitVec 32 := Scalar.addi c0_i32_80 v202
  let c1_i32_81 : BitVec 32 := 1#32
  let v204 : BitVec 32 := Scalar.addi v203 c1_i32_81
  let c512_i32_82 : BitVec 32 := 512#32
  let v205 : BitVec 32 := Scalar.muli v204 c512_i32_82
  v205
def k0_mult19 (i : grid0.Coords) (k0_t2 : Fin (k0_t2_loop i).trips) : BitVec 32 :=
  let c0_i32_89 : BitVec 32 := 0#32
  let c16_i32_88 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v226 : BitVec 32 := Scalar.muli c16_i32_88 arg7
  let v227 : BitVec 32 := Scalar.addi c0_i32_89 v226
  let c2_i32_90 : BitVec 32 := 2#32
  let v228 : BitVec 32 := Scalar.addi v227 c2_i32_90
  let c512_i32_91 : BitVec 32 := 512#32
  let v229 : BitVec 32 := Scalar.muli v228 c512_i32_91
  v229
def k0_mult20 (i : grid0.Coords) (k0_t2 : Fin (k0_t2_loop i).trips) : BitVec 32 :=
  let c0_i32_98 : BitVec 32 := 0#32
  let c16_i32_97 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v250 : BitVec 32 := Scalar.muli c16_i32_97 arg7
  let v251 : BitVec 32 := Scalar.addi c0_i32_98 v250
  let c3_i32 : BitVec 32 := 3#32
  let v252 : BitVec 32 := Scalar.addi v251 c3_i32
  let c512_i32_99 : BitVec 32 := 512#32
  let v253 : BitVec 32 := Scalar.muli v252 c512_i32_99
  v253
def k0_mult21 (i : grid0.Coords) (k0_t2 : Fin (k0_t2_loop i).trips) : BitVec 32 :=
  let c0_i32_106 : BitVec 32 := 0#32
  let c16_i32_105 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v274 : BitVec 32 := Scalar.muli c16_i32_105 arg7
  let v275 : BitVec 32 := Scalar.addi c0_i32_106 v274
  let c4_i32_107 : BitVec 32 := 4#32
  let v276 : BitVec 32 := Scalar.addi v275 c4_i32_107
  let c512_i32_108 : BitVec 32 := 512#32
  let v277 : BitVec 32 := Scalar.muli v276 c512_i32_108
  v277
def k0_mult22 (i : grid0.Coords) (k0_t2 : Fin (k0_t2_loop i).trips) : BitVec 32 :=
  let c0_i32_115 : BitVec 32 := 0#32
  let c16_i32_114 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v298 : BitVec 32 := Scalar.muli c16_i32_114 arg7
  let v299 : BitVec 32 := Scalar.addi c0_i32_115 v298
  let c5_i32 : BitVec 32 := 5#32
  let v300 : BitVec 32 := Scalar.addi v299 c5_i32
  let c512_i32_116 : BitVec 32 := 512#32
  let v301 : BitVec 32 := Scalar.muli v300 c512_i32_116
  v301
def k0_mult23 (i : grid0.Coords) (k0_t2 : Fin (k0_t2_loop i).trips) : BitVec 32 :=
  let c0_i32_123 : BitVec 32 := 0#32
  let c16_i32_122 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v322 : BitVec 32 := Scalar.muli c16_i32_122 arg7
  let v323 : BitVec 32 := Scalar.addi c0_i32_123 v322
  let c6_i32 : BitVec 32 := 6#32
  let v324 : BitVec 32 := Scalar.addi v323 c6_i32
  let c512_i32_124 : BitVec 32 := 512#32
  let v325 : BitVec 32 := Scalar.muli v324 c512_i32_124
  v325
def k0_mult24 (i : grid0.Coords) (k0_t2 : Fin (k0_t2_loop i).trips) : BitVec 32 :=
  let c0_i32_131 : BitVec 32 := 0#32
  let c16_i32_130 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v346 : BitVec 32 := Scalar.muli c16_i32_130 arg7
  let v347 : BitVec 32 := Scalar.addi c0_i32_131 v346
  let c7_i32 : BitVec 32 := 7#32
  let v348 : BitVec 32 := Scalar.addi v347 c7_i32
  let c512_i32_132 : BitVec 32 := 512#32
  let v349 : BitVec 32 := Scalar.muli v348 c512_i32_132
  v349
def k0_mult25 (i : grid0.Coords) (k0_t2 : Fin (k0_t2_loop i).trips) : BitVec 32 :=
  let c0_i32_139 : BitVec 32 := 0#32
  let c16_i32_138 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v370 : BitVec 32 := Scalar.muli c16_i32_138 arg7
  let v371 : BitVec 32 := Scalar.addi c0_i32_139 v370
  let c8_i32_140 : BitVec 32 := 8#32
  let v372 : BitVec 32 := Scalar.addi v371 c8_i32_140
  let c512_i32_141 : BitVec 32 := 512#32
  let v373 : BitVec 32 := Scalar.muli v372 c512_i32_141
  v373
def k0_mult26 (i : grid0.Coords) (k0_t2 : Fin (k0_t2_loop i).trips) : BitVec 32 :=
  let c0_i32_148 : BitVec 32 := 0#32
  let c16_i32_147 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v394 : BitVec 32 := Scalar.muli c16_i32_147 arg7
  let v395 : BitVec 32 := Scalar.addi c0_i32_148 v394
  let c9_i32 : BitVec 32 := 9#32
  let v396 : BitVec 32 := Scalar.addi v395 c9_i32
  let c512_i32_149 : BitVec 32 := 512#32
  let v397 : BitVec 32 := Scalar.muli v396 c512_i32_149
  v397
def k0_mult27 (i : grid0.Coords) (k0_t2 : Fin (k0_t2_loop i).trips) : BitVec 32 :=
  let c0_i32_156 : BitVec 32 := 0#32
  let c16_i32_155 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v418 : BitVec 32 := Scalar.muli c16_i32_155 arg7
  let v419 : BitVec 32 := Scalar.addi c0_i32_156 v418
  let c10_i32 : BitVec 32 := 10#32
  let v420 : BitVec 32 := Scalar.addi v419 c10_i32
  let c512_i32_157 : BitVec 32 := 512#32
  let v421 : BitVec 32 := Scalar.muli v420 c512_i32_157
  v421
def k0_mult28 (i : grid0.Coords) (k0_t2 : Fin (k0_t2_loop i).trips) : BitVec 32 :=
  let c0_i32_164 : BitVec 32 := 0#32
  let c16_i32_163 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v442 : BitVec 32 := Scalar.muli c16_i32_163 arg7
  let v443 : BitVec 32 := Scalar.addi c0_i32_164 v442
  let c11_i32 : BitVec 32 := 11#32
  let v444 : BitVec 32 := Scalar.addi v443 c11_i32
  let c512_i32_165 : BitVec 32 := 512#32
  let v445 : BitVec 32 := Scalar.muli v444 c512_i32_165
  v445
def k0_mult29 (i : grid0.Coords) (k0_t2 : Fin (k0_t2_loop i).trips) : BitVec 32 :=
  let c0_i32_172 : BitVec 32 := 0#32
  let c16_i32_171 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v466 : BitVec 32 := Scalar.muli c16_i32_171 arg7
  let v467 : BitVec 32 := Scalar.addi c0_i32_172 v466
  let c12_i32 : BitVec 32 := 12#32
  let v468 : BitVec 32 := Scalar.addi v467 c12_i32
  let c512_i32_173 : BitVec 32 := 512#32
  let v469 : BitVec 32 := Scalar.muli v468 c512_i32_173
  v469
def k0_mult30 (i : grid0.Coords) (k0_t2 : Fin (k0_t2_loop i).trips) : BitVec 32 :=
  let c0_i32_180 : BitVec 32 := 0#32
  let c16_i32_179 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v490 : BitVec 32 := Scalar.muli c16_i32_179 arg7
  let v491 : BitVec 32 := Scalar.addi c0_i32_180 v490
  let c13_i32 : BitVec 32 := 13#32
  let v492 : BitVec 32 := Scalar.addi v491 c13_i32
  let c512_i32_181 : BitVec 32 := 512#32
  let v493 : BitVec 32 := Scalar.muli v492 c512_i32_181
  v493
def k0_mult31 (i : grid0.Coords) (k0_t2 : Fin (k0_t2_loop i).trips) : BitVec 32 :=
  let c0_i32_188 : BitVec 32 := 0#32
  let c16_i32_187 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v514 : BitVec 32 := Scalar.muli c16_i32_187 arg7
  let v515 : BitVec 32 := Scalar.addi c0_i32_188 v514
  let c14_i32 : BitVec 32 := 14#32
  let v516 : BitVec 32 := Scalar.addi v515 c14_i32
  let c512_i32_189 : BitVec 32 := 512#32
  let v517 : BitVec 32 := Scalar.muli v516 c512_i32_189
  v517
def k0_mult32 (i : grid0.Coords) (k0_t2 : Fin (k0_t2_loop i).trips) : BitVec 32 :=
  let c0_i32_196 : BitVec 32 := 0#32
  let c16_i32_195 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v538 : BitVec 32 := Scalar.muli c16_i32_195 arg7
  let v539 : BitVec 32 := Scalar.addi c0_i32_196 v538
  let c15_i32 : BitVec 32 := 15#32
  let v540 : BitVec 32 := Scalar.addi v539 c15_i32
  let c512_i32_197 : BitVec 32 := 512#32
  let v541 : BitVec 32 := Scalar.muli v540 c512_i32_197
  v541
@[reducible] def k0_t3_loop (i : grid0.Coords) : Scf.Loop 32 :=
  let c0_i32_19 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_21 : BitVec 32 := 1#32
  ⟨c0_i32_19, v53, c1_i32_21⟩
def k0_mult33 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let c1_i32_21 : BitVec 32 := 1#32
  let arg7 : BitVec 32 := Scf.iv c0_i32_19 c1_i32_21 k0_t3
  let v178 : BitVec 32 := Scalar.muli c8_i32_70 arg7
  let v179 : BitVec 32 := Scalar.addi v30 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off3 (i : grid0.Coords) (k0_t3 : Fin (k0_t3_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let c1_i32_21 : BitVec 32 := 1#32
  let arg7 : BitVec 32 := Scf.iv c0_i32_19 c1_i32_21 k0_t3
  let v178 : BitVec 32 := Scalar.muli c8_i32_70 arg7
  let v179 : BitVec 32 := Scalar.addi v30 v178
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
def k0_mult34 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_78 : BitVec 32 := 8#32
  let c0_i32_19 : BitVec 32 := 0#32
  let c1_i32_21 : BitVec 32 := 1#32
  let arg7 : BitVec 32 := Scf.iv c0_i32_19 c1_i32_21 k0_t3
  let v202 : BitVec 32 := Scalar.muli c8_i32_78 arg7
  let v203 : BitVec 32 := Scalar.addi v30 v202
  let c1_i32_79 : BitVec 32 := 1#32
  let v204 : BitVec 32 := Scalar.addi v203 c1_i32_79
  let c512_i32_80 : BitVec 32 := 512#32
  let v205 : BitVec 32 := Scalar.muli v204 c512_i32_80
  v205
def k0_mult35 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_86 : BitVec 32 := 8#32
  let c0_i32_19 : BitVec 32 := 0#32
  let c1_i32_21 : BitVec 32 := 1#32
  let arg7 : BitVec 32 := Scf.iv c0_i32_19 c1_i32_21 k0_t3
  let v226 : BitVec 32 := Scalar.muli c8_i32_86 arg7
  let v227 : BitVec 32 := Scalar.addi v30 v226
  let c2_i32_87 : BitVec 32 := 2#32
  let v228 : BitVec 32 := Scalar.addi v227 c2_i32_87
  let c512_i32_88 : BitVec 32 := 512#32
  let v229 : BitVec 32 := Scalar.muli v228 c512_i32_88
  v229
def k0_mult36 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_94 : BitVec 32 := 8#32
  let c0_i32_19 : BitVec 32 := 0#32
  let c1_i32_21 : BitVec 32 := 1#32
  let arg7 : BitVec 32 := Scf.iv c0_i32_19 c1_i32_21 k0_t3
  let v250 : BitVec 32 := Scalar.muli c8_i32_94 arg7
  let v251 : BitVec 32 := Scalar.addi v30 v250
  let c3_i32 : BitVec 32 := 3#32
  let v252 : BitVec 32 := Scalar.addi v251 c3_i32
  let c512_i32_95 : BitVec 32 := 512#32
  let v253 : BitVec 32 := Scalar.muli v252 c512_i32_95
  v253
def k0_mult37 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_101 : BitVec 32 := 8#32
  let c0_i32_19 : BitVec 32 := 0#32
  let c1_i32_21 : BitVec 32 := 1#32
  let arg7 : BitVec 32 := Scf.iv c0_i32_19 c1_i32_21 k0_t3
  let v274 : BitVec 32 := Scalar.muli c8_i32_101 arg7
  let v275 : BitVec 32 := Scalar.addi v30 v274
  let c4_i32_102 : BitVec 32 := 4#32
  let v276 : BitVec 32 := Scalar.addi v275 c4_i32_102
  let c512_i32_103 : BitVec 32 := 512#32
  let v277 : BitVec 32 := Scalar.muli v276 c512_i32_103
  v277
def k0_mult38 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_109 : BitVec 32 := 8#32
  let c0_i32_19 : BitVec 32 := 0#32
  let c1_i32_21 : BitVec 32 := 1#32
  let arg7 : BitVec 32 := Scf.iv c0_i32_19 c1_i32_21 k0_t3
  let v298 : BitVec 32 := Scalar.muli c8_i32_109 arg7
  let v299 : BitVec 32 := Scalar.addi v30 v298
  let c5_i32 : BitVec 32 := 5#32
  let v300 : BitVec 32 := Scalar.addi v299 c5_i32
  let c512_i32_110 : BitVec 32 := 512#32
  let v301 : BitVec 32 := Scalar.muli v300 c512_i32_110
  v301
def k0_mult39 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_116 : BitVec 32 := 8#32
  let c0_i32_19 : BitVec 32 := 0#32
  let c1_i32_21 : BitVec 32 := 1#32
  let arg7 : BitVec 32 := Scf.iv c0_i32_19 c1_i32_21 k0_t3
  let v322 : BitVec 32 := Scalar.muli c8_i32_116 arg7
  let v323 : BitVec 32 := Scalar.addi v30 v322
  let c6_i32 : BitVec 32 := 6#32
  let v324 : BitVec 32 := Scalar.addi v323 c6_i32
  let c512_i32_117 : BitVec 32 := 512#32
  let v325 : BitVec 32 := Scalar.muli v324 c512_i32_117
  v325
def k0_mult40 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_123 : BitVec 32 := 8#32
  let c0_i32_19 : BitVec 32 := 0#32
  let c1_i32_21 : BitVec 32 := 1#32
  let arg7 : BitVec 32 := Scf.iv c0_i32_19 c1_i32_21 k0_t3
  let v346 : BitVec 32 := Scalar.muli c8_i32_123 arg7
  let v347 : BitVec 32 := Scalar.addi v30 v346
  let c7_i32 : BitVec 32 := 7#32
  let v348 : BitVec 32 := Scalar.addi v347 c7_i32
  let c512_i32_124 : BitVec 32 := 512#32
  let v349 : BitVec 32 := Scalar.muli v348 c512_i32_124
  v349
@[reducible] def k0_t4_loop (i : grid0.Coords) : Scf.Loop 32 :=
  let c0_i32_19 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let v50 : BitVec 32 := Scalar.addi c0_i32_19 v49
  let c1_i32_22 : BitVec 32 := 1#32
  ⟨v53, v50, c1_i32_22⟩
def k0_mult41 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v178 : BitVec 32 := Scalar.muli c8_i32_70 arg7
  let v179 : BitVec 32 := Scalar.addi v30 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off4 (i : grid0.Coords) (k0_t4 : Fin (k0_t4_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v178 : BitVec 32 := Scalar.muli c8_i32_70 arg7
  let v179 : BitVec 32 := Scalar.addi v30 v178
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
def k0_mult42 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_78 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v202 : BitVec 32 := Scalar.muli c8_i32_78 arg7
  let v203 : BitVec 32 := Scalar.addi v30 v202
  let c1_i32_79 : BitVec 32 := 1#32
  let v204 : BitVec 32 := Scalar.addi v203 c1_i32_79
  let c512_i32_80 : BitVec 32 := 512#32
  let v205 : BitVec 32 := Scalar.muli v204 c512_i32_80
  v205
def k0_mult43 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_86 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v226 : BitVec 32 := Scalar.muli c8_i32_86 arg7
  let v227 : BitVec 32 := Scalar.addi v30 v226
  let c2_i32_87 : BitVec 32 := 2#32
  let v228 : BitVec 32 := Scalar.addi v227 c2_i32_87
  let c512_i32_88 : BitVec 32 := 512#32
  let v229 : BitVec 32 := Scalar.muli v228 c512_i32_88
  v229
def k0_mult44 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_94 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v250 : BitVec 32 := Scalar.muli c8_i32_94 arg7
  let v251 : BitVec 32 := Scalar.addi v30 v250
  let c3_i32 : BitVec 32 := 3#32
  let v252 : BitVec 32 := Scalar.addi v251 c3_i32
  let c512_i32_95 : BitVec 32 := 512#32
  let v253 : BitVec 32 := Scalar.muli v252 c512_i32_95
  v253
def k0_mult45 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_101 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v274 : BitVec 32 := Scalar.muli c8_i32_101 arg7
  let v275 : BitVec 32 := Scalar.addi v30 v274
  let c4_i32_102 : BitVec 32 := 4#32
  let v276 : BitVec 32 := Scalar.addi v275 c4_i32_102
  let c512_i32_103 : BitVec 32 := 512#32
  let v277 : BitVec 32 := Scalar.muli v276 c512_i32_103
  v277
def k0_mult46 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_109 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v298 : BitVec 32 := Scalar.muli c8_i32_109 arg7
  let v299 : BitVec 32 := Scalar.addi v30 v298
  let c5_i32 : BitVec 32 := 5#32
  let v300 : BitVec 32 := Scalar.addi v299 c5_i32
  let c512_i32_110 : BitVec 32 := 512#32
  let v301 : BitVec 32 := Scalar.muli v300 c512_i32_110
  v301
def k0_mult47 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_116 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v322 : BitVec 32 := Scalar.muli c8_i32_116 arg7
  let v323 : BitVec 32 := Scalar.addi v30 v322
  let c6_i32 : BitVec 32 := 6#32
  let v324 : BitVec 32 := Scalar.addi v323 c6_i32
  let c512_i32_117 : BitVec 32 := 512#32
  let v325 : BitVec 32 := Scalar.muli v324 c512_i32_117
  v325
def k0_mult48 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_123 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v346 : BitVec 32 := Scalar.muli c8_i32_123 arg7
  let v347 : BitVec 32 := Scalar.addi v30 v346
  let c7_i32 : BitVec 32 := 7#32
  let v348 : BitVec 32 := Scalar.addi v347 c7_i32
  let c512_i32_124 : BitVec 32 := 512#32
  let v349 : BitVec 32 := Scalar.muli v348 c512_i32_124
  v349
@[reducible] def k0_t5_loop (i : grid0.Coords) : Scf.Loop 32 :=
  let c0_i32_30 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_32 : BitVec 32 := 1#32
  ⟨c0_i32_30, v80, c1_i32_32⟩
def k0_mult49 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let c1_i32_32 : BitVec 32 := 1#32
  let arg7 : BitVec 32 := Scf.iv c0_i32_30 c1_i32_32 k0_t5
  let v178 : BitVec 32 := Scalar.muli c4_i32_70 arg7
  let v179 : BitVec 32 := Scalar.addi v57 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off5 (i : grid0.Coords) (k0_t5 : Fin (k0_t5_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let c1_i32_32 : BitVec 32 := 1#32
  let arg7 : BitVec 32 := Scf.iv c0_i32_30 c1_i32_32 k0_t5
  let v178 : BitVec 32 := Scalar.muli c4_i32_70 arg7
  let v179 : BitVec 32 := Scalar.addi v57 v178
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
def k0_mult50 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_78 : BitVec 32 := 4#32
  let c0_i32_30 : BitVec 32 := 0#32
  let c1_i32_32 : BitVec 32 := 1#32
  let arg7 : BitVec 32 := Scf.iv c0_i32_30 c1_i32_32 k0_t5
  let v202 : BitVec 32 := Scalar.muli c4_i32_78 arg7
  let v203 : BitVec 32 := Scalar.addi v57 v202
  let c1_i32_79 : BitVec 32 := 1#32
  let v204 : BitVec 32 := Scalar.addi v203 c1_i32_79
  let c512_i32_80 : BitVec 32 := 512#32
  let v205 : BitVec 32 := Scalar.muli v204 c512_i32_80
  v205
def k0_mult51 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_86 : BitVec 32 := 4#32
  let c0_i32_30 : BitVec 32 := 0#32
  let c1_i32_32 : BitVec 32 := 1#32
  let arg7 : BitVec 32 := Scf.iv c0_i32_30 c1_i32_32 k0_t5
  let v226 : BitVec 32 := Scalar.muli c4_i32_86 arg7
  let v227 : BitVec 32 := Scalar.addi v57 v226
  let c2_i32_87 : BitVec 32 := 2#32
  let v228 : BitVec 32 := Scalar.addi v227 c2_i32_87
  let c512_i32_88 : BitVec 32 := 512#32
  let v229 : BitVec 32 := Scalar.muli v228 c512_i32_88
  v229
def k0_mult52 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_94 : BitVec 32 := 4#32
  let c0_i32_30 : BitVec 32 := 0#32
  let c1_i32_32 : BitVec 32 := 1#32
  let arg7 : BitVec 32 := Scf.iv c0_i32_30 c1_i32_32 k0_t5
  let v250 : BitVec 32 := Scalar.muli c4_i32_94 arg7
  let v251 : BitVec 32 := Scalar.addi v57 v250
  let c3_i32 : BitVec 32 := 3#32
  let v252 : BitVec 32 := Scalar.addi v251 c3_i32
  let c512_i32_95 : BitVec 32 := 512#32
  let v253 : BitVec 32 := Scalar.muli v252 c512_i32_95
  v253
@[reducible] def k0_t6_loop (i : grid0.Coords) : Scf.Loop 32 :=
  let c0_i32_30 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let v77 : BitVec 32 := Scalar.addi c0_i32_30 v76
  let c1_i32_33 : BitVec 32 := 1#32
  ⟨v80, v77, c1_i32_33⟩
def k0_mult53 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v178 : BitVec 32 := Scalar.muli c4_i32_70 arg7
  let v179 : BitVec 32 := Scalar.addi v57 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off6 (i : grid0.Coords) (k0_t6 : Fin (k0_t6_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v178 : BitVec 32 := Scalar.muli c4_i32_70 arg7
  let v179 : BitVec 32 := Scalar.addi v57 v178
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
def k0_mult54 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_78 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v202 : BitVec 32 := Scalar.muli c4_i32_78 arg7
  let v203 : BitVec 32 := Scalar.addi v57 v202
  let c1_i32_79 : BitVec 32 := 1#32
  let v204 : BitVec 32 := Scalar.addi v203 c1_i32_79
  let c512_i32_80 : BitVec 32 := 512#32
  let v205 : BitVec 32 := Scalar.muli v204 c512_i32_80
  v205
def k0_mult55 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_86 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v226 : BitVec 32 := Scalar.muli c4_i32_86 arg7
  let v227 : BitVec 32 := Scalar.addi v57 v226
  let c2_i32_87 : BitVec 32 := 2#32
  let v228 : BitVec 32 := Scalar.addi v227 c2_i32_87
  let c512_i32_88 : BitVec 32 := 512#32
  let v229 : BitVec 32 := Scalar.muli v228 c512_i32_88
  v229
def k0_mult56 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_94 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v250 : BitVec 32 := Scalar.muli c4_i32_94 arg7
  let v251 : BitVec 32 := Scalar.addi v57 v250
  let c3_i32 : BitVec 32 := 3#32
  let v252 : BitVec 32 := Scalar.addi v251 c3_i32
  let c512_i32_95 : BitVec 32 := 512#32
  let v253 : BitVec 32 := Scalar.muli v252 c512_i32_95
  v253
@[reducible] def k0_t7_loop (i : grid0.Coords) : Scf.Loop 32 :=
  let c0_i32_41 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_43 : BitVec 32 := 1#32
  ⟨c0_i32_41, v107, c1_i32_43⟩
def k0_mult57 (i : grid0.Coords) (k0_t7 : Fin (k0_t7_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let c1_i32_43 : BitVec 32 := 1#32
  let arg7 : BitVec 32 := Scf.iv c0_i32_41 c1_i32_43 k0_t7
  let v178 : BitVec 32 := Scalar.muli c2_i32_70 arg7
  let v179 : BitVec 32 := Scalar.addi v84 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off7 (i : grid0.Coords) (k0_t7 : Fin (k0_t7_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let c1_i32_43 : BitVec 32 := 1#32
  let arg7 : BitVec 32 := Scf.iv c0_i32_41 c1_i32_43 k0_t7
  let v178 : BitVec 32 := Scalar.muli c2_i32_70 arg7
  let v179 : BitVec 32 := Scalar.addi v84 v178
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
def k0_mult58 (i : grid0.Coords) (k0_t7 : Fin (k0_t7_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_78 : BitVec 32 := 2#32
  let c0_i32_41 : BitVec 32 := 0#32
  let c1_i32_43 : BitVec 32 := 1#32
  let arg7 : BitVec 32 := Scf.iv c0_i32_41 c1_i32_43 k0_t7
  let v202 : BitVec 32 := Scalar.muli c2_i32_78 arg7
  let v203 : BitVec 32 := Scalar.addi v84 v202
  let c1_i32_79 : BitVec 32 := 1#32
  let v204 : BitVec 32 := Scalar.addi v203 c1_i32_79
  let c512_i32_80 : BitVec 32 := 512#32
  let v205 : BitVec 32 := Scalar.muli v204 c512_i32_80
  v205
@[reducible] def k0_t8_loop (i : grid0.Coords) : Scf.Loop 32 :=
  let c0_i32_41 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let v104 : BitVec 32 := Scalar.addi c0_i32_41 v103
  let c1_i32_44 : BitVec 32 := 1#32
  ⟨v107, v104, c1_i32_44⟩
def k0_mult59 (i : grid0.Coords) (k0_t8 : Fin (k0_t8_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_44 : BitVec 32 := 1#32
  let arg7 : BitVec 32 := Scf.iv v107 c1_i32_44 k0_t8
  let v178 : BitVec 32 := Scalar.muli c2_i32_70 arg7
  let v179 : BitVec 32 := Scalar.addi v84 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off8 (i : grid0.Coords) (k0_t8 : Fin (k0_t8_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_44 : BitVec 32 := 1#32
  let arg7 : BitVec 32 := Scf.iv v107 c1_i32_44 k0_t8
  let v178 : BitVec 32 := Scalar.muli c2_i32_70 arg7
  let v179 : BitVec 32 := Scalar.addi v84 v178
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
def k0_mult60 (i : grid0.Coords) (k0_t8 : Fin (k0_t8_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_78 : BitVec 32 := 2#32
  let c0_i32_41 : BitVec 32 := 0#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_44 : BitVec 32 := 1#32
  let arg7 : BitVec 32 := Scf.iv v107 c1_i32_44 k0_t8
  let v202 : BitVec 32 := Scalar.muli c2_i32_78 arg7
  let v203 : BitVec 32 := Scalar.addi v84 v202
  let c1_i32_79 : BitVec 32 := 1#32
  let v204 : BitVec 32 := Scalar.addi v203 c1_i32_79
  let c512_i32_80 : BitVec 32 := 512#32
  let v205 : BitVec 32 := Scalar.muli v204 c512_i32_80
  v205
@[reducible] def k0_t9_loop (i : grid0.Coords) : Scf.Loop 32 :=
  let c0_i32_53 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_55 : BitVec 32 := 1#32
  ⟨c0_i32_53, v134, c1_i32_55⟩
def k0_mult61 (i : grid0.Coords) (k0_t9 : Fin (k0_t9_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let c1_i32_55 : BitVec 32 := 1#32
  let arg7 : BitVec 32 := Scf.iv c0_i32_53 c1_i32_55 k0_t9
  let v178 : BitVec 32 := Scalar.muli c1_i32_70 arg7
  let v179 : BitVec 32 := Scalar.addi v111 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off9 (i : grid0.Coords) (k0_t9 : Fin (k0_t9_loop i).trips) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let c1_i32_55 : BitVec 32 := 1#32
  let arg7 : BitVec 32 := Scf.iv c0_i32_53 c1_i32_55 k0_t9
  let v178 : BitVec 32 := Scalar.muli c1_i32_70 arg7
  let v179 : BitVec 32 := Scalar.addi v111 v178
  let c0_i32_71 : BitVec 32 := 0#32
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
@[reducible] def k0_t10_loop (i : grid0.Coords) : Scf.Loop 32 :=
  let c0_i32_53 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let v131 : BitVec 32 := Scalar.addi c0_i32_53 v130
  let c1_i32_56 : BitVec 32 := 1#32
  ⟨v134, v131, c1_i32_56⟩
def k0_mult62 (i : grid0.Coords) (k0_t10 : Fin (k0_t10_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg7 : BitVec 32 := Scf.iv v134 c1_i32_56 k0_t10
  let v178 : BitVec 32 := Scalar.muli c1_i32_70 arg7
  let v179 : BitVec 32 := Scalar.addi v111 v178
  let c0_i32_71 : BitVec 32 := 0#32
  let v180 : BitVec 32 := Scalar.addi v179 c0_i32_71
  let c512_i32_72 : BitVec 32 := 512#32
  let v181 : BitVec 32 := Scalar.muli v180 c512_i32_72
  v181
def k0_off10 (i : grid0.Coords) (k0_t10 : Fin (k0_t10_loop i).trips) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg7 : BitVec 32 := Scf.iv v134 c1_i32_56 k0_t10
  let v178 : BitVec 32 := Scalar.muli c1_i32_70 arg7
  let v179 : BitVec 32 := Scalar.addi v111 v178
  let c0_i32_71 : BitVec 32 := 0#32
  let v180 : BitVec 32 := Scalar.addi v179 c0_i32_71
  let c512_i32_72 : BitVec 32 := 512#32
  let v181 : BitVec 32 := Scalar.muli v180 c512_i32_72
  let v182 : BitVec 32 := v181
  let v183 : Index := Scalar.indexCast v182
  let c0_73 : Index := 0#32
  ![v183.toNat, 0]
def k0_mult63 (i : grid0.Coords) : BitVec 32 :=
  let arg1 : BitVec 32 := BitVec.ofNat 32 (i 1).val
  let c512_i32 : BitVec 32 := 512#32
  let v137 : BitVec 32 := Scalar.muli arg1 c512_i32
  v137
def k0_off11 (i : grid0.Coords) : Fin 2 → Nat :=
  let arg1 : BitVec 32 := BitVec.ofNat 32 (i 1).val
  let c512_i32 : BitVec 32 := 512#32
  let v137 : BitVec 32 := Scalar.muli arg1 c512_i32
  let v138 : BitVec 32 := v137
  let v139 : Index := Scalar.indexCast v138
  let c0_57 : Index := 0#32
  ![v139.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel6Ideal.lean ====
variable {F : FTy → Type} [FloatOps F] [Named F]
def κ : String → Option EReal := fun
  | "log2e" => some (((Real.log 2)⁻¹ : ℝ) : EReal)
  | "mask" => some ⊥
  | _ => none
-- ==== Reference6Ideal.lean ====
abbrev S16384x1024 : Shape := ⟨2, ![16384, 1024]⟩
abbrev S_ : Shape := ⟨0, ![]⟩
abbrev S16384x8x128 : Shape := ⟨3, ![16384, 8, 128]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S1024 : Shape := ⟨1, ![1024]⟩
abbrev S8x128x16384 : Shape := ⟨3, ![8, 128, 16384]⟩
abbrev S8x32x1x512 : Shape := ⟨4, ![8, 32, 1, 512]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x8x128, .f32⟩
  | .hbm, ⟨12, _⟩ => ⟨S16384x1024, .f32⟩
  | .hbm, ⟨13, _⟩ => ⟨S16384x8x128, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S1x16384x16384, .i1⟩
  | .hbm, ⟨22, _⟩ => ⟨S_, .f32⟩
  | .hbm, ⟨23, _⟩ => ⟨S_, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S_, .f32⟩
  | .hbm, ⟨34, _⟩ => ⟨S8x16384, .f32⟩
  | .hbm, ⟨35, _⟩ => ⟨S8x16384, .f32⟩
  | .hbm, ⟨36, _⟩ => ⟨S8x16384, .f32⟩
  | .hbm, ⟨37, _⟩ => ⟨S8x16384, .f32⟩
  | .hbm, ⟨38, _⟩ => ⟨S8x16384, .f32⟩
  | .hbm, ⟨39, _⟩ => ⟨S1024, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S_, .i1⟩
  | .hbm, ⟨56, _⟩ => ⟨S1024, .i1⟩
  | .hbm, ⟨57, _⟩ => ⟨S1024, .i1⟩
  | .hbm, ⟨58, _⟩ => ⟨S1024, .i1⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S16384x8x128, .f32⟩
  | .hbm, ⟨66, _⟩ => ⟨S16384x1024, .f32⟩
  | .hbm, ⟨67, _⟩ => ⟨S16384x8x128, .f32⟩
  | .hbm, ⟨68, _⟩ => ⟨S8x16384x16384, .f32⟩
  | .hbm, ⟨69, _⟩ => ⟨S16384, .i32⟩
  | .hbm, ⟨70, _⟩ => ⟨S1x16384, .i32⟩
  | .hbm, ⟨71, _⟩ => ⟨S16384x1, .i32⟩
  | .hbm, ⟨72, _⟩ => ⟨S16384x16384, .i32⟩
  | .hbm, ⟨73, _⟩ => ⟨S16384x16384, .i32⟩
  | .hbm, ⟨74, _⟩ => ⟨S16384x16384, .i1⟩
  | .hbm, ⟨75, _⟩ => ⟨S1x16384x16384, .i1⟩
  | .hbm, ⟨76, _⟩ => ⟨S_, .f32⟩
  | .hbm, ⟨77, _⟩ => ⟨S_, .f32⟩
  | .hbm, ⟨78, _⟩ => ⟨S8x16384x16384, .i1⟩
  | .hbm, ⟨79, _⟩ => ⟨S8x16384x16384, .f32⟩
  | .hbm, ⟨80, _⟩ => ⟨S8x16384x16384, .f32⟩
  | .hbm, ⟨81, _⟩ => ⟨S_, .f32⟩
  | .hbm, ⟨82, _⟩ => ⟨S8x16384, .f32⟩
  | .hbm, ⟨83, _⟩ => ⟨S_, .f32⟩
  | .hbm, ⟨84, _⟩ => ⟨S8x16384, .f32⟩
  | .hbm, ⟨85, _⟩ => ⟨S8x16384, .f32⟩
  | .hbm, ⟨86, _⟩ => ⟨S8x16384x1, .f32⟩
  | .hbm, ⟨87, _⟩ => ⟨S8x16384x16384, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384, .f32⟩
  | .hbm, ⟨92, _⟩ => ⟨S8x16384x1, .f32⟩
  | .hbm, ⟨93, _⟩ => ⟨S8x16384x16384, .f32⟩
  | .hbm, ⟨94, _⟩ => ⟨S8x16384x16384, .f32⟩
  | .hbm, ⟨95, _⟩ => ⟨S16384x1024, .f32⟩
  | .hbm, ⟨96, _⟩ => ⟨S16384x8x128, .f32⟩
  | .hbm, ⟨97, _⟩ => ⟨S8x128x16384, .f32⟩
  | .hbm, ⟨98, _⟩ => ⟨S16384x8x128, .f32⟩
  | .hbm, ⟨99, _⟩ => ⟨S16384x1024, .f32⟩
  | .hbm, ⟨100, _⟩ => ⟨S_, .f32⟩
  | .hbm, ⟨101, _⟩ => ⟨S_, .f32⟩
  | .hbm, ⟨102, _⟩ => ⟨S16384x1024, .i1⟩
  | .hbm, ⟨103, _⟩ => ⟨S16384x1024, .f32⟩
  | .hbm, ⟨104, _⟩ => ⟨S16384x1024, .f32⟩
  | .hbm, ⟨105, _⟩ => ⟨S8x32x1x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v28 : Ref sig .tc := ⟨.hbm, 61, rfl⟩
abbrev main_c_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v42 : Ref sig .tc := ⟨.hbm, 80, rfl⟩
abbrev main_cst_7 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_9 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_10 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v59 : Ref sig .tc := ⟨.hbm, 104, rfl⟩
abbrev main_v60 : Ref sig .tc := ⟨.hbm, 105, rfl⟩

abbrev nD : Nat := 1
abbrev τ : Topo := Topo.v7x

variable {F : FTy → Type} [FloatOps F]
-- ==== Kernel7.lean ====
abbrev S16384x1024 : Shape := ⟨2, ![16384, 1024]⟩
abbrev S1x1024 : Shape := ⟨2, ![1, 1024]⟩
abbrev S8x2x1024x704 : Shape := ⟨4, ![8, 2, 1024, 704]⟩
abbrev S4x704x1024 : Shape := ⟨3, ![4, 704, 1024]⟩
abbrev S8x16384x704 : Shape := ⟨3, ![8, 16384, 704]⟩
abbrev S256x1024 : Shape := ⟨2, ![256, 1024]⟩
abbrev S8x1x1024x704 : Shape := ⟨4, ![8, 1, 1024, 704]⟩
abbrev S8x256x704 : Shape := ⟨3, ![8, 256, 704]⟩
abbrev S256 : Shape := ⟨1, ![256]⟩
abbrev S256x1 : Shape := ⟨2, ![256, 1]⟩
abbrev S1x1x1024x704 : Shape := ⟨4, ![1, 1, 1024, 704]⟩
abbrev S1024x704 : Shape := ⟨2, ![1024, 704]⟩
abbrev S256x704 : Shape := ⟨2, ![256, 704]⟩
abbrev S1x256x704 : Shape := ⟨3, ![1, 256, 704]⟩
abbrev S1x704x1024 : Shape := ⟨3, ![1, 704, 1024]⟩
abbrev S704x1024 : Shape := ⟨2, ![704, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S8x2x1024x704, .bf16⟩
  | .hbm, ⟨3, _⟩ => ⟨S4x704x1024, .bf16⟩
  | .hbm, ⟨4, _⟩ => ⟨S16384x1024, .f32⟩
  | .hbm, ⟨5, _⟩ => ⟨S16384x1024, .bf16⟩
  | .hbm, ⟨6, _⟩ => ⟨S8x16384x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1x1024x704, .bf16⟩
  | .local _ .vmem, ⟨4, _⟩ => ⟨S4x704x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S8x256x704, .bf16⟩
  | .local _ .vmem, ⟨10, _⟩ => ⟨S8x256x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16384x1024 : Shape := ⟨2, ![16384, 1024]⟩
abbrev S1x1024 : Shape := ⟨2, ![1, 1024]⟩
abbrev S8x2x1024x704 : Shape := ⟨4, ![8, 2, 1024, 704]⟩
abbrev S4x704x1024 : Shape := ⟨3, ![4, 704, 1024]⟩
abbrev S_ : Shape := ⟨0, ![]⟩
abbrev S16384 : Shape := ⟨1, ![16384]⟩
abbrev S16384x1 : Shape := ⟨2, ![16384, 1]⟩
abbrev S8x1x1024x704 : Shape := ⟨4, ![8, 1, 1024, 704]⟩
abbrev S8x1024x704 : Shape := ⟨3, ![8, 1024, 704]⟩
abbrev S8x704x16384 : Shape := ⟨3, ![8, 704, 16384]⟩
abbrev S8x16384x704 : Shape := ⟨3, ![8, 16384, 704]⟩
abbrev S4x16384x704 : Shape := ⟨3, ![4, 16384, 704]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S8x2x1024x704, .bf16⟩
  | .hbm, ⟨3, _⟩ => ⟨S4x704x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S8x1x1024x704, .bf16⟩
  | .hbm, ⟨20, _⟩ => ⟨S8x1024x704, .bf16⟩
  | .hbm, ⟨21, _⟩ => ⟨S8x1024x704, .f32⟩
  | .hbm, ⟨22, _⟩ => ⟨S8x704x16384, .f32⟩
  | .hbm, ⟨23, _⟩ => ⟨S8x16384x704, .f32⟩
  | .hbm, ⟨24, _⟩ => ⟨S4x16384x704, .f32⟩
  | .hbm, ⟨25, _⟩ => ⟨S4x16384x704, .f32⟩
  | .hbm, ⟨26, _⟩ => ⟨S4x16384x704, .f32⟩
  | .hbm, ⟨27, _⟩ => ⟨S_, .f32⟩
  | .hbm, ⟨28, _⟩ => ⟨S4x16384x704, .f32⟩
  | .hbm, ⟨29, _⟩ => ⟨S4x16384x704, .f32⟩
  | .hbm, ⟨30, _⟩ => ⟨S_, .f32⟩
  | .hbm, ⟨31, _⟩ => ⟨S4x16384x704, .f32⟩
  | .hbm, ⟨32, _⟩ => ⟨S4x16384x704, .f32⟩
  | .hbm, ⟨33, _⟩ => ⟨S4x16384x704, .f32⟩
  | .hbm, ⟨34, _⟩ => ⟨S4x16384x704, .f32⟩
  | .hbm, ⟨35, _⟩ => ⟨S4x16384x704, .f32⟩
  | .hbm, ⟨36, _⟩ => ⟨S4x704x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S8x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.KernelIdeal.Offs.lean ====
module

public import proofs.«01_k».proof.Proof.Gen.KernelIdeal

@[expose] public section

/-! The trip counts of the kernel's loops and the offsets of its accesses, in closed form. With `n = 31 - kj` query
blocks below the diagonal one, the loop unrolled 8 times makes `n / 8` trips, the one unrolled 4 times `n % 8 / 4`, the
one unrolled 2 times `n % 4 / 2` and the last one `n % 2`; the four remainder loops make none. -/

set_option maxRecDepth 16384
-- each of these closed forms is decided over the whole grid: one at a time
set_option Elab.async false

namespace Cert.KernelIdeal.Attn

open Idealize.ShloMosaic Idealize.ShloMosaic.TcCoe Cert.KernelIdeal.Gen

theorem trips1 : ∀ i : grid0.Coords, (k0_t1_loop i).trips = (31 - (i 1).val) / 8 := by decide +kernel
theorem trips2 : ∀ i : grid0.Coords, (k0_t2_loop i).trips = 0 := by decide +kernel
theorem trips3 : ∀ i : grid0.Coords, (k0_t3_loop i).trips = (31 - (i 1).val) % 8 / 4 := by decide +kernel
theorem trips4 : ∀ i : grid0.Coords, (k0_t4_loop i).trips = 0 := by decide +kernel
theorem trips5 : ∀ i : grid0.Coords, (k0_t5_loop i).trips = (31 - (i 1).val) % 4 / 2 := by decide +kernel
theorem trips6 : ∀ i : grid0.Coords, (k0_t6_loop i).trips = 0 := by decide +kernel
theorem trips7 : ∀ i : grid0.Coords, (k0_t7_loop i).trips = (31 - (i 1).val) % 2 := by decide +kernel
theorem trips8 : ∀ i : grid0.Coords, (k0_t8_loop i).trips = 0 := by decide +kernel

theorem off1 : ∀ i : grid0.Coords, k0_off1 i = ![512 * (i 1).val, 0] := by decide +kernel
theorem off2 : ∀ i : grid0.Coords, k0_off2 i = ![0, (i 1).val, 0, 0] := by decide +kernel

theorem off3 : ∀ (i : grid0.Coords) (t : Fin (k0_t1_loop i).trips) (r : Fin 8),
    k0_off3 i t (BitVec.ofNat 32 r.val) = ![512 * ((i 1).val + 1 + 8 * t.val + r.val), 0] := by decide +kernel
theorem off4 : ∀ (i : grid0.Coords) (t : Fin (k0_t1_loop i).trips) (r : Fin 8),
    k0_off4 i t (BitVec.ofNat 32 r.val) = ![0, (i 1).val + 1 + 8 * t.val + r.val, 0, 0] := by decide +kernel
theorem off7 : ∀ (i : grid0.Coords) (t : Fin (k0_t3_loop i).trips) (r : Fin 4),
    k0_off7 i t (BitVec.ofNat 32 r.val) = ![512 * ((i 1).val + 1 + 8 * ((31 - (i 1).val) / 8) + 4 * t.val + r.val), 0] := by decide +kernel
theorem off8 : ∀ (i : grid0.Coords) (t : Fin (k0_t3_loop i).trips) (r : Fin 4),
    k0_off8 i t (BitVec.ofNat 32 r.val) = ![0, (i 1).val + 1 + 8 * ((31 - (i 1).val) / 8) + 4 * t.val + r.val, 0, 0] := by decide +kernel
theorem off11 : ∀ (i : grid0.Coords) (t : Fin (k0_t5_loop i).trips) (r : Fin 2),
    k0_off11 i t (BitVec.ofNat 32 r.val) = ![512 * ((i 1).val + 1 + 4 * ((31 - (i 1).val) / 4) + 2 * t.val + r.val), 0] := by decide +kernel
theorem off12 : ∀ (i : grid0.Coords) (t : Fin (k0_t5_loop i).trips) (r : Fin 2),
    k0_off12 i t (BitVec.ofNat 32 r.val) = ![0, (i 1).val + 1 + 4 * ((31 - (i 1).val) / 4) + 2 * t.val + r.val, 0, 0] := by decide +kernel
theorem off15 : ∀ (i : grid0.Coords) (t : Fin (k0_t7_loop i).trips),
    k0_off15 i t = ![512 * ((i 1).val + 1 + 2 * ((31 - (i 1).val) / 2) + t.val), 0] := by decide +kernel
theorem off16 : ∀ (i : grid0.Coords) (t : Fin (k0_t7_loop i).trips),
    k0_off16 i t = ![0, (i 1).val + 1 + 2 * ((31 - (i 1).val) / 2) + t.val, 0, 0] := by decide +kernel

end Cert.KernelIdeal.Attn

end
-- ==== Proof.KernelIdeal.Loops.lean ====
module

public import proofs.«01_k».proof.Proof.KernelIdeal.Offs
public import proofs.«01_k».proof.Proof.Gen.KernelIdeal.Skeleton
public import Idealize.ShloMosaic.Lib.Exec
public import Idealize.ShloMosaic.Lib.Tactic
public import Idealize.ShloMosaic.Lib.Pipeline.Kit

/-! The four unrolled loops over the query blocks below the diagonal, each as the same step repeated: a block
adds its share to the sums for the keys and the values, and its share for the queries into its own rows. -/

@[expose] public section
set_option maxRecDepth 16384
set_option maxHeartbeats 4000000
noncomputable section
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
local notation "𝕄G" => MT nD τ sig Unit (Elt F) ℕ (UR sig nD τ) ℕ

section step

variable (arg2 : Memref sig .tc .vmem S16384x128 .bf16) (arg5 : Memref sig .tc .vmem S16384x128 .bf16)
  (arg6 arg7 : Memref sig .tc .vmem S1x32x1x512 .f32) (arg8 : Memref sig .tc .vmem S16384x128 .f32)
  (v3 v4 : Vec F S512x128 .bf16)
  (X2 : BufTy.Contents (Elt F) arg2.view.ty) (X5 : BufTy.Contents (Elt F) arg5.view.ty)
  (X6 : BufTy.Contents (Elt F) arg6.view.ty) (X7 : BufTy.Contents (Elt F) arg7.view.ty)

/-- What a block changes: the sums for the keys and for the values, and the rows for the queries. -/
abbrev St (F : FTy → Type) [FloatOps F] (arg8 : Memref sig .tc .vmem S16384x128 .f32) : Type :=
  (FVec F S512x128 .f32 × FVec F S512x128 .f32) × BufTy.Contents (Elt F) arg8.view.ty

/-- The same, the rows for the queries as the list of pieces written so far over `G`. -/
abbrev Ps (F : FTy → Type) [FloatOps F] : Type :=
  (FVec F S512x128 .f32 × FVec F S512x128 .f32) × List (View.Piece (Elt F) S16384x128 .f32)

/-- One block whose rows start at `off`, whose row of scalars is at `off'`. -/
def pieceAt (G : BufTy.Contents (Elt F) arg8.view.ty)
    (off : Fin 2 → ℕ) (h : ∀ a, off a + S512x128.size a ≤ S16384x128.size a)
    (off' : Fin 4 → ℕ) (h' : ∀ a, off' a + S1x1x1x512.size a ≤ S1x32x1x512.size a) (s : Ps F) : Ps F :=
  let q := View.readAt (Elt F) arg2.view (Rect.unit (s := S16384x128) off S512x128.size h).toLoadRect X2
  let d := View.readAt (Elt F) arg5.view (Rect.unit (s := S16384x128) off S512x128.size h).toLoadRect X5
  let l := View.readAt (Elt F) arg6.view (Rect.unit (s := S1x32x1x512) off' S1x1x1x512.size h').toLoadRect X6
  let e := View.readAt (Elt F) arg7.view (Rect.unit (s := S1x32x1x512) off' S1x1x1x512.size h').toLoadRect X7
  let g := View.readAt (Elt F) arg8.view (Rect.unit (s := S16384x128) off S512x128.size h).toLoadRect (arg8.view.writes (Elt F) G s.2)
  ((k0_pay189 v3 v4 s.1.1 q d l e, k0_pay187 v3 s.1.2 q d l),
    ⟨Rect.unit (s := S16384x128) off S512x128.size h, k0_pay190 v3 v4 q d l e g⟩ :: s.2)

/-- The state the pieces make. -/
def ofPs (G : BufTy.Contents (Elt F) arg8.view.ty) (s : Ps F) : St F arg8 := (s.1, arg8.view.writes (Elt F) G s.2)

/-- One block on the state. -/
def stepAt (off : Fin 2 → ℕ) (h : ∀ a, off a + S512x128.size a ≤ S16384x128.size a)
    (off' : Fin 4 → ℕ) (h' : ∀ a, off' a + S1x1x1x512.size a ≤ S1x32x1x512.size a) (s : St F arg8) : St F arg8 :=
  ofPs arg8 s.2 (pieceAt arg2 arg5 arg6 arg7 arg8 v3 v4 X2 X5 X6 X7 s.2 off h off' h' (s.1, []))

theorem stepAt_ofPs (G : BufTy.Contents (Elt F) arg8.view.ty)
    (off : Fin 2 → ℕ) (h : ∀ a, off a + S512x128.size a ≤ S16384x128.size a)
    (off' : Fin 4 → ℕ) (h' : ∀ a, off' a + S1x1x1x512.size a ≤ S1x32x1x512.size a) (s : Ps F) :
    stepAt arg2 arg5 arg6 arg7 arg8 v3 v4 X2 X5 X6 X7 off h off' h' (ofPs arg8 G s)
      = ofPs arg8 G (pieceAt arg2 arg5 arg6 arg7 arg8 v3 v4 X2 X5 X6 X7 G off h off' h' s) := rfl

theorem rows_inb {n : ℕ} (h : n < 32) : ∀ a, (![512 * n, 0] : Fin 2 → ℕ) a + S512x128.size a ≤ S16384x128.size a := by
  intro a; fin_cases a <;> simp [S512x128, S16384x128] <;> omega

theorem row_inb {n : ℕ} (h : n < 32) :
    ∀ a, (![0, n, 0, 0] : Fin 4 → ℕ) a + S1x1x1x512.size a ≤ S1x32x1x512.size a := by
  intro a; fin_cases a <;> simp [S1x1x1x512, S1x32x1x512]; omega

/-- Block `n`. -/
def step (n : ℕ) (s : St F arg8) : St F arg8 :=
  if h : n < 32 then stepAt arg2 arg5 arg6 arg7 arg8 v3 v4 X2 X5 X6 X7 _ (rows_inb h) _ (row_inb h) s else s

/-- `m` blocks from block `b` on. -/
def steps (b : ℕ) (s : St F arg8) : ℕ → St F arg8
  | 0 => s
  | m + 1 => step arg2 arg5 arg6 arg7 arg8 v3 v4 X2 X5 X6 X7 (b + m) (steps b s m)

theorem stepAt_eq {off : Fin 2 → ℕ} (h : ∀ a, off a + S512x128.size a ≤ S16384x128.size a)
    {off' : Fin 4 → ℕ} (h' : ∀ a, off' a + S1x1x1x512.size a ≤ S1x32x1x512.size a) (s : St F arg8)
    (n : ℕ) (e : off = ![512 * n, 0]) (e' : off' = ![0, n, 0, 0]) :
    stepAt arg2 arg5 arg6 arg7 arg8 v3 v4 X2 X5 X6 X7 off h off' h' s
      = step arg2 arg5 arg6 arg7 arg8 v3 v4 X2 X5 X6 X7 n s := by
  subst e e'
  have hn : n < 32 := by
    have := h' 1
    simp [S1x1x1x512, S1x32x1x512] at this
    omega
  rw [step, dif_pos hn]

theorem steps_add (b : ℕ) (s : St F arg8) (m k : ℕ) :
    steps arg2 arg5 arg6 arg7 arg8 v3 v4 X2 X5 X6 X7 b s (m + k)
      = steps arg2 arg5 arg6 arg7 arg8 v3 v4 X2 X5 X6 X7 (b + m)
          (steps arg2 arg5 arg6 arg7 arg8 v3 v4 X2 X5 X6 X7 b s m) k := by
  induction k with
  | zero => rfl
  | succ k ih => rw [← Nat.add_assoc, steps, ih, steps, Nat.add_assoc]

end step

instance closed3_0 (i : grid0.Coords) (t : Fin (k0_t1_loop i).trips) : ClosedOff (k0_off3 i t 0#32) := ⟨_, off3 i t 0⟩
instance closed3_1 (i : grid0.Coords) (t : Fin (k0_t1_loop i).trips) : ClosedOff (k0_off3 i t 1#32) := ⟨_, off3 i t 1⟩
instance closed3_2 (i : grid0.Coords) (t : Fin (k0_t1_loop i).trips) : ClosedOff (k0_off3 i t 2#32) := ⟨_, off3 i t 2⟩
instance closed3_3 (i : grid0.Coords) (t : Fin (k0_t1_loop i).trips) : ClosedOff (k0_off3 i t 3#32) := ⟨_, off3 i t 3⟩
instance closed3_4 (i : grid0.Coords) (t : Fin (k0_t1_loop i).trips) : ClosedOff (k0_off3 i t 4#32) := ⟨_, off3 i t 4⟩
instance closed3_5 (i : grid0.Coords) (t : Fin (k0_t1_loop i).trips) : ClosedOff (k0_off3 i t 5#32) := ⟨_, off3 i t 5⟩
instance closed3_6 (i : grid0.Coords) (t : Fin (k0_t1_loop i).trips) : ClosedOff (k0_off3 i t 6#32) := ⟨_, off3 i t 6⟩
instance closed3_7 (i : grid0.Coords) (t : Fin (k0_t1_loop i).trips) : ClosedOff (k0_off3 i t 7#32) := ⟨_, off3 i t 7⟩
instance closed7_0 (i : grid0.Coords) (t : Fin (k0_t3_loop i).trips) : ClosedOff (k0_off7 i t 0#32) := ⟨_, off7 i t 0⟩
instance closed7_1 (i : grid0.Coords) (t : Fin (k0_t3_loop i).trips) : ClosedOff (k0_off7 i t 1#32) := ⟨_, off7 i t 1⟩
instance closed7_2 (i : grid0.Coords) (t : Fin (k0_t3_loop i).trips) : ClosedOff (k0_off7 i t 2#32) := ⟨_, off7 i t 2⟩
instance closed7_3 (i : grid0.Coords) (t : Fin (k0_t3_loop i).trips) : ClosedOff (k0_off7 i t 3#32) := ⟨_, off7 i t 3⟩
instance closed11_0 (i : grid0.Coords) (t : Fin (k0_t5_loop i).trips) : ClosedOff (k0_off11 i t 0#32) := ⟨_, off11 i t 0⟩
instance closed11_1 (i : grid0.Coords) (t : Fin (k0_t5_loop i).trips) : ClosedOff (k0_off11 i t 1#32) := ⟨_, off11 i t 1⟩
instance closed15 (i : grid0.Coords) (t : Fin (k0_t7_loop i).trips) : ClosedOff (k0_off15 i t) := ⟨_, off15 i t⟩

section loops

variable (𝒱 : Variants) (c : Dev nD) (bd : Option 𝒱.V) (E : Set ℕ) (i : grid0.Coords)
  (arg2 : Memref sig .tc .vmem S16384x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S16384x128 .bf16) (harg5 : arg5.IsWhole)
  (arg6 : Memref sig .tc .vmem S1x32x1x512 .f32) (harg6 : arg6.IsWhole)
  (arg7 : Memref sig .tc .vmem S1x32x1x512 .f32) (harg7 : arg7.IsWhole)
  (arg8 : Memref sig .tc .vmem S16384x128 .f32) (harg8 : arg8.IsWhole)
  (arg9 : Memref sig .tc .vmem S512x128 .f32) (harg9 : arg9.IsWhole)
  (arg10 : Memref sig .tc .vmem S512x128 .f32) (harg10 : arg10.IsWhole)
  (v3 v4 : Vec F S512x128 .bf16)
  (X2 : BufTy.Contents (Elt F) arg2.view.ty) (X5 : BufTy.Contents (Elt F) arg5.view.ty)
  (X6 : BufTy.Contents (Elt F) arg6.view.ty) (X7 : BufTy.Contents (Elt F) arg7.view.ty)

/-- The buffers a block reads, and the rows for the queries. -/
abbrev Held (f8 : BufTy.Contents (Elt F) arg8.view.ty) : sProp 𝕄G :=
  iprop((arg2.view.loc (c : Thread nD τ) ↦[arg2.view.set]{fullShare} X2)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} f8))

/-- The rows for the queries after `m k` blocks from block `b` on; at `k = 0`, what they were. -/
abbrev rowsAt (b : ℕ) (s : St F arg8) (m : ℕ → ℕ) (k : ℕ) : BufTy.Contents (Elt F) arg8.view.ty :=
  Nat.rec (motive := fun _ => BufTy.Contents (Elt F) arg8.view.ty) s.2
    (fun j _ => (steps arg2 arg5 arg6 arg7 arg8 v3 v4 X2 X5 X6 X7 b s (m (j + 1))).2) k

theorem rowsAt_eq (b : ℕ) (s : St F arg8) {m : ℕ → ℕ} (hm : m 0 = 0) (k : ℕ) :
    rowsAt arg2 arg5 arg6 arg7 arg8 v3 v4 X2 X5 X6 X7 b s m k
      = (steps arg2 arg5 arg6 arg7 arg8 v3 v4 X2 X5 X6 X7 b s (m k)).2 := by
  cases k with
  | zero => rw [hm]; rfl
  | succ k => rfl

/-- After `m k` blocks from block `b` on. -/
abbrev Done (b : ℕ) (s : St F arg8) (m : ℕ → ℕ) (k : ℕ) (acc : FVec F S512x128 .f32 × FVec F S512x128 .f32) : sProp 𝕄G :=
  iprop((arg2.view.loc (c : Thread nD τ) ↦[arg2.view.set]{fullShare} X2)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (∃ f, (arg8.view.loc (c : Thread nD τ) ↦[arg8.view.set]{fullShare} f)
        ∗ ⌜f = rowsAt arg2 arg5 arg6 arg7 arg8 v3 v4 X2 X5 X6 X7 b s m k⌝)
    ∗ ⌜acc = (steps arg2 arg5 arg6 arg7 arg8 v3 v4 X2 X5 X6 X7 b s (m k)).1⌝)

/-- A trip run from the state after `m k` blocks ends after `m (k + 1)`. -/
theorem done_step {b : ℕ} {s : St F arg8} {m : ℕ → ℕ} (hm : m 0 = 0) {k : ℕ}
    {P : Prog (TpuEff nD τ sig (Elt F) Λ₀ .tc) (FVec F S512x128 .f32 × FVec F S512x128 .f32)} (r : St F arg8)
    (hr : r = steps arg2 arg5 arg6 arg7 arg8 v3 v4 X2 X5 X6 X7 b s (m (k + 1)))
    (h : Held (F := F) c arg2 arg5 arg6 arg7 arg8 X2 X5 X6 X7 (steps arg2 arg5 arg6 arg7 arg8 v3 v4 X2 X5 X6 X7 b s (m k)).2
      ⊢ wp frame (wpE (defs₀ (F := F)) 𝒱 (c : Thread nD τ) bd) E P
        (fun yld => iprop(⌜yld = r.1⌝ ∗ Held (F := F) c arg2 arg5 arg6 arg7 arg8 X2 X5 X6 X7 r.2)))
    {f : BufTy.Contents (Elt F) arg8.view.ty}
    (hf : f = rowsAt arg2 arg5 arg6 arg7 arg8 v3 v4 X2 X5 X6 X7 b s m k) :
    Held (F := F) c arg2 arg5 arg6 arg7 arg8 X2 X5 X6 X7 f
      ⊢ wp frame (wpE (defs₀ (F := F)) 𝒱 (c : Thread nD τ) bd) E P
        (fun yld => Done (F := F) c arg2 arg5 arg6 arg7 arg8 v3 v4 X2 X5 X6 X7 b s m (k + 1) yld) := by
  rw [rowsAt_eq arg2 arg5 arg6 arg7 arg8 v3 v4 X2 X5 X6 X7 b s hm] at hf
  subst hf
  iintro H
  iapply (wp_wand_r frame (wpE (defs₀ (F := F)) 𝒱 (c : Thread nD τ) bd) E)
  isplitl [H]
  · iapply h; iexact H
  · iintro %yld ⟨%h_res, HR_arg2, HR_arg5, HR_arg6, HR_arg7, HW_arg8⟩
    isplitl [HR_arg2]; · iexact HR_arg2
    isplitl [HR_arg5]; · iexact HR_arg5
    isplitl [HR_arg6]; · iexact HR_arg6
    isplitl [HR_arg7]; · iexact HR_arg7
    isplitl [HW_arg8]
    · iexists _; isplitl [HW_arg8]; · iexact HW_arg8
      ipureintro; exact congrArg Prod.snd hr
    ipureintro; rw [h_res, hr]

theorem trip7 (v97_0 v97_1 v99 v101 v115 v116) (k : Fin (k0_t7_loop i).trips)
    (acc : FVec F S512x128 .f32 × FVec F S512x128 .f32) (f8 : BufTy.Contents (Elt F) arg8.view.ty) :
    Held (F := F) c arg2 arg5 arg6 arg7 arg8 X2 X5 X6 X7 f8
      ⊢ wp frame (wpE (defs₀ (F := F)) 𝒱 (c : Thread nD τ) bd) E (k0_t7_body (F := F) i arg2 harg2 arg3 harg3 arg4 harg4 arg5 harg5 arg6 harg6 arg7 harg7 arg8 harg8 arg9 harg9 arg10 harg10 v3 v4 v97_0 v97_1 v99 v101 v115 v116 k acc)
        (fun yld => iprop(⌜yld = (stepAt arg2 arg5 arg6 arg7 arg8 v3 v4 X2 X5 X6 X7 (k0_off15 i k) (k0_off15_inb i k) (k0_off16 i k) (k0_off16_inb i k) (acc, f8)).1⌝
          ∗ Held (F := F) c arg2 arg5 arg6 arg7 arg8 X2 X5 X6 X7 (stepAt arg2 arg5 arg6 arg7 arg8 v3 v4 X2 X5 X6 X7 (k0_off15 i k) (k0_off15_inb i k) (k0_off16 i k) (k0_off16_inb i k) (acc, f8)).2)) := by
  unfold k0_t7_body
  iintro ⟨HR_arg2, HR_arg5, HR_arg6, HR_arg7, HW_arg8⟩
  sl_exec
  sl_step
  isplitr
  · ipureintro; rfl
  isplitl [HR_arg2]; · iexact HR_arg2
  isplitl [HR_arg5]; · iexact HR_arg5
  isplitl [HR_arg6]; · iexact HR_arg6
  isplitl [HR_arg7]; · iexact HR_arg7
  iexact HW_arg8

/-- The two blocks of a trip. -/
def two (i : grid0.Coords) (k : Fin (k0_t5_loop i).trips) (s : St F arg8) : St F arg8 :=
  stepAt arg2 arg5 arg6 arg7 arg8 v3 v4 X2 X5 X6 X7 (k0_off11 i k 1#32) (k0_off11_inb i k 1) (k0_off12 i k 1#32) (k0_off12_inb i k 1)
  (stepAt arg2 arg5 arg6 arg7 arg8 v3 v4 X2 X5 X6 X7 (k0_off11 i k 0#32) (k0_off11_inb i k 0) (k0_off12 i k 0#32) (k0_off12_inb i k 0) s)

/-- The four blocks of a trip. -/
def four (i : grid0.Coords) (k : Fin (k0_t3_loop i).trips) (s : St F arg8) : St F arg8 :=
  stepAt arg2 arg5 arg6 arg7 arg8 v3 v4 X2 X5 X6 X7 (k0_off7 i k 3#32) (k0_off7_inb i k 3) (k0_off8 i k 3#32) (k0_off8_inb i k 3)
  (stepAt arg2 arg5 arg6 arg7 arg8 v3 v4 X2 X5 X6 X7 (k0_off7 i k 2#32) (k0_off7_inb i k 2) (k0_off8 i k 2#32) (k0_off8_inb i k 2)
  (stepAt arg2 arg5 arg6 arg7 arg8 v3 v4 X2 X5 X6 X7 (k0_off7 i k 1#32) (k0_off7_inb i k 1) (k0_off8 i k 1#32) (k0_off8_inb i k 1)
  (stepAt arg2 arg5 arg6 arg7 arg8 v3 v4 X2 X5 X6 X7 (k0_off7 i k 0#32) (k0_off7_inb i k 0) (k0_off8 i k 0#32) (k0_off8_inb i k 0) s)))

/-- The eight blocks of a trip. -/
def eight (i : grid0.Coords) (k : Fin (k0_t1_loop i).trips) (s : St F arg8) : St F arg8 :=
  stepAt arg2 arg5 arg6 arg7 arg8 v3 v4 X2 X5 X6 X7 (k0_off3 i k 7#32) (k0_off3_inb i k 7) (k0_off4 i k 7#32) (k0_off4_inb i k 7)
  (stepAt arg2 arg5 arg6 arg7 arg8 v3 v4 X2 X5 X6 X7 (k0_off3 i k 6#32) (k0_off3_inb i k 6) (k0_off4 i k 6#32) (k0_off4_inb i k 6)
  (stepAt arg2 arg5 arg6 arg7 arg8 v3 v4 X2 X5 X6 X7 (k0_off3 i k 5#32) (k0_off3_inb i k 5) (k0_off4 i k 5#32) (k0_off4_inb i k 5)
  (stepAt arg2 arg5 arg6 arg7 arg8 v3 v4 X2 X5 X6 X7 (k0_off3 i k 4#32) (k0_off3_inb i k 4) (k0_off4 i k 4#32) (k0_off4_inb i k 4)
  (stepAt arg2 arg5 arg6 arg7 arg8 v3 v4 X2 X5 X6 X7 (k0_off3 i k 3#32) (k0_off3_inb i k 3) (k0_off4 i k 3#32) (k0_off4_inb i k 3)
  (stepAt arg2 arg5 arg6 arg7 arg8 v3 v4 X2 X5 X6 X7 (k0_off3 i k 2#32) (k0_off3_inb i k 2) (k0_off4 i k 2#32) (k0_off4_inb i k 2)
  (stepAt arg2 arg5 arg6 arg7 arg8 v3 v4 X2 X5 X6 X7 (k0_off3 i k 1#32) (k0_off3_inb i k 1) (k0_off4 i k 1#32) (k0_off4_inb i k 1)
  (stepAt arg2 arg5 arg6 arg7 arg8 v3 v4 X2 X5 X6 X7 (k0_off3 i k 0#32) (k0_off3_inb i k 0) (k0_off4 i k 0#32) (k0_off4_inb i k 0) s)))))))

/-- The two blocks of a trip, on the pieces. -/
def twoP (G : BufTy.Contents (Elt F) arg8.view.ty) (i : grid0.Coords) (k : Fin (k0_t5_loop i).trips) (s : Ps F) : Ps F :=
  pieceAt arg2 arg5 arg6 arg7 arg8 v3 v4 X2 X5 X6 X7 G (k0_off11 i k 1#32) (k0_off11_inb i k 1) (k0_off12 i k 1#32) (k0_off12_inb i k 1)
  (pieceAt arg2 arg5 arg6 arg7 arg8 v3 v4 X2 X5 X6 X7 G (k0_off11 i k 0#32) (k0_off11_inb i k 0) (k0_off12 i k 0#32) (k0_off12_inb i k 0) s)

theorem two_ofPs (G : BufTy.Contents (Elt F) arg8.view.ty) (i : grid0.Coords) (k : Fin (k0_t5_loop i).trips) (s : Ps F) :
    two arg2 arg5 arg6 arg7 arg8 v3 v4 X2 X5 X6 X7 i k (ofPs arg8 G s)
      = ofPs arg8 G (twoP arg2 arg5 arg6 arg7 arg8 v3 v4 X2 X5 X6 X7 G i k s) := by
  simp only [two, twoP, stepAt_ofPs]

/-- The four blocks of a trip, on the pieces. -/
def fourP (G : BufTy.Contents (Elt F) arg8.view.ty) (i : grid0.Coords) (k : Fin (k0_t3_loop i).trips) (s : Ps F) : Ps F :=
  pieceAt arg2 arg5 arg6 arg7 arg8 v3 v4 X2 X5 X6 X7 G (k0_off7 i k 3#32) (k0_off7_inb i k 3) (k0_off8 i k 3#32) (k0_off8_inb i k 3)
  (pieceAt arg2 arg5 arg6 arg7 arg8 v3 v4 X2 X5 X6 X7 G (k0_off7 i k 2#32) (k0_off7_inb i k 2) (k0_off8 i k 2#32) (k0_off8_inb i k 2)
  (pieceAt arg2 arg5 arg6 arg7 arg8 v3 v4 X2 X5 X6 X7 G (k0_off7 i k 1#32) (k0_off7_inb i k 1) (k0_off8 i k 1#32) (k0_off8_inb i k 1)
  (pieceAt arg2 arg5 arg6 arg7 arg8 v3 v4 X2 X5 X6 X7 G (k0_off7 i k 0#32) (k0_off7_inb i k 0) (k0_off8 i k 0#32) (k0_off8_inb i k 0) s)))

theorem four_ofPs (G : BufTy.Contents (Elt F) arg8.view.ty) (i : grid0.Coords) (k : Fin (k0_t3_loop i).trips) (s : Ps F) :
    four arg2 arg5 arg6 arg7 arg8 v3 v4 X2 X5 X6 X7 i k (ofPs arg8 G s)
      = ofPs arg8 G (fourP arg2 arg5 arg6 arg7 arg8 v3 v4 X2 X5 X6 X7 G i k s) := by
  simp only [four, fourP, stepAt_ofPs]

theorem trip5 (v97_0 v97_1 v99 v101 v115 v116) (k : Fin (k0_t5_loop i).trips)
    (acc : FVec F S512x128 .f32 × FVec F S512x128 .f32) (f8 : BufTy.Contents (Elt F) arg8.view.ty) :
    Held (F := F) c arg2 arg5 arg6 arg7 arg8 X2 X5 X6 X7 f8
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 v3 v4 v97_0 v97_1 v99 v101 v115 v116 k acc)
        (fun yld => iprop(⌜yld = (twoP arg2 arg5 arg6 arg7 arg8 v3 v4 X2 X5 X6 X7 f8 i k (acc, [])).1⌝
          ∗ Held (F := F) c arg2 arg5 arg6 arg7 arg8 X2 X5 X6 X7 (arg8.view.writes (Elt F) f8 (twoP arg2 arg5 arg6 arg7 arg8 v3 v4 X2 X5 X6 X7 f8 i k (acc, [])).2))) := by
  unfold k0_t5_body
  iintro ⟨HR_arg2, HR_arg5, HR_arg6, HR_arg7, HW_arg8⟩
  sl_exec
  sl_step
  isplitr
  · ipureintro; rfl
  isplitl [HR_arg2]; · iexact HR_arg2
  isplitl [HR_arg5]; · iexact HR_arg5
  isplitl [HR_arg6]; · iexact HR_arg6
  isplitl [HR_arg7]; · iexact HR_arg7
  iexact HW_arg8

theorem trip3 (v70_0 v70_1 v72 v73 c4_i32 v74 c0_i32_32) (k : Fin (k0_t3_loop i).trips)
    (acc : FVec F S512x128 .f32 × FVec F S512x128 .f32) (f8 : BufTy.Contents (Elt F) arg8.view.ty) :
    Held (F := F) c arg2 arg5 arg6 arg7 arg8 X2 X5 X6 X7 f8
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 v3 v4 v70_0 v70_1 v72 v73 c4_i32 v74 c0_i32_32 k acc)
        (fun yld => iprop(⌜yld = (fourP arg2 arg5 arg6 arg7 arg8 v3 v4 X2 X5 X6 X7 f8 i k (acc, [])).1⌝
          ∗ Held (F := F) c arg2 arg5 arg6 arg7 arg8 X2 X5 X6 X7 (arg8.view.writes (Elt F) f8 (fourP arg2 arg5 arg6 arg7 arg8 v3 v4 X2 X5 X6 X7 f8 i k (acc, [])).2))) := by
  unfold k0_t3_body
  iintro ⟨HR_arg2, HR_arg5, HR_arg6, HR_arg7, HW_arg8⟩
  sl_exec
  sl_step
  isplitr
  · ipureintro; rfl
  isplitl [HR_arg2]; · iexact HR_arg2
  isplitl [HR_arg5]; · iexact HR_arg5
  isplitl [HR_arg6]; · iexact HR_arg6
  isplitl [HR_arg7]; · iexact HR_arg7
  iexact HW_arg8

/-- The eight blocks of a trip, on the pieces. -/
def eightP (G : BufTy.Contents (Elt F) arg8.view.ty) (i : grid0.Coords) (k : Fin (k0_t1_loop i).trips) (s : Ps F) : Ps F :=
  pieceAt arg2 arg5 arg6 arg7 arg8 v3 v4 X2 X5 X6 X7 G (k0_off3 i k 7#32) (k0_off3_inb i k 7) (k0_off4 i k 7#32) (k0_off4_inb i k 7)
  (pieceAt arg2 arg5 arg6 arg7 arg8 v3 v4 X2 X5 X6 X7 G (k0_off3 i k 6#32) (k0_off3_inb i k 6) (k0_off4 i k 6#32) (k0_off4_inb i k 6)
  (pieceAt arg2 arg5 arg6 arg7 arg8 v3 v4 X2 X5 X6 X7 G (k0_off3 i k 5#32) (k0_off3_inb i k 5) (k0_off4 i k 5#32) (k0_off4_inb i k 5)
  (pieceAt arg2 arg5 arg6 arg7 arg8 v3 v4 X2 X5 X6 X7 G (k0_off3 i k 4#32) (k0_off3_inb i k 4) (k0_off4 i k 4#32) (k0_off4_inb i k 4)
  (pieceAt arg2 arg5 arg6 arg7 arg8 v3 v4 X2 X5 X6 X7 G (k0_off3 i k 3#32) (k0_off3_inb i k 3) (k0_off4 i k 3#32) (k0_off4_inb i k 3)
  (pieceAt arg2 arg5 arg6 arg7 arg8 v3 v4 X2 X5 X6 X7 G (k0_off3 i k 2#32) (k0_off3_inb i k 2) (k0_off4 i k 2#32) (k0_off4_inb i k 2)
  (pieceAt arg2 arg5 arg6 arg7 arg8 v3 v4 X2 X5 X6 X7 G (k0_off3 i k 1#32) (k0_off3_inb i k 1) (k0_off4 i k 1#32) (k0_off4_inb i k 1)
  (pieceAt arg2 arg5 arg6 arg7 arg8 v3 v4 X2 X5 X6 X7 G (k0_off3 i k 0#32) (k0_off3_inb i k 0) (k0_off4 i k 0#32) (k0_off4_inb i k 0) s)))))))

theorem eight_ofPs (G : BufTy.Contents (Elt F) arg8.view.ty) (i : grid0.Coords) (k : Fin (k0_t1_loop i).trips) (s : Ps F) :
    eight arg2 arg5 arg6 arg7 arg8 v3 v4 X2 X5 X6 X7 i k (ofPs arg8 G s)
      = ofPs arg8 G (eightP arg2 arg5 arg6 arg7 arg8 v3 v4 X2 X5 X6 X7 G i k s) := by
  simp only [eight, eightP, stepAt_ofPs]

theorem trip1 (arg1 v5 v7 v10 v27 v35 cst_16 v45) (k : Fin (k0_t1_loop i).trips)
    (acc : FVec F S512x128 .f32 × FVec F S512x128 .f32) (f8 : BufTy.Contents (Elt F) arg8.view.ty) :
    Held (F := F) c arg2 arg5 arg6 arg7 arg8 X2 X5 X6 X7 f8
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg1 v3 v4 v5 v7 v10 v27 v35 cst_16 v45 k acc)
        (fun yld => iprop(⌜yld = (eightP arg2 arg5 arg6 arg7 arg8 v3 v4 X2 X5 X6 X7 f8 i k (acc, [])).1⌝
          ∗ Held (F := F) c arg2 arg5 arg6 arg7 arg8 X2 X5 X6 X7 (arg8.view.writes (Elt F) f8 (eightP arg2 arg5 arg6 arg7 arg8 v3 v4 X2 X5 X6 X7 f8 i k (acc, [])).2))) := by
  unfold k0_t1_body
  iintro ⟨HR_arg2, HR_arg5, HR_arg6, HR_arg7, HW_arg8⟩
  sl_exec
  sl_step
  isplitr
  · ipureintro; rfl
  isplitl [HR_arg2]; · iexact HR_arg2
  isplitl [HR_arg5]; · iexact HR_arg5
  isplitl [HR_arg6]; · iexact HR_arg6
  isplitl [HR_arg7]; · iexact HR_arg7
  iexact HW_arg8

theorem eight_steps (k : Fin (k0_t1_loop i).trips) (s : St F arg8) :
    eight arg2 arg5 arg6 arg7 arg8 v3 v4 X2 X5 X6 X7 i k (steps arg2 arg5 arg6 arg7 arg8 v3 v4 X2 X5 X6 X7 ((i 1).val + 1) s (8 * k.val))
      = steps arg2 arg5 arg6 arg7 arg8 v3 v4 X2 X5 X6 X7 ((i 1).val + 1) s (8 * (k.val + 1)) := by
  rw [Nat.mul_add, steps_add]
  simp only [steps, eight]
  rw [stepAt_eq (off := k0_off3 i k 0#32) (off' := k0_off4 i k 0#32) (e := off3 i k 0) (e' := off4 i k 0),
    stepAt_eq (off := k0_off3 i k 1#32) (off' := k0_off4 i k 1#32) (e := off3 i k 1) (e' := off4 i k 1),
    stepAt_eq (off := k0_off3 i k 2#32) (off' := k0_off4 i k 2#32) (e := off3 i k 2) (e' := off4 i k 2),
    stepAt_eq (off := k0_off3 i k 3#32) (off' := k0_off4 i k 3#32) (e := off3 i k 3) (e' := off4 i k 3),
    stepAt_eq (off := k0_off3 i k 4#32) (off' := k0_off4 i k 4#32) (e := off3 i k 4) (e' := off4 i k 4),
    stepAt_eq (off := k0_off3 i k 5#32) (off' := k0_off4 i k 5#32) (e := off3 i k 5) (e' := off4 i k 5),
    stepAt_eq (off := k0_off3 i k 6#32) (off' := k0_off4 i k 6#32) (e := off3 i k 6) (e' := off4 i k 6),
    stepAt_eq (off := k0_off3 i k 7#32) (off' := k0_off4 i k 7#32) (e := off3 i k 7) (e' := off4 i k 7)]
  rfl

theorem four_steps (k : Fin (k0_t3_loop i).trips) (s : St F arg8) :
    four arg2 arg5 arg6 arg7 arg8 v3 v4 X2 X5 X6 X7 i k (steps arg2 arg5 arg6 arg7 arg8 v3 v4 X2 X5 X6 X7 ((i 1).val + 1 + 8 * ((31 - (i 1).val) / 8)) s (4 * k.val))
      = steps arg2 arg5 arg6 arg7 arg8 v3 v4 X2 X5 X6 X7 ((i 1).val + 1 + 8 * ((31 - (i 1).val) / 8)) s (4 * (k.val + 1)) := by
  rw [Nat.mul_add, steps_add]
  simp only [steps, four]
  rw [stepAt_eq (off := k0_off7 i k 0#32) (off' := k0_off8 i k 0#32) (e := off7 i k 0) (e' := off8 i k 0),
    stepAt_eq (off := k0_off7 i k 1#32) (off' := k0_off8 i k 1#32) (e := off7 i k 1) (e' := off8 i k 1),
    stepAt_eq (off := k0_off7 i k 2#32) (off' := k0_off8 i k 2#32) (e := off7 i k 2) (e' := off8 i k 2),
    stepAt_eq (off := k0_off7 i k 3#32) (off' := k0_off8 i k 3#32) (e := off7 i k 3) (e' := off8 i k 3)]
  rfl

theorem two_steps (k : Fin (k0_t5_loop i).trips) (s : St F arg8) :
    two arg2 arg5 arg6 arg7 arg8 v3 v4 X2 X5 X6 X7 i k (steps arg2 arg5 arg6 arg7 arg8 v3 v4 X2 X5 X6 X7 ((i 1).val + 1 + 4 * ((31 - (i 1).val) / 4)) s (2 * k.val))
      = steps arg2 arg5 arg6 arg7 arg8 v3 v4 X2 X5 X6 X7 ((i 1).val + 1 + 4 * ((31 - (i 1).val) / 4)) s (2 * (k.val + 1)) := by
  rw [Nat.mul_add, steps_add]
  simp only [steps, two]
  rw [stepAt_eq (off := k0_off11 i k 0#32) (off' := k0_off12 i k 0#32) (e := off11 i k 0) (e' := off12 i k 0),
    stepAt_eq (off := k0_off11 i k 1#32) (off' := k0_off12 i k 1#32) (e := off11 i k 1) (e' := off12 i k 1)]
  rfl

set_option warn.classDefReducibility false in
/-- Eight blocks a trip. -/
@[sl_loop] def loop1 (arg1 v5 v7 v10 v27 v35 cst_16 v45) (init : FVec F S512x128 .f32 × FVec F S512x128 .f32) (G : BufTy.Contents (Elt F) arg8.view.ty) :
    LoopInv (M := 𝕄G) frame (wpE (defs₀ (F := F)) 𝒱 (c : Thread nD τ) bd) E
      (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg1 v3 v4 v5 v7 v10 v27 v35 cst_16 v45) where
  inv k acc := Done (F := F) c arg2 arg5 arg6 arg7 arg8 v3 v4 X2 X5 X6 X7 ((i 1).val + 1) (init, G) (fun k => 8 * k) k acc
  step k acc := by
    iintro ⟨HR_arg2, HR_arg5, HR_arg6, HR_arg7, ⟨%f_arg8, HW_arg8, %h_arg8⟩, %h_acc⟩
    subst h_acc
    iapply (done_step (F := F) 𝒱 c bd E arg2 arg5 arg6 arg7 arg8 v3 v4 X2 X5 X6 X7 rfl _
      ((eight_ofPs arg2 arg5 arg6 arg7 arg8 v3 v4 X2 X5 X6 X7 _ i k (_, [])).symm.trans (eight_steps i arg2 arg5 arg6 arg7 arg8 v3 v4 X2 X5 X6 X7 k (init, G)))
      (trip1 (F := F) 𝒱 c bd E i arg2 harg2 arg3 harg3 arg4 harg4 arg5 harg5 arg6 harg6 arg7 harg7 arg8 harg8 arg9 harg9 arg10 harg10 v3 v4 X2 X5 X6 X7 arg1 v5 v7 v10 v27 v35 cst_16 v45 k _ _) h_arg8)
    isplitl [HR_arg2]; · iexact HR_arg2
    isplitl [HR_arg5]; · iexact HR_arg5
    isplitl [HR_arg6]; · iexact HR_arg6
    isplitl [HR_arg7]; · iexact HR_arg7
    iexact HW_arg8

set_option warn.classDefReducibility false in
/-- Four blocks a trip. -/
@[sl_loop] def loop3 (v70_0 v70_1 v72 v73 c4_i32 v74 c0_i32_32) (init : FVec F S512x128 .f32 × FVec F S512x128 .f32) (G : BufTy.Contents (Elt F) arg8.view.ty) :
    LoopInv (M := 𝕄G) frame (wpE (defs₀ (F := F)) 𝒱 (c : Thread nD τ) bd) E
      (k0_t3_loop i).lb (k0_t3_loop i).ub (k0_t3_loop i).st (k0_t3_ok i) init (k0_t3_body (F := F) i arg2 harg2 arg3 harg3 arg4 harg4 arg5 harg5 arg6 harg6 arg7 harg7 arg8 harg8 arg9 harg9 arg10 harg10 v3 v4 v70_0 v70_1 v72 v73 c4_i32 v74 c0_i32_32) where
  inv k acc := Done (F := F) c arg2 arg5 arg6 arg7 arg8 v3 v4 X2 X5 X6 X7 ((i 1).val + 1 + 8 * ((31 - (i 1).val) / 8)) (init, G) (fun k => 4 * k) k acc
  step k acc := by
    iintro ⟨HR_arg2, HR_arg5, HR_arg6, HR_arg7, ⟨%f_arg8, HW_arg8, %h_arg8⟩, %h_acc⟩
    subst h_acc
    iapply (done_step (F := F) 𝒱 c bd E arg2 arg5 arg6 arg7 arg8 v3 v4 X2 X5 X6 X7 rfl _
      ((four_ofPs arg2 arg5 arg6 arg7 arg8 v3 v4 X2 X5 X6 X7 _ i k (_, [])).symm.trans (four_steps i arg2 arg5 arg6 arg7 arg8 v3 v4 X2 X5 X6 X7 k (init, G)))
      (trip3 (F := F) 𝒱 c bd E i arg2 harg2 arg3 harg3 arg4 harg4 arg5 harg5 arg6 harg6 arg7 harg7 arg8 harg8 arg9 harg9 arg10 harg10 v3 v4 X2 X5 X6 X7 v70_0 v70_1 v72 v73 c4_i32 v74 c0_i32_32 k _ _) h_arg8)
    isplitl [HR_arg2]; · iexact HR_arg2
    isplitl [HR_arg5]; · iexact HR_arg5
    isplitl [HR_arg6]; · iexact HR_arg6
    isplitl [HR_arg7]; · iexact HR_arg7
    iexact HW_arg8

set_option warn.classDefReducibility false in
/-- Two blocks a trip. -/
@[sl_loop] def loop5 (v97_0 v97_1 v99 v101 v115 v116) (init : FVec F S512x128 .f32 × FVec F S512x128 .f32) (G : BufTy.Contents (Elt F) arg8.view.ty) :
    LoopInv (M := 𝕄G) frame (wpE (defs₀ (F := F)) 𝒱 (c : Thread nD τ) bd) E
      (k0_t5_loop i).lb (k0_t5_loop i).ub (k0_t5_loop i).st (k0_t5_ok i) init (k0_t5_body (F := F) i arg2 harg2 arg3 harg3 arg4 harg4 arg5 harg5 arg6 harg6 arg7 harg7 arg8 harg8 arg9 harg9 arg10 harg10 v3 v4 v97_0 v97_1 v99 v101 v115 v116) where
  inv k acc := Done (F := F) c arg2 arg5 arg6 arg7 arg8 v3 v4 X2 X5 X6 X7 ((i 1).val + 1 + 4 * ((31 - (i 1).val) / 4)) (init, G) (fun k => 2 * k) k acc
  step k acc := by
    iintro ⟨HR_arg2, HR_arg5, HR_arg6, HR_arg7, ⟨%f_arg8, HW_arg8, %h_arg8⟩, %h_acc⟩
    subst h_acc
    iapply (done_step (F := F) 𝒱 c bd E arg2 arg5 arg6 arg7 arg8 v3 v4 X2 X5 X6 X7 rfl _
      ((two_ofPs arg2 arg5 arg6 arg7 arg8 v3 v4 X2 X5 X6 X7 _ i k (_, [])).symm.trans (two_steps i arg2 arg5 arg6 arg7 arg8 v3 v4 X2 X5 X6 X7 k (init, G)))
      (trip5 (F := F) 𝒱 c bd E i arg2 harg2 arg3 harg3 arg4 harg4 arg5 harg5 arg6 harg6 arg7 harg7 arg8 harg8 arg9 harg9 arg10 harg10 v3 v4 X2 X5 X6 X7 v97_0 v97_1 v99 v101 v115 v116 k _ _) h_arg8)
    isplitl [HR_arg2]; · iexact HR_arg2
    isplitl [HR_arg5]; · iexact HR_arg5
    isplitl [HR_arg6]; · iexact HR_arg6
    isplitl [HR_arg7]; · iexact HR_arg7
    iexact HW_arg8

set_option warn.classDefReducibility false in
/-- One block a trip. -/
@[sl_loop] def loop7 (v97_0 v97_1 v99 v101 v115 v116) (init : FVec F S512x128 .f32 × FVec F S512x128 .f32) (G : BufTy.Contents (Elt F) arg8.view.ty) :
    LoopInv (M := 𝕄G) frame (wpE (defs₀ (F := F)) 𝒱 (c : Thread nD τ) bd) E
      (k0_t7_loop i).lb (k0_t7_loop i).ub (k0_t7_loop i).st (k0_t7_ok i) init (k0_t7_body (F := F) i arg2 harg2 arg3 harg3 arg4 harg4 arg5 harg5 arg6 harg6 arg7 harg7 arg8 harg8 arg9 harg9 arg10 harg10 v3 v4 v97_0 v97_1 v99 v101 v115 v116) where
  inv k acc := Done (F := F) c arg2 arg5 arg6 arg7 arg8 v3 v4 X2 X5 X6 X7 ((i 1).val + 1 + 2 * ((31 - (i 1).val) / 2)) (init, G) (fun k => k) k acc
  step k acc := by
    iintro ⟨HR_arg2, HR_arg5, HR_arg6, HR_arg7, ⟨%f_arg8, HW_arg8, %h_arg8⟩, %h_acc⟩
    subst h_acc
    iapply (done_step (F := F) 𝒱 c bd E arg2 arg5 arg6 arg7 arg8 v3 v4 X2 X5 X6 X7 rfl _
      (stepAt_eq arg2 arg5 arg6 arg7 arg8 v3 v4 X2 X5 X6 X7 _ _ (steps arg2 arg5 arg6 arg7 arg8 v3 v4 X2 X5 X6 X7 ((i 1).val + 1 + 2 * ((31 - (i 1).val) / 2)) (init, G) k) _ (off15 i k) (off16 i k))
      (trip7 (F := F) 𝒱 c bd E i arg2 harg2 arg3 harg3 arg4 harg4 arg5 harg5 arg6 harg6 arg7 harg7 arg8 harg8 arg9 harg9 arg10 harg10 v3 v4 X2 X5 X6 X7 v97_0 v97_1 v99 v101 v115 v116 k _ _) h_arg8)
    isplitl [HR_arg2]; · iexact HR_arg2
    isplitl [HR_arg5]; · iexact HR_arg5
    isplitl [HR_arg6]; · iexact HR_arg6
    isplitl [HR_arg7]; · iexact HR_arg7
    iexact HW_arg8

end loops
end Cert.KernelIdeal.Attn
end
end
-- ==== Proof.KernelIdeal.Pure.lean ====
module

public import proofs.«01_k».proof.Proof.KernelIdeal.Loops
public import Idealize.ShloMosaic.Lib.VecWindow

/-! What one grid point computes, on the vectors its buffers hold: the block on the diagonal, then the blocks below it,
each adding to the sums for the keys and the values and to its own rows for the queries. -/

@[expose] public section
set_option maxRecDepth 16384
noncomputable section
namespace Cert.KernelIdeal.Attn

open Idealize.ShloMosaic Idealize.ShloMosaic.TcCoe
open Cert.KernelIdeal.Gen

variable {F : FTy → Type} [FloatOps F] [Named F]

/-- The sums for the keys and for the values, and the rows for the queries. -/
abbrev VSt (F : FTy → Type) [FloatOps F] : Type :=
  (FVec F S512x128 .f32 × FVec F S512x128 .f32) × Vec F S16384x128 .f32

/-- Rows `512 n` to `512 n + 511`. -/
def rows {e : EltTy} (x : Vec F S16384x128 e) (n : ℕ) (h : n < 32) : Vec F S512x128 e :=
  VecWindow.window x (![512 * n, 0] : Fin 2 → ℕ) S512x128.size (rows_inb h)

/-- Row `n` of the scalars of a head. -/
def row {e : EltTy} (x : Vec F S1x32x1x512 e) (n : ℕ) (h : n < 32) : Vec F S1x1x1x512 e :=
  VecWindow.window x (![0, n, 0, 0] : Fin 4 → ℕ) S1x1x1x512.size (row_inb h)

/-- `x` with rows `512 n` to `512 n + 511` replaced. -/
def setRows {e : EltTy} (x : Vec F S16384x128 e) (n : ℕ) (w : Vec F S512x128 e) : Vec F S16384x128 e :=
  VecWindow.put x (![512 * n, 0] : Fin 2 → ℕ) S512x128.size w

section

variable (v3 v4 : Vec F S512x128 .bf16) (x2 x5 : Vec F S16384x128 .bf16) (x6 x7 : Vec F S1x32x1x512 .f32)

/-- A block below the diagonal. -/
def vstep (n : ℕ) (s : VSt F) : VSt F :=
  if h : n < 32 then
    ((k0_pay189 v3 v4 s.1.1 (rows x2 n h) (rows x5 n h) (row x6 n h) (row x7 n h),
        k0_pay187 v3 s.1.2 (rows x2 n h) (rows x5 n h) (row x6 n h)),
      setRows s.2 n (k0_pay190 v3 v4 (rows x2 n h) (rows x5 n h) (row x6 n h) (row x7 n h) (rows s.2 n h)))
  else s

/-- `m` blocks from block `b` on. -/
def vsteps (b : ℕ) (s : VSt F) : ℕ → VSt F
  | 0 => s
  | m + 1 => vstep v3 v4 x2 x5 x6 x7 (b + m) (vsteps b s m)

/-- The block on the diagonal, over the rows `d`. -/
def vdiag (n : ℕ) (h : n < 32) (d : Vec F S16384x128 .f32) : VSt F :=
  let p := k0_pay150 v3 v4 (rows x2 n h) (rows x5 n h) (row x6 n h) (row x7 n h)
  ((k0_pay151 (k0_pay146 (F := F)) (k0_pay147 (rows x2 n h)) p (constant S512x128 .f32 0x00000000#32),
      k0_pay149 v3 (rows x2 n h) (rows x5 n h) (row x6 n h)),
    setRows d n (k0_pay152 v3 p (rows d n h)))

/-- A grid point whose key block is `n`: the block on the diagonal, then those below it. -/
def vpoint (n : ℕ) (h : n < 32) (d : Vec F S16384x128 .f32) : VSt F :=
  vsteps v3 v4 x2 x5 x6 x7 (n + 1) (vdiag v3 v4 x2 x5 x6 x7 n h d) (31 - n)

end

section

variable (arg2 : Memref sig .tc .vmem S16384x128 .bf16) (arg5 : Memref sig .tc .vmem S16384x128 .bf16)
  (arg6 arg7 : Memref sig .tc .vmem S1x32x1x512 .f32) (arg8 : Memref sig .tc .vmem S16384x128 .f32)
  (v3 v4 : Vec F S512x128 .bf16)
  (X2 : BufTy.Contents (Elt F) arg2.view.ty) (X5 : BufTy.Contents (Elt F) arg5.view.ty)
  (X6 : BufTy.Contents (Elt F) arg6.view.ty) (X7 : BufTy.Contents (Elt F) arg7.view.ty)

/-- The state with the rows as the vector they read. -/
def rd (s : St F arg8) : VSt F := (s.1, arg8.view.read (Elt F) s.2)

theorem rd_step (n : ℕ) (s : St F arg8) :
    rd arg8 (step arg2 arg5 arg6 arg7 arg8 v3 v4 X2 X5 X6 X7 n s)
      = vstep v3 v4 (arg2.view.read (Elt F) X2) (arg5.view.read (Elt F) X5) (arg6.view.read (Elt F) X6)
          (arg7.view.read (Elt F) X7) n (rd arg8 s) := by
  by_cases h : n < 32
  · rw [step, dif_pos h, vstep, dif_pos h]
    refine Prod.ext rfl ?_
    exact View.read_writes_cons_put _ _ _ _ _ rfl
  · rw [step, dif_neg h, vstep, dif_neg h]

theorem rd_steps (b : ℕ) (s : St F arg8) (m : ℕ) :
    rd arg8 (steps arg2 arg5 arg6 arg7 arg8 v3 v4 X2 X5 X6 X7 b s m)
      = vsteps v3 v4 (arg2.view.read (Elt F) X2) (arg5.view.read (Elt F) X5) (arg6.view.read (Elt F) X6)
          (arg7.view.read (Elt F) X7) b (rd arg8 s) m := by
  induction m with
  | zero => rfl
  | succ m ih => rw [steps, rd_step, ih, vsteps]

end

end Cert.KernelIdeal.Attn
end
-- ==== Proof.KernelIdeal.Parts.lean ====
module

public import proofs.«01_k».proof.Proof.KernelIdeal.Pure
public import proofs.«01_k».proof.Proof.Gen.KernelIdeal.Skeleton
public import Idealize.ShloMosaic.Lib.Tactic

/-! The kernel's body at one grid point, part by part: the set-up, the block on the diagonal and the loops. -/

@[expose] public section
set_option maxRecDepth 16384
set_option maxHeartbeats 4000000
noncomputable section
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
local notation "𝕄G" => MT nD τ sig Unit (Elt F) ℕ (UR sig nD τ) ℕ

instance closed1 (i : grid0.Coords) : ClosedOff (k0_off1 i) := ⟨_, off1 i⟩

section parts

variable (𝒱 : Variants) (c : Dev nD) (bd : Option 𝒱.V) (E : Set ℕ) (i : grid0.Coords)
  (arg2 : Memref sig .tc .vmem S16384x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S16384x128 .bf16) (harg5 : arg5.IsWhole)
  (arg6 : Memref sig .tc .vmem S1x32x1x512 .f32) (harg6 : arg6.IsWhole)
  (arg7 : Memref sig .tc .vmem S1x32x1x512 .f32) (harg7 : arg7.IsWhole)
  (arg8 : Memref sig .tc .vmem S16384x128 .f32) (harg8 : arg8.IsWhole)
  (arg9 : Memref sig .tc .vmem S512x128 .f32) (harg9 : arg9.IsWhole)
  (arg10 : Memref sig .tc .vmem S512x128 .f32) (harg10 : arg10.IsWhole)
  (v3 v4 : Vec F S512x128 .bf16)
  (X2 : BufTy.Contents (Elt F) arg2.view.ty) (X5 : BufTy.Contents (Elt F) arg5.view.ty)
  (X6 : BufTy.Contents (Elt F) arg6.view.ty) (X7 : BufTy.Contents (Elt F) arg7.view.ty)

theorem steps_named {b : ℕ} {s : St F arg8} {m : ℕ → ℕ} (hm : m 0 = 0) (k : ℕ) :
    NamedEq (((steps arg2 arg5 arg6 arg7 arg8 v3 v4 X2 X5 X6 X7 b s (m k)).1.1,
        (steps arg2 arg5 arg6 arg7 arg8 v3 v4 X2 X5 X6 X7 b s (m k)).1.2),
      rowsAt arg2 arg5 arg6 arg7 arg8 v3 v4 X2 X5 X6 X7 b s m k)
      (steps arg2 arg5 arg6 arg7 arg8 v3 v4 X2 X5 X6 X7 b s (m k)) := by
  rw [rowsAt_eq arg2 arg5 arg6 arg7 arg8 v3 v4 X2 X5 X6 X7 b s hm]; exact rfl

theorem part24 (arg1 v5 v7 v10 v27 v35 cst_16) (X8 : BufTy.Contents (Elt F) arg8.view.ty) :
    Held (F := F) c arg2 arg5 arg6 arg7 arg8 X2 X5 X6 X7 X8
      ⊢ wp frame (wpE (defs₀ (F := F)) 𝒱 (c : Thread nD τ) bd) E
        (k0_part24 (F := F) i arg2 harg2 arg3 harg3 arg4 harg4 arg5 harg5 arg6 harg6 arg7 harg7 arg8 harg8 arg9 harg9 arg10 harg10 arg1 v3 v4 v5 v7 v10 v27 v35 cst_16)
        (fun r => iprop(∃ f, Held (F := F) c arg2 arg5 arg6 arg7 arg8 X2 X5 X6 X7 f
          ∗ ⌜NamedEq ((r.1, r.2.1), f) (steps arg2 arg5 arg6 arg7 arg8 v3 v4 X2 X5 X6 X7 ((i 1).val + 1)
            ((k0_pay151 v5 v10 v35 cst_16, v27), arg8.view.writes (Elt F) X8
              [⟨Rect.unit (s := S16384x128) (k0_off1 i) S512x128.size (k0_off1_inb i), k0_pay152 v3 v35
                (View.readAt (Elt F) arg8.view (Rect.unit (s := S16384x128) (k0_off1 i) S512x128.size (k0_off1_inb i)).toLoadRect X8)⟩])
            (8 * (k0_t1_loop i).trips))⌝)) := by
  rw [k0_part24_eq_skeleton]
  have t2 := trips2 i
  iintro ⟨H2, H5, H6, H7, H8⟩
  sl_unfold [k0_part24_skel]
  sl_exec
  generalize hG : (arg8.view.writes (Elt F) X8 _) = G8
  sl_exec
  sl_step
  iexists _
  isplitl [H2 H5 H6 H7 H8]
  · isplitl [H2]; · iexact H2
    isplitl [H5]; · iexact H5
    isplitl [H6]; · iexact H6
    isplitl [H7]; · iexact H7
    iexact H8
  subst hG
  ipureintro
  exact steps_named arg2 arg5 arg6 arg7 arg8 v3 v4 X2 X5 X6 X7 rfl _

theorem part25 (v70_0 v70_1 v72 v73 c4_i32 v74 c0_i32_32) (X8 : BufTy.Contents (Elt F) arg8.view.ty) :
    Held (F := F) c arg2 arg5 arg6 arg7 arg8 X2 X5 X6 X7 X8
      ⊢ wp frame (wpE (defs₀ (F := F)) 𝒱 (c : Thread nD τ) bd) E
        (k0_part25 (F := F) i arg2 harg2 arg3 harg3 arg4 harg4 arg5 harg5 arg6 harg6 arg7 harg7 arg8 harg8 arg9 harg9 arg10 harg10 v3 v4 v70_0 v70_1 v72 v73 c4_i32 v74 c0_i32_32)
        (fun r => iprop(∃ f, Held (F := F) c arg2 arg5 arg6 arg7 arg8 X2 X5 X6 X7 f
          ∗ ⌜NamedEq ((r.1, r.2.1), f) (steps arg2 arg5 arg6 arg7 arg8 v3 v4 X2 X5 X6 X7 ((i 1).val + 1 + 8 * ((31 - (i 1).val) / 8))
            ((v70_0, v70_1), X8) (4 * (k0_t3_loop i).trips))⌝)) := by
  rw [k0_part25_eq_skeleton]
  have t4 := trips4 i
  iintro ⟨H2, H5, H6, H7, H8⟩
  sl_unfold [k0_part25_skel]
  sl_exec
  sl_step
  iexists _
  isplitl [H2 H5 H6 H7 H8]
  · isplitl [H2]; · iexact H2
    isplitl [H5]; · iexact H5
    isplitl [H6]; · iexact H6
    isplitl [H7]; · iexact H7
    iexact H8
  ipureintro
  exact steps_named arg2 arg5 arg6 arg7 arg8 v3 v4 X2 X5 X6 X7 rfl _

theorem part26 (v97_0 v97_1 v99 v101 v115 v116) (X8 : BufTy.Contents (Elt F) arg8.view.ty)
    (X9 : BufTy.Contents (Elt F) arg9.view.ty) :
    iprop(Held (F := F) c arg2 arg5 arg6 arg7 arg8 X2 X5 X6 X7 X8 ∗ (arg9.view.loc (c : Thread nD τ) ↦[arg9.view.set]{fullShare} X9))
      ⊢ wp frame (wpE (defs₀ (F := F)) 𝒱 (c : Thread nD τ) bd) E
        (k0_part26 (F := F) i arg2 harg2 arg3 harg3 arg4 harg4 arg5 harg5 arg6 harg6 arg7 harg7 arg8 harg8 arg9 harg9 arg10 harg10 v3 v4 v97_0 v97_1 v99 v101 v115 v116)
        (fun r => iprop(∃ f d, Held (F := F) c arg2 arg5 arg6 arg7 arg8 X2 X5 X6 X7 f
          ∗ (arg9.view.loc (c : Thread nD τ) ↦[arg9.view.set]{fullShare} arg9.view.writes (Elt F) X9
              [⟨Rect.unit (s := S512x128) ![0, 0] S512x128.size inb_S512x128_S512x128_0_0, k0_pay197 d⟩])
          ∗ ⌜NamedEq ((d, r), f) (steps arg2 arg5 arg6 arg7 arg8 v3 v4 X2 X5 X6 X7 ((i 1).val + 1 + 2 * ((31 - (i 1).val) / 2))
              (steps arg2 arg5 arg6 arg7 arg8 v3 v4 X2 X5 X6 X7 ((i 1).val + 1 + 4 * ((31 - (i 1).val) / 4))
                ((v97_0, v97_1), X8) (2 * (k0_t5_loop i).trips)) (k0_t7_loop i).trips)⌝)) := by
  have t6 := trips6 i
  have t8 := trips8 i
  iintro ⟨⟨H2, H5, H6, H7, H8⟩, H9⟩
  sl_unfold [k0_part26]
  sl_exec
  sl_step
  iexists _, _
  isplitl [H2 H5 H6 H7 H8]
  · isplitl [H2]; · iexact H2
    isplitl [H5]; · iexact H5
    isplitl [H6]; · iexact H6
    isplitl [H7]; · iexact H7
    iexact H8
  isplitl [H9]; · iexact H9
  ipureintro
  exact (steps_named arg2 arg5 arg6 arg7 arg8 v3 v4 X2 X5 X6 X7 (m := fun k => k) rfl _).eq.trans
    (congrArg (fun s => steps arg2 arg5 arg6 arg7 arg8 v3 v4 X2 X5 X6 X7 ((i 1).val + 1 + 2 * ((31 - (i 1).val) / 2)) s
      (k0_t7_loop i).trips)
      (steps_named arg2 arg5 arg6 arg7 arg8 v3 v4 X2 X5 X6 X7 (m := fun k => 2 * k) rfl _).eq)

end parts

end Cert.KernelIdeal.Attn
end
-- ==== Proof.KernelIdeal.Body.lean ====
module

public import proofs.«01_k».proof.Proof.KernelIdeal.Parts
public import proofs.«01_k».proof.Proof.Gen.KernelIdeal.Frame

/-! The kernel's body at one grid point: what it leaves in the buffers of its three results. -/

@[expose] public section
set_option maxRecDepth 16384
set_option maxHeartbeats 4000000
noncomputable section
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
local notation "𝕄G" => MT nD τ sig Unit (Elt F) ℕ (UR sig nD τ) ℕ

/-- The key block of a grid point is one of 32. -/
theorem ilt (i : grid0.Coords) : (i 1).val < 32 := (i 1).isLt

/-- The body's test for the first key block. -/
theorem first_iff : ∀ i : grid0.Coords,
    Scalar.cmpi .ne (Scalar.extui (Scalar.cmpi .eq (BitVec.ofNat 32 (i 1).val) 0#32) : BitVec 32) 0#32 = 1#1 ↔ (i 1).val = 0 := by
  decide +kernel

section total

variable (i : grid0.Coords) (arg2 : Memref sig .tc .vmem S16384x128 .bf16) (arg5 : Memref sig .tc .vmem S16384x128 .bf16)
  (arg6 arg7 : Memref sig .tc .vmem S1x32x1x512 .f32) (arg8 : Memref sig .tc .vmem S16384x128 .f32)
  (v3 v4 : Vec F S512x128 .bf16)
  (X2 : BufTy.Contents (Elt F) arg2.view.ty) (X5 : BufTy.Contents (Elt F) arg5.view.ty)
  (X6 : BufTy.Contents (Elt F) arg6.view.ty) (X7 : BufTy.Contents (Elt F) arg7.view.ty)
  (X8 : BufTy.Contents (Elt F) arg8.view.ty)

/-- The block on the diagonal over buffer contents, as the body states it. -/
def diagAt : St F arg8 :=
  let q := arg2.view.readAt (Elt F) (Rect.unit (s := S16384x128) (k0_off1 i) S512x128.size (k0_off1_inb i)).toLoadRect X2
  let o := arg5.view.readAt (Elt F) (Rect.unit (s := S16384x128) (k0_off1 i) S512x128.size (k0_off1_inb i)).toLoadRect X5
  let l := arg6.view.readAt (Elt F) (Rect.unit (s := S1x32x1x512) (k0_off2 i) S1x1x1x512.size (k0_off2_inb i)).toLoadRect X6
  let e := arg7.view.readAt (Elt F) (Rect.unit (s := S1x32x1x512) (k0_off2 i) S1x1x1x512.size (k0_off2_inb i)).toLoadRect X7
  let p := k0_pay150 v3 v4 q o l e
  ((k0_pay151 (k0_pay146 (F := F)) (k0_pay147 q) p (constant S512x128 .f32 0x00000000#32), k0_pay149 v3 q o l),
    arg8.view.writes (Elt F) X8 [⟨Rect.unit (s := S16384x128) (k0_off1 i) S512x128.size (k0_off1_inb i), k0_pay152 v3 p
      (arg8.view.readAt (Elt F) (Rect.unit (s := S16384x128) (k0_off1 i) S512x128.size (k0_off1_inb i)).toLoadRect X8)⟩])

theorem rd_diagAt : rd arg8 (diagAt i arg2 arg5 arg6 arg7 arg8 v3 v4 X2 X5 X6 X7 X8)
    = vdiag v3 v4 (arg2.view.read (Elt F) X2) (arg5.view.read (Elt F) X5) (arg6.view.read (Elt F) X6)
        (arg7.view.read (Elt F) X7) (i 1).val (ilt i) (arg8.view.read (Elt F) X8) := by
  unfold diagAt
  rw [View.readAt_unit _ X2 _ (off1 i) (rows_inb (ilt i)), View.readAt_unit _ X5 _ (off1 i) (rows_inb (ilt i)),
    View.readAt_unit _ X6 _ (off2 i) (row_inb (ilt i)), View.readAt_unit _ X7 _ (off2 i) (row_inb (ilt i)),
    View.readAt_unit _ X8 _ (off1 i) (rows_inb (ilt i))]
  refine Prod.ext rfl ?_
  exact View.read_writes_cons_put _ _ _ _ _ (off1 i)

/-- The four loops in a row are the blocks below the diagonal. -/
theorem total {a b a2 b2 d r : FVec F S512x128 .f32} {f1 f2 f3 : BufTy.Contents (Elt F) arg8.view.ty} {s : St F arg8}
    (e1 : NamedEq ((a, b), f1) (steps arg2 arg5 arg6 arg7 arg8 v3 v4 X2 X5 X6 X7 ((i 1).val + 1) s (8 * (k0_t1_loop i).trips)))
    (e2 : NamedEq ((a2, b2), f2) (steps arg2 arg5 arg6 arg7 arg8 v3 v4 X2 X5 X6 X7 ((i 1).val + 1 + 8 * ((31 - (i 1).val) / 8))
      ((a, b), f1) (4 * (k0_t3_loop i).trips)))
    (e3 : NamedEq ((d, r), f3) (steps arg2 arg5 arg6 arg7 arg8 v3 v4 X2 X5 X6 X7 ((i 1).val + 1 + 2 * ((31 - (i 1).val) / 2))
      (steps arg2 arg5 arg6 arg7 arg8 v3 v4 X2 X5 X6 X7 ((i 1).val + 1 + 4 * ((31 - (i 1).val) / 4))
        ((a2, b2), f2) (2 * (k0_t5_loop i).trips)) (k0_t7_loop i).trips))
    (hs : s = diagAt i arg2 arg5 arg6 arg7 arg8 v3 v4 X2 X5 X6 X7 X8)
    {x2 x5 : Vec F S16384x128 .bf16} {x3 x4 : Vec F S512x128 .bf16} {x6 x7 : Vec F S1x32x1x512 .f32} {x8 : Vec F S16384x128 .f32}
    (r2 : arg2.view.read (Elt F) X2 = x2) (r3 : v3 = x3) (r4 : v4 = x4) (r5 : arg5.view.read (Elt F) X5 = x5)
    (r6 : arg6.view.read (Elt F) X6 = x6) (r7 : arg7.view.read (Elt F) X7 = x7) (r8 : arg8.view.read (Elt F) X8 = x8) :
    rd arg8 ((d, r), f3) = vpoint x3 x4 x2 x5 x6 x7 (i 1).val (ilt i) x8 := by
  subst r2 r3 r4 r5 r6 r7 r8
  have h1 := e1.eq; have h2 := e2.eq; have h3 := e3.eq
  have hi := ilt i
  rw [trips1] at h1; rw [trips3] at h2; rw [trips5, trips7] at h3
  rw [h1, ← steps_add] at h2
  rw [h2, show (i 1).val + 1 + 4 * ((31 - (i 1).val) / 4)
      = (i 1).val + 1 + (8 * ((31 - (i 1).val) / 8) + 4 * ((31 - (i 1).val) % 8 / 4)) by omega, ← steps_add,
    show (i 1).val + 1 + 2 * ((31 - (i 1).val) / 2)
      = (i 1).val + 1 + (8 * ((31 - (i 1).val) / 8) + 4 * ((31 - (i 1).val) % 8 / 4) + 2 * ((31 - (i 1).val) % 4 / 2)) by omega,
    ← steps_add,
    show 8 * ((31 - (i 1).val) / 8) + 4 * ((31 - (i 1).val) % 8 / 4) + 2 * ((31 - (i 1).val) % 4 / 2) + (31 - (i 1).val) % 2
      = 31 - (i 1).val by omega] at h3
  rw [h3, rd_steps, hs, rd_diagAt]
  rfl

end total

/-- The body at a grid point, on whole buffers: its inputs are left as they were; the rows for the queries, started from
zero at the first key block, take the point's blocks; the blocks of the other two results are written. -/
theorem kernelRun (c : Dev nD) (i : grid0.Coords)
    (arg2 : Memref sig .tc .vmem S16384x128 .bf16) (harg2 : arg2.IsWhole)
    (arg3 : Memref sig .tc .vmem S512x128 .bf16) (harg3 : arg3.IsWhole)
    (arg4 : Memref sig .tc .vmem S512x128 .bf16) (harg4 : arg4.IsWhole)
    (arg5 : Memref sig .tc .vmem S16384x128 .bf16) (harg5 : arg5.IsWhole)
    (arg6 : Memref sig .tc .vmem S1x32x1x512 .f32) (harg6 : arg6.IsWhole)
    (arg7 : Memref sig .tc .vmem S1x32x1x512 .f32) (harg7 : arg7.IsWhole)
    (arg8 : Memref sig .tc .vmem S16384x128 .f32) (harg8 : arg8.IsWhole)
    (arg9 : Memref sig .tc .vmem S512x128 .f32) (harg9 : arg9.IsWhole)
    (arg10 : Memref sig .tc .vmem S512x128 .f32) (harg10 : arg10.IsWhole)
    (x2 : Vec F S16384x128 .bf16) (x3 x4 : Vec F S512x128 .bf16) (x5 : Vec F S16384x128 .bf16)
    (x6 x7 : Vec F S1x32x1x512 .f32) (x8 : Vec F S16384x128 .f32) (E : Set ℕ) (K : PUnit → sProp 𝕄G) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8
        ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare
                (vpoint x3 x4 x2 x5 x6 x7 (i 1).val (ilt i) (if (i 1).val = 0 then k0_pay145 (F := F) else x8)).2
            ∗ owns (c : Thread nD τ) arg9 fullShare
                (k0_pay197 (vpoint x3 x4 x2 x5 x6 x7 (i 1).val (ilt i) (if (i 1).val = 0 then k0_pay145 (F := F) else x8)).1.1)
            ∗ owns (c : Thread nD τ) arg10 fullShare
                (vpoint x3 x4 x2 x5 x6 x7 (i 1).val (ilt i) (if (i 1).val = 0 then k0_pay145 (F := F) else x8)).1.2) -∗ K ⟨⟩))
      ⊢ wp frame (wpE (defs₀ (F := F)) Variants.none c none) E
          (cc0_attn_bwd (F := F) i arg2 harg2 arg3 harg3 arg4 harg4 arg5 harg5 arg6 harg6 arg7 harg7 arg8 harg8 arg9 harg9 arg10 harg10) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%d9, %f9, -, H9⟩, ⟨%d10, %f10, -, H10⟩, Hk⟩
  have h24 := fun (v3 v4 : Vec F S512x128 .bf16) => part24 (F := F) Variants.none c none E i arg2 harg2 arg3 harg3 arg4 harg4 arg5 harg5 arg6 harg6 arg7 harg7 arg8 harg8 arg9 harg9 arg10 harg10 v3 v4 f2 f5 f6 f7
  have h25 := fun (v3 v4 : Vec F S512x128 .bf16) => part25 (F := F) Variants.none c none E i arg2 harg2 arg3 harg3 arg4 harg4 arg5 harg5 arg6 harg6 arg7 harg7 arg8 harg8 arg9 harg9 arg10 harg10 v3 v4 f2 f5 f6 f7
  have h26 := fun (v3 v4 : Vec F S512x128 .bf16) => part26 (F := F) Variants.none c none E i arg2 harg2 arg3 harg3 arg4 harg4 arg5 harg5 arg6 harg6 arg7 harg7 arg8 harg8 arg9 harg9 arg10 harg10 v3 v4 f2 f5 f6 f7
  sl_unfold [cc0_attn_bwd]
  by_cases hi : (i 1).val = 0
  · have h0 := (first_iff i).mpr hi
    rw [if_pos hi]
    sl_exec
    sl_step
    iapply Hk
    have T := total i arg2 arg5 arg6 arg7 arg8 _ _ f2 f5 f6 f7 _ hk0_part24_5 hk0_part25_5 hk0_part26_6 rfl
      hf2 ((View.readAt_full arg3.view f3 inb_S512x128_S512x128_0_0).trans hf3) ((View.readAt_full arg4.view f4 inb_S512x128_S512x128_0_0).trans hf4) hf5 hf6 hf7
      (View.read_writes_full arg8.view f8 inb_S16384x128_S16384x128_0_0 (k0_pay145 (F := F)) [])
    isplitl [Hk0_part26_0]
    · iexists _; isplitr; · ipureintro; exact hf2
      iexact Hk0_part26_0
    isplitl [H3]
    · iexists _; isplitr; · ipureintro; exact hf3
      iexact H3
    isplitl [H4]
    · iexists _; isplitr; · ipureintro; exact hf4
      iexact H4
    isplitl [Hk0_part26_1]
    · iexists _; isplitr; · ipureintro; exact hf5
      iexact Hk0_part26_1
    isplitl [Hk0_part26_2]
    · iexists _; isplitr; · ipureintro; exact hf6
      iexact Hk0_part26_2
    isplitl [Hk0_part26_3]
    · iexists _; isplitr; · ipureintro; exact hf7
      iexact Hk0_part26_3
    isplitl [Hk0_part26_4]
    · iexists _; isplitr; · ipureintro; exact congrArg Prod.snd T
      iexact Hk0_part26_4
    isplitl [Hk0_part26_5]
    · iexists _; isplitr
      · ipureintro
        exact (View.read_writes_full arg9.view f9 inb_S512x128_S512x128_0_0 _ []).trans (congrArg (fun s => k0_pay197 s.1.1) T)
      iexact Hk0_part26_5
    iexists _; isplitr
    · ipureintro
      exact (View.read_writes_full arg10.view f10 inb_S512x128_S512x128_0_0 _ []).trans (congrArg (fun s => s.1.2) T)
    iexact H10
  · have h0 := mt (first_iff i).mp hi
    rw [if_neg hi]
    sl_exec
    sl_step
    iapply Hk
    have T := total i arg2 arg5 arg6 arg7 arg8 _ _ f2 f5 f6 f7 _ hk0_part24_5 hk0_part25_5 hk0_part26_6 rfl
      hf2 ((View.readAt_full arg3.view f3 inb_S512x128_S512x128_0_0).trans hf3) ((View.readAt_full arg4.view f4 inb_S512x128_S512x128_0_0).trans hf4) hf5 hf6 hf7 hf8
    isplitl [Hk0_part26_0]
    · iexists _; isplitr; · ipureintro; exact hf2
      iexact Hk0_part26_0
    isplitl [H3]
    · iexists _; isplitr; · ipureintro; exact hf3
      iexact H3
    isplitl [H4]
    · iexists _; isplitr; · ipureintro; exact hf4
      iexact H4
    isplitl [Hk0_part26_1]
    · iexists _; isplitr; · ipureintro; exact hf5
      iexact Hk0_part26_1
    isplitl [Hk0_part26_2]
    · iexists _; isplitr; · ipureintro; exact hf6
      iexact Hk0_part26_2
    isplitl [Hk0_part26_3]
    · iexists _; isplitr; · ipureintro; exact hf7
      iexact Hk0_part26_3
    isplitl [Hk0_part26_4]
    · iexists _; isplitr; · ipureintro; exact congrArg Prod.snd T
      iexact Hk0_part26_4
    isplitl [Hk0_part26_5]
    · iexists _; isplitr
      · ipureintro
        exact (View.read_writes_full arg9.view f9 inb_S512x128_S512x128_0_0 _ []).trans (congrArg (fun s => k0_pay197 s.1.1) T)
      iexact Hk0_part26_5
    iexists _; isplitr
    · ipureintro
      exact (View.read_writes_full arg10.view f10 inb_S512x128_S512x128_0_0 _ []).trans (congrArg (fun s => s.1.2) T)
    iexact H10

end Cert.KernelIdeal.Attn
end
-- ==== Proof.KernelIdeal.Launch.lean ====
module

public import proofs.«01_k».proof.Proof.KernelIdeal.Body
public import proofs.«01_k».proof.Proof.Gen.KernelIdeal.Points

/-! The launch over the grid of heads and key blocks: what the results' buffers hold after each point, and the run. -/

@[expose] public section
set_option maxRecDepth 16384
set_option maxHeartbeats 4000000
noncomputable section
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Gen

variable {F : FTy → Type} [FloatOps F] [Named F]
local notation "𝕄G" => MT nD τ sig Unit (Elt F) ℕ (UR sig nD τ) ℕ

section fst

variable (v3 v4 : Vec F S512x128 .bf16) (x2 x5 : Vec F S16384x128 .bf16) (x6 x7 : Vec F S1x32x1x512 .f32)

/-- The sums for the keys and the values do not depend on the rows for the queries. -/
theorem vsteps_fst (b : ℕ) (s s' : VSt F) (h : s.1 = s'.1) (m : ℕ) :
    (vsteps v3 v4 x2 x5 x6 x7 b s m).1 = (vsteps v3 v4 x2 x5 x6 x7 b s' m).1 := by
  induction m with
  | zero => exact h
  | succ m ih =>
    rw [vsteps, vsteps, vstep, vstep]
    by_cases hb : b + m < 32
    · rw [dif_pos hb, dif_pos hb]; dsimp only; rw [ih]
    · rw [dif_neg hb, dif_neg hb]; exact ih

theorem vpoint_fst (n : ℕ) (h : n < 32) (d d' : Vec F S16384x128 .f32) :
    (vpoint v3 v4 x2 x5 x6 x7 n h d).1 = (vpoint v3 v4 x2 x5 x6 x7 n h d').1 :=
  vsteps_fst v3 v4 x2 x5 x6 x7 _ (vdiag v3 v4 x2 x5 x6 x7 n h d) (vdiag v3 v4 x2 x5 x6 x7 n h d') rfl _

end fst

abbrev 𝒱₀ : Variants := Variants.none

variable (m : (ℓ : Loc nD τ sig) → Buf (Elt F) ℓ) (ρ : Dev nD → PrngReg)

/-- The key block of grid point `t`. -/
theorem block_of : ∀ t : Fin cfg0.N, (cfg0.grid.coords t 1).val = t.val % 32 := by decide +kernel

/-- What grid point `t` computes over the rows `d` for the queries; at a head's first key block these start at zero. -/
def point (c : Dev nD) (t : Fin cfg0.N) (d : Vec F S16384x128 .f32) : VSt F :=
  vpoint (iblk m c 1 t) (iblk m c 2 t) (iblk m c 0 t) (iblk m c 3 t) (iblk m c 4 t) (iblk m c 5 t)
    (cfg0.grid.coords t 1).val (ilt (cfg0.grid.coords t))
    (if (cfg0.grid.coords t 1).val = 0 then k0_pay145 (F := F) else d)

theorem point_first (c : Dev nD) (t : Fin cfg0.N) (h : t.val % 32 = 0) (d d' : Vec F S16384x128 .f32) :
    point m c t d = point m c t d' := by
  unfold point
  rw [if_pos ((block_of t).trans h), if_pos ((block_of t).trans h)]

theorem point_fst (c : Dev nD) (t : Fin cfg0.N) (d d' : Vec F S16384x128 .f32) : (point m c t d).1 = (point m c t d').1 :=
  vpoint_fst _ _ _ _ _ _ _ _ _ _

/-- The rows for the queries after grid point `n`. -/
def dqAt (c : Dev nD) : (n : ℕ) → n < cfg0.N → Vec F S16384x128 .f32
  | 0, h => (point m c ⟨0, h⟩ (k0_pay145 (F := F))).2
  | n + 1, h => (point m c ⟨n + 1, h⟩ (dqAt c n (Nat.lt_of_succ_lt h))).2

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => k0_pay197 (point m c t (k0_pay145 (F := F))).1.1
    | ⟨8, _⟩ => (point m c t (k0_pay145 (F := F))).1.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t.val t.isLt := by dsimp only [dats]
theorem after0_7 (c : Dev nD) (t : Fin cfg0.N) :
    (dats m 0 c).after 7 t = k0_pay197 (point m c t (k0_pay145 (F := F))).1.1 := by dsimp only [dats]
theorem after0_8 (c : Dev nD) (t : Fin cfg0.N) : (dats m 0 c).after 8 t = (point m c t (k0_pay145 (F := F))).1.2 := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The rows that a point leaves are what it computes over the rows it finds. -/
theorem after_point (c : Dev nD) (t : Fin cfg0.N) (d) :
    (dats m 0 c).after 6 t = (point m c t ((dats m 0 c).before 6 t d)).2 := by
  rw [after0_6]
  obtain ⟨n, hn⟩ := t
  cases n with
  | zero => exact congrArg Prod.snd (point_first m c _ rfl _ _)
  | succ n =>
    by_cases h : (n + 1) % 32 = 0
    · exact congrArg Prod.snd (point_first m c _ h _ _)
    · have hf : (cfg0.win 6).flush ⟨n, Nat.lt_of_succ_lt hn⟩ = false := by
        rw [← Bool.not_eq_true, flush0_6]; show ¬ n % 32 = 31; omega
      have hb := (dats m 0 c).before_out_kept 6 rfl ⟨n + 1, hn⟩ (Nat.succ_ne_zero n) hf (fun _ => rfl) (fun _ _ => rfl) d
      rw [hb]
      show _ = (point m c _ ((dats m 0 c).after 6 ⟨n, Nat.lt_of_succ_lt hn⟩)).2
      rw [after0_6]
      rfl

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2,
    after0_3, after0_4, after0_5, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [after_point m c t d6, point_fst m c t _ ((dats m 0 c).before 6 t d6)]
  iapply (kernelRun c (cfg0.grid.coords t) _ _ _ _ _ _ _ _ _ _ _ _ _ _ _ _ _ _ (iblk m c 0 t) (iblk m c 1 t) (iblk m c 2 t)
    (iblk m c 3 t) (iblk m c 4 t) (iblk m c 5 t) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- The launch leaves each array as the grid's points left it, and no semaphore raised. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose)
    (hshare := fun c => (dats m 0 c).share_full fun _ => rfl)
    (howed := fun _ _ => rfl) (V := V m) (hmain := hmain m 𝒱₀)
    (hA := fun _ _ => rfl) (hΦ := fun _ _ => rfl)

/-- Every run ends with the arguments as launched and no semaphore raised. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (frame_of m ρ (dats m) fun _ _ => rfl) (run_main m ρ)

end Cert.KernelIdeal.Attn
end
-- ==== Proof.Final.Frames.lean ====
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run

/-! The frames of the kernel, of its idealization and of the reference, and the two named constants. -/

@[expose] public section

noncomputable section

namespace Cert.Proof

open Idealize.ShloMosaic Idealize.SL.Sem

theorem frame_p : Cert.quiescent_Kernel := fun m ρ _ => Cert.Kernel.Attn.quiescent (F := Bits) m ρ

theorem frame_pi : Cert.quiescent_KernelIdeal := fun m ρ _ => Cert.KernelIdeal.Attn.quiescent (F := Ideal) m ρ

theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The frames hold of every launch, so of the launches that meet the precondition. -/
theorem frame_pi_finite [Cert.Pre_finite.Facts] : Cert.quiescent_KernelIdeal_pre_finite := fun m ρ _ => frame_pi m ρ trivial

theorem frame_ri_finite [Cert.Pre_finite.Facts] : Cert.quiescent_ReferenceIdeal_pre_finite := fun m ρ _ => frame_ri m ρ trivial

/-- The mask's constant is minus infinity over the reals, and the last factor is the natural logarithm of two. -/
theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

end Cert.Proof

end
-- ==== Proof.Value.Reals.lean ====
module

public import Idealize.ShloMosaic.Lib.Pointwise

/-! The attention of one head and its gradients over the reals, and sums over the positions cut in blocks of 512. -/

@[expose] public section
noncomputable section
namespace Cert.Reals

open Finset

/-- A finite sum of reals is the same sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals. -/
theorem sum_coe_mul {ι : Type*} [Fintype ι] (f g : ι → ℝ) :
    (∑ i, (f i : EReal) * (g i : EReal)) = ((∑ i, f i * g i : ℝ) : EReal) := by
  rw [coe_sum]; exact sum_congr rfl fun i _ => (EReal.coe_mul _ _).symm

section attention

variable {N D : ℕ} (Q K V O : Fin N → Fin D → ℝ)

/-- The score of query `i` and key `j`. -/
def score (i j : Fin N) : ℝ := ∑ d, Q i d * K j d

/-- The exponential of the score where the key is not after the query. -/
def weight (i j : Fin N) : ℝ := if j ≤ i then Real.exp (score Q K i j) else 0

/-- The sum of a query's weights. -/
def total (i : Fin N) : ℝ := ∑ j, weight Q K i j

/-- The softmax. -/
def prob (i j : Fin N) : ℝ := weight Q K i j / total Q K i

/-- The gradient for the softmax. -/
def dprob (i j : Fin N) : ℝ := ∑ d, O i d * V j d

/-- The output. -/
def out (i : Fin N) (d : Fin D) : ℝ := ∑ j, prob Q K i j * V j d

/-- The sum of the softmax's gradient over the keys, weighted by the softmax. -/
def delta (i : Fin N) : ℝ := ∑ j, prob Q K i j * dprob V O i j

/-- The gradient for the scores. -/
def dscore (i j : Fin N) : ℝ := prob Q K i j * (dprob V O i j - delta Q K V O i)

/-- The gradients for the queries, the keys and the values. -/
def dquery (i : Fin N) (d : Fin D) : ℝ := ∑ j, dscore Q K V O i j * K j d
def dkey (j : Fin N) (d : Fin D) : ℝ := ∑ i, dscore Q K V O i j * Q i d
def dvalue (j : Fin N) (d : Fin D) : ℝ := ∑ i, prob Q K i j * O i d

theorem weight_nonneg (i j : Fin N) : 0 ≤ weight Q K i j := by
  unfold weight; split
  · exact (Real.exp_pos _).le
  · exact le_rfl

theorem total_pos (i : Fin N) : 0 < total Q K i := by
  refine sum_pos' (fun j _ => weight_nonneg Q K i j) ⟨i, mem_univ _, ?_⟩
  rw [weight, if_pos le_rfl]; exact Real.exp_pos _

theorem prob_zero {i j : Fin N} (h : i < j) : prob Q K i j = 0 := by
  rw [prob, weight, if_neg (not_le.mpr h), zero_div]

theorem dscore_zero {i j : Fin N} (h : i < j) : dscore Q K V O i j = 0 := by
  rw [dscore, prob_zero Q K h, zero_mul]

/-- The sum of the output times its gradient is the sum over the keys. -/
theorem delta_eq (i : Fin N) : ∑ d, O i d * out Q K V i d = delta Q K V O i := by
  simp only [out, delta, dprob, mul_sum]
  rw [sum_comm]
  exact sum_congr rfl fun j _ => sum_congr rfl fun d _ => by ring

/-- The exponentials of the scores less `m`, which does not change the softmax. -/
def shifted (m : ℝ) (i j : Fin N) : ℝ := if j ≤ i then Real.exp (score Q K i j - m) else 0

theorem shifted_eq (m : ℝ) (i j : Fin N) : shifted Q K m i j = weight Q K i j * Real.exp (-m) := by
  unfold shifted weight; split
  · rw [← Real.exp_add]; rfl
  · rw [zero_mul]

theorem shifted_sum (m : ℝ) (i : Fin N) : ∑ j, shifted Q K m i j = total Q K i * Real.exp (-m) := by
  rw [total, sum_mul]; exact sum_congr rfl fun j _ => shifted_eq Q K m i j

theorem shifted_sum_pos (m : ℝ) (i : Fin N) : 0 < ∑ j, shifted Q K m i j := by
  rw [shifted_sum]; exact mul_pos (total_pos Q K i) (Real.exp_pos _)

theorem shifted_div (m : ℝ) (i j : Fin N) : shifted Q K m i j / ∑ j, shifted Q K m i j = prob Q K i j := by
  rw [shifted_sum, shifted_eq, prob, mul_div_mul_right _ _ (Real.exp_pos _).ne']

/-- The gradient for the scores as the derivative of the quotient gives it. -/
theorem dscore_quotient (m : ℝ) (i j : Fin N) :
    (dprob V O i j / ∑ j, shifted Q K m i j
        + -(∑ j', dprob V O i j' * (1 / ((∑ j, shifted Q K m i j) * ∑ j, shifted Q K m i j)) * shifted Q K m i j'))
        * shifted Q K m i j
      = dscore Q K V O i j := by
  have hL := (shifted_sum_pos Q K m i).ne'
  rw [dscore, delta]
  simp only [← shifted_div Q K m]
  generalize (∑ j, shifted Q K m i j) = L at hL ⊢
  have : (∑ j', dprob V O i j' * (1 / (L * L)) * shifted Q K m i j')
      = (∑ j', shifted Q K m i j' / L * dprob V O i j') / L := by
    rw [sum_div]; exact sum_congr rfl fun j' _ => by field_simp
  rw [this]
  field_simp
  ring

/-- The softmax from the scores and the row's log-sum, both in base 2. -/
theorem exp2_prob (m : ℝ) {i j : Fin N} (h : j ≤ i) (s : ℝ) (hs : s = score Q K i j * (1 / Real.log 2)) :
    Real.rpow 2 (s - (m + Real.log (∑ j, shifted Q K m i j)) * (1 / Real.log 2)) = prob Q K i j := by
  have hl : Real.log 2 ≠ 0 := (Real.log_pos one_lt_two).ne'
  have hL := shifted_sum_pos Q K m i
  rw [← shifted_div Q K m, shifted, if_pos h, hs]
  have key : ∀ x : ℝ, Real.rpow 2 x = Real.exp (Real.log 2 * x) := fun x => Real.rpow_def_of_pos two_pos x
  rw [key]
  have : Real.log 2 * (score Q K i j * (1 / Real.log 2)
      - (m + Real.log (∑ j, shifted Q K m i j)) * (1 / Real.log 2))
      = (score Q K i j - m) - Real.log (∑ j, shifted Q K m i j) := by
    field_simp; ring
  rw [this, Real.exp_sub, Real.exp_log hL]

end attention

section blocks

/-- Position `s` of block `b`. -/
def at_ (b : ℕ) (h : b < 32) (s : Fin 512) : Fin 16384 := ⟨512 * b + s.val, by omega⟩

/-- The sum over block `b`; past the last block it is zero. -/
def blk (f : Fin 16384 → ℝ) (b : ℕ) : ℝ := if h : b < 32 then ∑ s, f (at_ b h s) else 0

theorem blk_of (f : Fin 16384 → ℝ) {b : ℕ} (h : b < 32) : blk f b = ∑ s, f (at_ b h s) := dif_pos h

theorem blk_zero (f : Fin 16384 → ℝ) (b : ℕ) (hf : ∀ h s, f (at_ b h s) = 0) : blk f b = 0 := by
  unfold blk; split
  · exact sum_eq_zero fun s _ => hf _ s
  · rfl

/-- A sum over the positions is the sum over the blocks. -/
theorem sum_blk (f : Fin 16384 → ℝ) : ∑ i, f i = ∑ b ∈ range 32, blk f b := by
  rw [← (finProdFinEquiv (m := 32) (n := 512)).sum_comp f, Fintype.sum_prod_type, Finset.sum_range]
  refine sum_congr rfl fun b _ => ?_
  rw [blk_of f b.isLt]
  refine sum_congr rfl fun s _ => congrArg f (Fin.ext ?_)
  show s.val + 512 * b.val = 512 * b.val + s.val
  omega

/-- Blocks below `n` that are zero may be left out. -/
theorem sum_blk_from (f : Fin 16384 → ℝ) (n : ℕ) (hn : n < 32) (hf : ∀ b < n, blk f b = 0) :
    ∑ i, f i = blk f n + ∑ k ∈ range (31 - n), blk f (n + 1 + k) := by
  rw [sum_blk, show 32 = (n + 1) + (31 - n) by omega, sum_range_add, sum_range_succ,
    sum_eq_zero (fun b hb => hf b (mem_range.mp hb)), zero_add]

end blocks

end Cert.Reals
end
-- ==== Proof.Value.Softmax.lean ====
module

public import proofs.«01_k».proof.Proof.Value.Reals
public import proofs.«01_k».proof.Proof.Gen.ReferenceIdeal
public import Idealize.ShloMosaic.PureOps.IdealRules
public import Idealize.ShloMosaic.Lib.WordCmp

/-! The plain attention's arrays read at an index, where the arguments hold reals. Each head's arrays of reals are
    those of `Cert.Reals`. -/

@[expose] public section
set_option maxRecDepth 16384
noncomputable section
namespace Cert.Plain

open Idealize.ShloMosaic Idealize.ShloMosaic.TcCoe
open Cert.ReferenceIdeal Cert.ReferenceIdeal.Gen Cert.Reals

/-- The scaled queries. -/
def scaled (q : FVec Ideal S16384x1024 .bf16) : FVec Ideal S16384x1024 .f32 :=
  mulf (extf .f32 q bitsLt_bf16_f32) (broadcastInDim S16384x1024 ![] bcast_S_S16384x1024 (constant S_ .f32 0x3DD105EC#32))

/-- An array by heads. -/
def byHead (x : FVec Ideal S16384x1024 .f32) : FVec Ideal S16384x8x128 .f32 :=
  shapeCast _ x shapeCasts_S16384x1024_S16384x8x128

/-- Where the key is not after the query. -/
def maskArr : IVec S8x16384x16384 1 :=
  broadcastInDim S8x16384x16384 ![0, 1, 2] bcast_S1x16384x16384_S8x16384x16384_0_1_2 (broadcastInDim S1x16384x16384 ![1, 2] bcast_S16384x16384_S1x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))

/-- The masked scores. -/
def scores (q k : FVec Ideal S16384x8x128 .f32) : FVec Ideal S8x16384x16384 .f32 :=
  select maskArr (Host.dotGeneral dot_S16384x8x128_S16384x8x128_S8x16384x16384_2_2_0_0_1_1 none q k)
    (broadcastInDim S8x16384x16384 ![] bcast_S_S8x16384x16384 (id (constant S_ .f32 0xFF800000#32)))

/-- The number the queries are scaled by. -/
def scale : ℝ := (Ideal.ofBits .f32 0x3DD105EC#32).toReal

theorem scale_eq : Ideal.ofBits .f32 0x3DD105EC#32 = (scale : EReal) := by
  refine (EReal.coe_toReal ?_ ?_).symm <;> simp [Ideal.ofBits, Ideal.ieee, -EReal.coe_mul]

theorem neg_inf : Ideal.ofBits .f32 0xFF800000#32 = ⊥ := by simp [Ideal.ofBits, Ideal.ieee]

/-- Lane `d` of head `h`. -/
def lane (h : Fin 8) (d : Fin 128) : Fin 1024 := ⟨h.val * 128 + d.val, by omega⟩

theorem scaled_at (q : FVec Ideal S16384x1024 .bf16) (i : Fin 16384) (l : Fin 1024) :
    scaled q (ix2 i l) = q (ix2 i l) * (scale : EReal) := by
  pointwise [scaled]
  rw [scale_eq]

theorem byHead_at (x : FVec Ideal S16384x1024 .f32) (i : Fin 16384) (h : Fin 8) (d : Fin 128) :
    byHead x (ix3 i h d) = x (ix2 i (lane h d)) := by
  pointwise [byHead]
  rfl

theorem maskArr_at (h : Fin 8) (i j : Fin 16384) : maskArr (ix3 h i j) = BitVec.ofBool (decide (j ≤ i)) := by
  pointwise [maskArr]
  exact WordCmp.cmpi_sle_ofNat (by omega) (by omega)

section one
variable {Q K : Fin 8 → Fin 16384 → Fin 128 → ℝ}

/-- The scores of real queries and keys: real where the key is not after the query, else minus infinity. -/
theorem scores_at {q k : FVec Ideal S16384x8x128 .f32} (hq : ∀ i h d, q (ix3 i h d) = (Q h i d : EReal))
    (hk : ∀ i h d, k (ix3 i h d) = (K h i d : EReal)) (h : Fin 8) (i j : Fin 16384) :
    scores q k (ix3 h i j) = if j ≤ i then ((score (Q h) (K h) i j : ℝ) : EReal) else ⊥ := by
  pointwise [scores]
  rw [maskArr_at]
  simp only [hq, hk, sum_coe_mul]
  by_cases hji : j ≤ i
  · rw [if_pos hji, decide_eq_true hji]; rfl
  · rw [if_neg hji, decide_eq_false hji]; exact neg_inf

/-- The greatest score of each query. -/
def rowMax (s : FVec Ideal S8x16384x16384 .f32) : FVec Ideal S8x16384 .f32 :=
  Host.reduce FloatOps.maximumf s (constant S_ .f32 0xFF800000#32) reducesTo_S8x16384x16384_S8x16384_d2 h_S_

/-- The greatest of numbers of which some are minus infinity and one is not is a number. -/
theorem fold_max_real {n : ℕ} (f : Fin n → EReal) (hf : ∀ j, f j ≠ ⊤) (i : Fin n) (hi : f i ≠ ⊥) :
    ∃ M : ℝ, Finset.fold max ⊥ f Finset.univ = (M : EReal) := by
  have h1 : Finset.fold max ⊥ f Finset.univ < ⊤ :=
    (Finset.fold_max_lt _).mpr ⟨bot_lt_top, fun j _ => lt_top_iff_ne_top.mpr (hf j)⟩
  have h2 : f i ≤ Finset.fold max ⊥ f Finset.univ :=
    (Finset.le_fold_max _).mpr (Or.inr ⟨i, Finset.mem_univ _, le_rfl⟩)
  exact ⟨_, (EReal.coe_toReal h1.ne (fun e => hi (le_bot_iff.mp (e ▸ h2)))).symm⟩

theorem rowMax_at {s : FVec Ideal S8x16384x16384 .f32}
    (hs : ∀ h i j, s (ix3 h i j) = if j ≤ i then ((score (Q h) (K h) i j : ℝ) : EReal) else ⊥) :
    ∃ M : Fin 8 → Fin 16384 → ℝ, ∀ h i, rowMax s (ix2 h i) = (M h i : EReal) := by
  have : ∀ h i, ∃ M : ℝ, rowMax s (ix2 h i) = (M : EReal) := by
    intro h i
    pointwise [rowMax]
    rw [neg_inf]
    refine fold_max_real _ (fun j => ?_) i ?_
    · rw [hs]; split
      · exact EReal.coe_ne_top _
      · exact bot_ne_top
    · rw [hs, if_pos le_rfl]; exact EReal.coe_ne_bot _
  choose M hM using this
  exact ⟨M, hM⟩

/-- The greater of each number and minus infinity. -/
def clamp (r : FVec Ideal S8x16384 .f32) : FVec Ideal S8x16384 .f32 :=
  maximumf (broadcastInDim S8x16384 ![] bcast_S_S8x16384 (constant S_ .f32 0xFF800000#32)) r

theorem clamp_at (r : FVec Ideal S8x16384 .f32) (h : Fin 8) (i : Fin 16384) : clamp r (ix2 h i) = r (ix2 h i) := by
  pointwise [clamp]
  rw [neg_inf]
  exact max_eq_right bot_le

/-- A number for each query, as a column. -/
def col (m : FVec Ideal S8x16384 .f32) : FVec Ideal S8x16384x1 .f32 :=
  broadcastInDim S8x16384x1 ![0, 1] bcast_S8x16384_S8x16384x1_0_1 m

/-- A column along the keys. -/
def spread (m : FVec Ideal S8x16384x1 .f32) : FVec Ideal S8x16384x16384 .f32 :=
  broadcastInDim S8x16384x16384 ![0, 1, 2] bcast_S8x16384x1_S8x16384x16384_0_1_2 m

theorem col_at (m : FVec Ideal S8x16384 .f32) (h : Fin 8) (i : Fin 16384) : col m (ix3 h i 0) = m (ix2 h i) := by
  pointwise [col]

theorem spread_at (m : FVec Ideal S8x16384x1 .f32) (h : Fin 8) (i j : Fin 16384) :
    spread m (ix3 h i j) = m (ix3 h i 0) := by
  pointwise [spread]

/-- The exponentials of the scores less `m`. -/
def exps (s : FVec Ideal S8x16384x16384 .f32) (m : FVec Ideal S8x16384 .f32) : FVec Ideal S8x16384x16384 .f32 :=
  Host.exp (subf s (spread (col m)))

theorem exps_at {s : FVec Ideal S8x16384x16384 .f32} {m : FVec Ideal S8x16384 .f32} {M : Fin 8 → Fin 16384 → ℝ}
    (hs : ∀ h i j, s (ix3 h i j) = if j ≤ i then ((score (Q h) (K h) i j : ℝ) : EReal) else ⊥)
    (hm : ∀ h i, m (ix2 h i) = (M h i : EReal)) (h : Fin 8) (i j : Fin 16384) :
    exps s m (ix3 h i j) = ((shifted (Q h) (K h) (M h i) i j : ℝ) : EReal) := by
  pointwise [exps]
  rw [spread_at, col_at, hs, hm, shifted]
  split
  · rw [← EReal.coe_sub]; exact Ideal.exp_coe _
  · rw [EReal.bot_sub]; exact Ideal.exp_bot

/-- Sums over the keys. -/
def rowSum (s : FVec Ideal S8x16384x16384 .f32) : FVec Ideal S8x16384 .f32 :=
  Host.reduceAdd s (constant S_ .f32 0x00000000#32) reducesTo_S8x16384x16384_S8x16384_d2 h_S_

theorem rowSum_at {s : FVec Ideal S8x16384x16384 .f32} {f : Fin 8 → Fin 16384 → Fin 16384 → ℝ}
    (hs : ∀ h i j, s (ix3 h i j) = (f h i j : EReal)) (h : Fin 8) (i : Fin 16384) :
    rowSum s (ix2 h i) = ((∑ j, f h i j : ℝ) : EReal) := by
  pointwise [rowSum]
  simp only [hs, coe_sum]

/-- The softmax from the exponentials. -/
def soft (e : FVec Ideal S8x16384x16384 .f32) : FVec Ideal S8x16384x16384 .f32 :=
  Host.divf e (spread (col (rowSum e)))

theorem div_real {a b : ℝ} (hb : b ≠ 0) : Ideal.div (a : EReal) (b : EReal) = ((a / b : ℝ) : EReal) := by
  rw [Ideal.div_coe hb, ← EReal.coe_mul, mul_one_div]

theorem soft_at {e : FVec Ideal S8x16384x16384 .f32} {M : Fin 8 → Fin 16384 → ℝ}
    (he : ∀ h i j, e (ix3 h i j) = ((shifted (Q h) (K h) (M h i) i j : ℝ) : EReal)) (h : Fin 8) (i j : Fin 16384) :
    soft e (ix3 h i j) = ((prob (Q h) (K h) i j : ℝ) : EReal) := by
  pointwise [soft]
  rw [spread_at, col_at, he, rowSum_at he]
  rw [← shifted_div (Q h) (K h) (M h i) i j]
  exact div_real (shifted_sum_pos _ _ _ _).ne'

end one

end Cert.Plain
end
-- ==== Proof.Value.Ref.lean ====
module

public import proofs.«01_k».proof.Proof.Value.Softmax

/-! The reference's three results: the arrays it goes through, each read at an index, and the gradients over the reals
    at the end. -/

@[expose] public section
set_option maxRecDepth 16384
noncomputable section
namespace Cert.Plain

open Idealize.ShloMosaic Idealize.ShloMosaic.TcCoe
open Cert.ReferenceIdeal Cert.ReferenceIdeal.Gen Cert.Reals

/-- A wider copy of an array. -/
def wide (x : FVec Ideal S16384x1024 .bf16) : FVec Ideal S16384x1024 .f32 := extf .f32 x bitsLt_bf16_f32

theorem wide_at (x : FVec Ideal S16384x1024 .bf16) (i : Fin 16384) (l : Fin 1024) : wide x (ix2 i l) = x (ix2 i l) := by
  pointwise [wide]

/-- The output's gradient by heads, the positions last. -/
def turned (o : FVec Ideal S16384x8x128 .f32) : FVec Ideal S8x128x16384 .f32 :=
  transpose S8x128x16384 [1, 2, 0] o transposes_S16384x8x128_S8x128x16384_1_2_0

theorem turned_at (o : FVec Ideal S16384x8x128 .f32) (h : Fin 8) (d : Fin 128) (i : Fin 16384) :
    turned o (ix3 h d i) = o (ix3 i h d) := by
  pointwise [turned]

/-- The gradient for the softmax. -/
def dprobArr (o v : FVec Ideal S16384x8x128 .f32) : FVec Ideal S8x16384x16384 .f32 :=
  Host.dotGeneral dot_S8x128x16384_S16384x8x128_S8x16384x16384_1_2_2_0_0_1 none (turned o) v

/-- The gradient for the values. -/
def dvalueArr (o : FVec Ideal S16384x8x128 .f32) (p : FVec Ideal S8x16384x16384 .f32) : FVec Ideal S16384x1024 .f32 :=
  shapeCast _ (transpose S16384x8x128 [2, 0, 1] (Host.dotGeneral dot_S8x128x16384_S8x16384x16384_S8x128x16384_2_1_1_2_0_0 none (turned o) p) transposes_S8x128x16384_S16384x8x128_2_0_1) shapeCasts_S16384x8x128_S16384x1024

/-- What the rows of sums' gradient sums. -/
def termArr (g e : FVec Ideal S8x16384x16384 .f32) (l : FVec Ideal S8x16384 .f32) : FVec Ideal S8x16384x16384 .f32 :=
  mulf (mulf g (spread (Host.divf (broadcastInDim S8x16384x1 ![] bcast_S_S8x16384x1 (constant S_ .f32 0x3F800000#32)) (mulf (col l) (col l))))) e

/-- The gradient for the rows of sums, from the quotient. -/
def dsumArr (t : FVec Ideal S8x16384x16384 .f32) : FVec Ideal S8x16384 .f32 :=
  Host.reduceAdd (Host.negf (shapeCast _ (rowSum t) shapeCasts_S8x16384_S8x16384x1)) (constant S_ .f32 0x00000000#32) reducesTo_S8x16384x1_S8x16384_d2 h_S_

/-- The gradient for the scores. -/
def dscoreArr (g e : FVec Ideal S8x16384x16384 .f32) (l r : FVec Ideal S8x16384 .f32) : FVec Ideal S8x16384x16384 .f32 :=
  select maskArr (mulf (addf (Host.divf g (spread (col l))) (broadcastInDim S8x16384x16384 ![0, 1] bcast_S8x16384_S8x16384x16384_0_1 r)) e) (broadcastInDim S8x16384x16384 ![] bcast_S_S8x16384x16384 (constant S_ .f32 0x00000000#32))

/-- The gradient for the keys. -/
def dkeyArr (s : FVec Ideal S8x16384x16384 .f32) (q : FVec Ideal S16384x8x128 .f32) : FVec Ideal S16384x1024 .f32 :=
  shapeCast _ (transpose S16384x8x128 [1, 0, 2] (Host.dotGeneral dot_S8x16384x16384_S16384x8x128_S8x16384x128_1_0_2_2_0_1 none s q) transposes_S8x16384x128_S16384x8x128_1_0_2) shapeCasts_S16384x8x128_S16384x1024

/-- The gradient for the queries. -/
def dqueryArr (s : FVec Ideal S8x16384x16384 .f32) (k : FVec Ideal S16384x8x128 .f32) : FVec Ideal S16384x1024 .f32 :=
  shapeCast _ (transpose S16384x8x128 [1, 0, 2] (Host.dotGeneral dot_S8x16384x16384_S16384x8x128_S8x16384x128_2_0_1_2_0_1 none s k) transposes_S8x16384x128_S16384x8x128_1_0_2) shapeCasts_S16384x8x128_S16384x1024

section one
variable {Q K V O : Fin 8 → Fin 16384 → Fin 128 → ℝ}

theorem dprobArr_at {o v : FVec Ideal S16384x8x128 .f32} (ho : ∀ i h d, o (ix3 i h d) = (O h i d : EReal))
    (hv : ∀ i h d, v (ix3 i h d) = (V h i d : EReal)) (h : Fin 8) (i j : Fin 16384) :
    dprobArr o v (ix3 h i j) = ((dprob (V h) (O h) i j : ℝ) : EReal) := by
  pointwise [dprobArr]
  simp only [turned_at, ho, hv, sum_coe_mul]
  rfl

theorem dvalueArr_at {o : FVec Ideal S16384x8x128 .f32} {p : FVec Ideal S8x16384x16384 .f32}
    (ho : ∀ i h d, o (ix3 i h d) = (O h i d : EReal))
    (hp : ∀ h i j, p (ix3 h i j) = ((prob (Q h) (K h) i j : ℝ) : EReal)) (j : Fin 16384) (h : Fin 8) (d : Fin 128) :
    dvalueArr o p (ix2 j (lane h d)) = ((dvalue (Q h) (K h) (O h) j d : ℝ) : EReal) := by
  pointwise [dvalueArr, lane]
  simp only [turned_at, ho, hp]
  rw [dvalue, coe_sum]
  exact Finset.sum_congr rfl fun i _ => by rw [mul_comm, EReal.coe_mul]

theorem termArr_at {g e : FVec Ideal S8x16384x16384 .f32} {l : FVec Ideal S8x16384 .f32}
    {G E : Fin 8 → Fin 16384 → Fin 16384 → ℝ} {L : Fin 8 → Fin 16384 → ℝ}
    (hg : ∀ h i j, g (ix3 h i j) = (G h i j : EReal)) (he : ∀ h i j, e (ix3 h i j) = (E h i j : EReal))
    (hl : ∀ h i, l (ix2 h i) = (L h i : EReal)) (hL : ∀ h i, L h i ≠ 0) (h : Fin 8) (i j : Fin 16384) :
    termArr g e l (ix3 h i j) = ((G h i j * (1 / (L h i * L h i)) * E h i j : ℝ) : EReal) := by
  pointwise [termArr]
  rw [hg, he, spread_at]
  pointwise []
  rw [col_at, hl, ← EReal.coe_mul, Ideal.div_coe (mul_ne_zero (hL h i) (hL h i)), one_mul, ← EReal.coe_mul,
    ← EReal.coe_mul]

theorem dsumArr_at {t : FVec Ideal S8x16384x16384 .f32} {T : Fin 8 → Fin 16384 → Fin 16384 → ℝ}
    (ht : ∀ h i j, t (ix3 h i j) = (T h i j : EReal)) (h : Fin 8) (i : Fin 16384) :
    dsumArr t (ix2 h i) = ((-(∑ j, T h i j) : ℝ) : EReal) := by
  pointwise [dsumArr]
  rw [rowSum_at ht, Fin.sum_univ_one, ← EReal.coe_neg]

theorem dscoreArr_at {g e : FVec Ideal S8x16384x16384 .f32} {l r : FVec Ideal S8x16384 .f32}
    {G : Fin 8 → Fin 16384 → Fin 16384 → ℝ} {M L R : Fin 8 → Fin 16384 → ℝ}
    (hg : ∀ h i j, g (ix3 h i j) = (G h i j : EReal))
    (he : ∀ h i j, e (ix3 h i j) = ((shifted (Q h) (K h) (M h i) i j : ℝ) : EReal))
    (hl : ∀ h i, l (ix2 h i) = (L h i : EReal)) (hL : ∀ h i, L h i ≠ 0)
    (hr : ∀ h i, r (ix2 h i) = (R h i : EReal)) (h : Fin 8) (i j : Fin 16384) :
    dscoreArr g e l r (ix3 h i j)
      = (((G h i j / L h i + R h i) * shifted (Q h) (K h) (M h i) i j : ℝ) : EReal) := by
  pointwise [dscoreArr]
  rw [maskArr_at, spread_at, col_at, hg, he, hl, hr]
  by_cases hji : j ≤ i
  · rw [decide_eq_true hji, div_real (hL h i), ← EReal.coe_add, ← EReal.coe_mul]; rfl
  · rw [decide_eq_false hji, shifted, if_neg hji, mul_zero]; rfl

theorem dkeyArr_at {q : FVec Ideal S16384x8x128 .f32} {s : FVec Ideal S8x16384x16384 .f32}
    (hq : ∀ i h d, q (ix3 i h d) = (Q h i d : EReal))
    (hs : ∀ h i j, s (ix3 h i j) = ((dscore (Q h) (K h) (V h) (O h) i j : ℝ) : EReal))
    (j : Fin 16384) (h : Fin 8) (d : Fin 128) :
    dkeyArr s q (ix2 j (lane h d)) = ((dkey (Q h) (K h) (V h) (O h) j d : ℝ) : EReal) := by
  pointwise [dkeyArr, lane]
  simp only [hq, hs, sum_coe_mul]
  rfl

theorem dqueryArr_at {k : FVec Ideal S16384x8x128 .f32} {s : FVec Ideal S8x16384x16384 .f32}
    (hk : ∀ i h d, k (ix3 i h d) = (K h i d : EReal))
    (hs : ∀ h i j, s (ix3 h i j) = ((dscore (Q h) (K h) (V h) (O h) i j : ℝ) : EReal))
    (i : Fin 16384) (h : Fin 8) (d : Fin 128) :
    dqueryArr s k (ix2 i (lane h d)) = ((dquery (Q h) (K h) (V h) (O h) i d : ℝ) : EReal) := by
  pointwise [dqueryArr, lane]
  simp only [hk, hs, sum_coe_mul]
  rfl

end one

/-- The exponentials of the scores less each row's greatest. -/
def expArr (q k : FVec Ideal S16384x1024 .bf16) : FVec Ideal S8x16384x16384 .f32 :=
  exps (scores (byHead (scaled q)) (byHead (wide k))) (clamp (rowMax (scores (byHead (scaled q)) (byHead (wide k)))))

/-- The gradient for the scores, from the arguments. -/
def dscores (q k v o : FVec Ideal S16384x1024 .bf16) : FVec Ideal S8x16384x16384 .f32 :=
  dscoreArr (dprobArr (byHead (wide o)) (byHead (wide v))) (expArr q k) (rowSum (expArr q k))
    (dsumArr (termArr (dprobArr (byHead (wide o)) (byHead (wide v))) (expArr q k) (rowSum (expArr q k))))

/-- An array of reals by heads. -/
def hd (A : Fin 16384 → Fin 1024 → ℝ) (h : Fin 8) (i : Fin 16384) (d : Fin 128) : ℝ := A i (lane h d)

/-- The scaled queries by heads. -/
def hq (A : Fin 16384 → Fin 1024 → ℝ) (h : Fin 8) (i : Fin 16384) (d : Fin 128) : ℝ := A i (lane h d) * scale

section whole
variable {q k v o : FVec Ideal S16384x1024 .bf16} {A B C D : Fin 16384 → Fin 1024 → ℝ}

theorem wide_real (hk : ∀ i l, k (ix2 i l) = (B i l : EReal)) (i : Fin 16384) (h : Fin 8) (d : Fin 128) :
    byHead (wide k) (ix3 i h d) = (hd B h i d : EReal) := by
  rw [byHead_at, wide_at, hk]; rfl

theorem scaled_real (hA : ∀ i l, q (ix2 i l) = (A i l : EReal)) (i : Fin 16384) (h : Fin 8) (d : Fin 128) :
    byHead (scaled q) (ix3 i h d) = (hq A h i d : EReal) := by
  rw [byHead_at, scaled_at, hA, ← EReal.coe_mul]; rfl

theorem expArr_real (hA : ∀ i l, q (ix2 i l) = (A i l : EReal)) (hB : ∀ i l, k (ix2 i l) = (B i l : EReal)) :
    ∃ M : Fin 8 → Fin 16384 → ℝ, ∀ h i j,
      expArr q k (ix3 h i j) = ((shifted (hq A h) (hd B h) (M h i) i j : ℝ) : EReal) := by
  have hs := scores_at (scaled_real hA) (wide_real hB)
  obtain ⟨M, hM⟩ := rowMax_at hs
  exact ⟨M, exps_at hs fun h i => (clamp_at _ h i).trans (hM h i)⟩

theorem dscores_real (hA : ∀ i l, q (ix2 i l) = (A i l : EReal)) (hB : ∀ i l, k (ix2 i l) = (B i l : EReal))
    (hC : ∀ i l, v (ix2 i l) = (C i l : EReal)) (hD : ∀ i l, o (ix2 i l) = (D i l : EReal)) (h : Fin 8)
    (i j : Fin 16384) :
    dscores q k v o (ix3 h i j) = ((dscore (hq A h) (hd B h) (hd C h) (hd D h) i j : ℝ) : EReal) := by
  obtain ⟨M, hM⟩ := expArr_real hA hB
  have hL : ∀ h i, (∑ j, shifted (hq A h) (hd B h) (M h i) i j) ≠ 0 := fun h i => (shifted_sum_pos _ _ _ _).ne'
  have hg := dprobArr_at (wide_real hD) (wide_real hC)
  rw [dscores, dscoreArr_at hg hM (rowSum_at hM) hL (dsumArr_at (termArr_at hg hM (rowSum_at hM) hL)),
    dscore_quotient]

end whole

end Cert.Plain
end
-- ==== Proof.Value.Host.lean ====
module

public import proofs.«01_k».proof.Proof.Value.Ref
public import proofs.«01_k».proof.Proof.Gen.KernelIdeal.Frame

/-! What the kernel's program computes before the launch: the queries scaled for base 2, each row's log-sum in base 2
    and each row's sum of the output times its gradient. -/

@[expose] public section
set_option maxRecDepth 16384
noncomputable section
namespace Cert.KernelIdeal.Attn

open Idealize.ShloMosaic Idealize.ShloMosaic.TcCoe
open Cert.KernelIdeal Cert.KernelIdeal.Gen Cert.Reals Cert.Plain

/-- One over the logarithm of two. -/
def log2e : FVec Ideal S_ .f32 := Host.divf (constant S_ .f32 0x3F800000#32) (Host.log (constant S_ .f32 0x40000000#32))

/-- The queries scaled for base 2. -/
def qpArr (q : FVec Ideal S16384x1024 .f32) : FVec Ideal S16384x1024 .bf16 :=
  truncf .bf16 (mulf q (broadcastInDim S16384x1024 ![] bcast_S_S16384x1024 log2e)) bitsLt_bf16_f32

/-- Each row's log-sum in base 2. -/
def lseArr (m l : FVec Ideal S8x16384 .f32) : FVec Ideal S8x32x1x512 .f32 :=
  shapeCast _ (mulf (addf m (Host.log l)) (broadcastInDim S8x16384 ![] bcast_S_S8x16384 log2e)) shapeCasts_S8x16384_S8x32x1x512

/-- The output of the attention. -/
def outArr (v : FVec Ideal S16384x8x128 .f32) (p : FVec Ideal S8x16384x16384 .f32) : FVec Ideal S16384x1024 .f32 :=
  shapeCast _ (transpose S16384x8x128 [2, 0, 1] (Host.dotGeneral dot_S16384x8x128_S8x16384x16384_S8x128x16384_0_2_2_1_1_0 none v p) transposes_S8x128x16384_S16384x8x128_2_0_1) shapeCasts_S16384x8x128_S16384x1024

/-- Each row's sum of the output times its gradient. -/
def deltaArr (o p : FVec Ideal S16384x8x128 .f32) : FVec Ideal S8x32x1x512 .f32 :=
  shapeCast _ (transpose S8x16384 [1, 0] (Host.reduceAdd (mulf o p) (constant S_ .f32 0x00000000#32) reducesTo_S16384x8x128_S16384x8_d2 h_S_) transposes_S16384x8_S8x16384_1_0) shapeCasts_S8x16384_S8x32x1x512

theorem log2e_at : log2e ix0 = ((1 / Real.log 2 : ℝ) : EReal) := by
  pointwise [log2e]
  have h2 : Ideal.ofBits .f32 0x40000000#32 = ((2 : ℝ) : EReal) := by
    simp [Ideal.ofBits, Ideal.ieee, -EReal.coe_mul]; norm_num
  rw [h2, Ideal.log_coe, if_neg (not_le.mpr two_pos), Ideal.div_coe (Real.log_pos one_lt_two).ne', one_mul]

/-- Position `s` of block `b`, counted from the block. -/
theorem at_eq (b : Fin 32) (s : Fin 512) (h : b.val * 512 + s.val < 16384) :
    (⟨b.val * 512 + s.val, h⟩ : Fin 16384) = at_ b.val b.isLt s :=
  Fin.ext (by show b.val * 512 + s.val = 512 * b.val + s.val; omega)

section one
variable {Q K V O : Fin 8 → Fin 16384 → Fin 128 → ℝ}

theorem qpArr_at {q : FVec Ideal S16384x1024 .f32} {A : Fin 16384 → Fin 1024 → ℝ}
    (hq : ∀ i l, q (ix2 i l) = (A i l : EReal)) (i : Fin 16384) (l : Fin 1024) :
    qpArr q (ix2 i l) = ((A i l * (1 / Real.log 2) : ℝ) : EReal) := by
  pointwise [qpArr]
  rw [hq, log2e_at, ← EReal.coe_mul]

theorem lseArr_at {m l : FVec Ideal S8x16384 .f32} {M L : Fin 8 → Fin 16384 → ℝ}
    (hm : ∀ h i, m (ix2 h i) = (M h i : EReal)) (hl : ∀ h i, l (ix2 h i) = (L h i : EReal)) (hL : ∀ h i, 0 < L h i)
    (h : Fin 8) (b : Fin 32) (s : Fin 512) :
    lseArr m l (ix4 h b 0 s)
      = (((M h (at_ b.val b.isLt s) + Real.log (L h (at_ b.val b.isLt s))) * (1 / Real.log 2) : ℝ) : EReal) := by
  pointwise [lseArr]
  rw [at_eq, hm, hl, Ideal.log_coe, if_neg (not_le.mpr (hL _ _)), log2e_at, ← EReal.coe_add, ← EReal.coe_mul]

theorem outArr_at {v : FVec Ideal S16384x8x128 .f32} {p : FVec Ideal S8x16384x16384 .f32}
    (hv : ∀ i h d, v (ix3 i h d) = (V h i d : EReal))
    (hp : ∀ h i j, p (ix3 h i j) = ((prob (Q h) (K h) i j : ℝ) : EReal)) (i : Fin 16384) (h : Fin 8) (d : Fin 128) :
    byHead (outArr v p) (ix3 i h d) = ((out (Q h) (K h) (V h) i d : ℝ) : EReal) := by
  rw [byHead_at]
  pointwise [outArr, lane]
  simp only [hv, hp]
  rw [out, coe_sum]
  exact Finset.sum_congr rfl fun j _ => by rw [mul_comm, EReal.coe_mul]

theorem deltaArr_at {o p : FVec Ideal S16384x8x128 .f32} (ho : ∀ i h d, o (ix3 i h d) = (O h i d : EReal))
    (hp : ∀ i h d, p (ix3 i h d) = ((out (Q h) (K h) (V h) i d : ℝ) : EReal)) (h : Fin 8) (b : Fin 32) (s : Fin 512) :
    deltaArr o p (ix4 h b 0 s) = ((delta (Q h) (K h) (V h) (O h) (at_ b.val b.isLt s) : ℝ) : EReal) := by
  pointwise [deltaArr]
  simp only [at_eq, ho, hp, sum_coe_mul, delta_eq]

end one

section V
variable (m : (ℓ : Loc nD τ sig) → Buf (Elt Ideal) ℓ) (c : Dev nD)

/-- The plain scores of the program's queries and keys. -/
def plainScores : FVec Ideal S8x16384x16384 .f32 :=
  scores (byHead (scaled (m ((c.tc : Thread nD τ).loc main_arg0)))) (byHead (wide (m ((c.tc : Thread nD τ).loc main_arg1))))

theorem V_q : V m c main_v7 = qpArr (scaled (m ((c.tc : Thread nD τ).loc main_arg0))) := by
  simp only [V, hostOps0, hostOps0_1, hostOps0_2, hostOps0_3, hostOps0_4, List.flatten_cons, List.flatten_nil,
    List.append_nil, List.cons_append, List.nil_append, StableHlo.TRef.ternary, StableHlo.TRef.unary]
  after_results_simp
  rfl

theorem V_lse : V m c main_v64 = lseArr (rowMax (plainScores m c)) (rowSum (exps (plainScores m c) (rowMax (plainScores m c)))) := by
  simp only [V, hostOps0, hostOps0_1, hostOps0_2, hostOps0_3, hostOps0_4, List.flatten_cons, List.flatten_nil,
    List.append_nil, List.cons_append, List.nil_append, StableHlo.TRef.ternary, StableHlo.TRef.unary]
  after_results_simp
  simp only [StableHlo.TRef.toBuf, StableHlo.TRef.ofBuf, cast_eq]
  rfl

theorem V_delta : V m c main_v65 = deltaArr (byHead (wide (m ((c.tc : Thread nD τ).loc main_arg3))))
    (byHead (outArr (byHead (wide (m ((c.tc : Thread nD τ).loc main_arg2))))
      (soft (expArr (m ((c.tc : Thread nD τ).loc main_arg0)) (m ((c.tc : Thread nD τ).loc main_arg1)))))) := by
  simp only [V, hostOps0, hostOps0_1, hostOps0_2, hostOps0_3, hostOps0_4, List.flatten_cons, List.flatten_nil,
    List.append_nil, List.cons_append, List.nil_append, StableHlo.TRef.ternary, StableHlo.TRef.unary]
  after_results_simp
  simp only [StableHlo.TRef.toBuf, StableHlo.TRef.ofBuf, cast_eq]
  rfl

end V
end Cert.KernelIdeal.Attn
end
-- ==== Proof.Value.Pay.lean ====
module

public import proofs.«01_k».proof.Proof.Value.Reals
public import proofs.«01_k».proof.Proof.KernelIdeal.Pure
public import Idealize.ShloMosaic.PureOps.IdealRules
public import Idealize.ShloMosaic.Lib.WordCmp

/-! What the kernel's operations on one block compute, when the blocks it reads hold reals. -/

@[expose] public section
set_option maxRecDepth 16384
noncomputable section
namespace Cert.KernelIdeal.Attn

open Idealize.ShloMosaic Idealize.ShloMosaic.TcCoe
open Cert.KernelIdeal.Gen Cert.Reals

/-- The mask's constant is minus infinity. -/
theorem mask_eq : (Named.named (F := Ideal) κ "mask" (φ := .f32) 0xF149F2CA#32 : Ideal .f32) = ⊥ :=
  IdealRules.named_const.ideal_named_scalar _ _ _ _ rfl

/-- The last factor of the keys' gradient is log 2. -/
theorem ln2_eq : (Named.named (F := Ideal) κ "ln2" (φ := .f32) 0x3F317218#32 : Ideal .f32) = ((Real.log 2 : ℝ) : EReal) :=
  IdealRules.named_const.ideal_named_scalar _ _ _ _ rfl

section

variable {v3 v4 q o : Vec Ideal S512x128 .bf16} {l e : Vec Ideal S1x1x1x512 .f32}
variable (k v qf of : Fin 512 → Fin 128 → ℝ) (lf ef : Fin 512 → ℝ) (p : Fin 512 → Fin 512 → ℝ)

theorem pay186 (hk : ∀ r d, v3 (ix2 r d) = ((k r d : ℝ) : EReal)) (hq : ∀ r d, q (ix2 r d) = ((qf r d : ℝ) : EReal))
    (hl : ∀ s, l (ix4 0 0 0 s) = ((lf s : ℝ) : EReal)) (r s : Fin 512) :
    k0_pay186 v3 q l (ix2 r s) = ((Real.rpow 2 ((∑ d, k r d * qf s d) - lf s) : ℝ) : EReal) := by
  pointwise [k0_pay186, k0_pay185]
  simp only [hk, hq, hl]
  rw [sum_coe_mul, ← EReal.coe_sub]
  rfl

theorem pay148 (hk : ∀ r d, v3 (ix2 r d) = ((k r d : ℝ) : EReal)) (hq : ∀ r d, q (ix2 r d) = ((qf r d : ℝ) : EReal))
    (hl : ∀ s, l (ix4 0 0 0 s) = ((lf s : ℝ) : EReal)) (r s : Fin 512) :
    k0_pay148 v3 q l (ix2 r s) = (((if r ≤ s then Real.rpow 2 ((∑ d, k r d * qf s d) - lf s) else 0) : ℝ) : EReal) := by
  pointwise [k0_pay148, k0_pay147]
  simp only [hk, hq, hl]
  rw [sum_coe_mul, mask_eq, WordCmp.cmpi_sge_ofNat (by omega) (by omega)]
  by_cases h : r ≤ s
  · rw [if_pos h, decide_eq_true (Fin.le_def.mp h)]
    show Ideal.exp2 (((∑ d, k r d * qf s d : ℝ) : EReal) - ((lf s : ℝ) : EReal)) = _
    rw [← EReal.coe_sub]
    rfl
  · rw [if_neg h, decide_eq_false (fun h' => h (Fin.le_def.mpr h'))]
    show Ideal.exp2 ((⊥ : EReal) - ((lf s : ℝ) : EReal)) = _
    rw [EReal.bot_sub]
    rfl

theorem pay187 (hp : ∀ r s, k0_pay186 v3 q l (ix2 r s) = ((p r s : ℝ) : EReal))
    (ho : ∀ r d, o (ix2 r d) = ((of r d : ℝ) : EReal)) (acc : FVec Ideal S512x128 .f32) (a : ℝ) (r : Fin 512) (d : Fin 128)
    (ha : acc (ix2 r d) = ((a : ℝ) : EReal)) :
    k0_pay187 v3 acc q o l (ix2 r d) = ((a + ∑ s, p r s * of s d : ℝ) : EReal) := by
  pointwise [k0_pay187]
  simp only [hp, ho, ha]
  rw [sum_coe_mul, ← EReal.coe_add]

theorem pay188 (hp : ∀ r s, k0_pay186 v3 q l (ix2 r s) = ((p r s : ℝ) : EReal))
    (hv : ∀ r d, v4 (ix2 r d) = ((v r d : ℝ) : EReal)) (ho : ∀ r d, o (ix2 r d) = ((of r d : ℝ) : EReal))
    (he : ∀ s, e (ix4 0 0 0 s) = ((ef s : ℝ) : EReal)) (r s : Fin 512) :
    k0_pay188 v3 v4 q o l e (ix2 r s) = ((p r s * ((∑ d, v r d * of s d) - ef s) : ℝ) : EReal) := by
  pointwise [k0_pay188]
  simp only [hp, hv, ho, he]
  rw [sum_coe_mul, ← EReal.coe_sub, ← EReal.coe_mul]

theorem pay189 (hp : ∀ r s, k0_pay188 v3 v4 q o l e (ix2 r s) = ((p r s : ℝ) : EReal))
    (hq : ∀ r d, q (ix2 r d) = ((qf r d : ℝ) : EReal)) (acc : FVec Ideal S512x128 .f32) (a : ℝ) (r : Fin 512) (d : Fin 128)
    (ha : acc (ix2 r d) = ((a : ℝ) : EReal)) :
    k0_pay189 v3 v4 acc q o l e (ix2 r d) = ((a + ∑ s, p r s * qf s d : ℝ) : EReal) := by
  pointwise [k0_pay189, k0_pay185]
  simp only [hp, hq, ha]
  rw [sum_coe_mul, ← EReal.coe_add]

theorem pay190 (hp : ∀ r s, k0_pay188 v3 v4 q o l e (ix2 r s) = ((p r s : ℝ) : EReal))
    (hk : ∀ r d, v3 (ix2 r d) = ((k r d : ℝ) : EReal)) (old : Vec Ideal S512x128 .f32) (a : ℝ) (s : Fin 512) (d : Fin 128)
    (ha : old (ix2 s d) = ((a : ℝ) : EReal)) :
    k0_pay190 v3 v4 q o l e old (ix2 s d) = ((a + ∑ r, p r s * k r d : ℝ) : EReal) := by
  pointwise [k0_pay190]
  simp only [hp, hk, ha]
  rw [sum_coe_mul, ← EReal.coe_add]

theorem pay149 (hp : ∀ r s, k0_pay148 v3 q l (ix2 r s) = ((p r s : ℝ) : EReal))
    (ho : ∀ r d, o (ix2 r d) = ((of r d : ℝ) : EReal)) (r : Fin 512) (d : Fin 128) :
    k0_pay149 v3 q o l (ix2 r d) = ((∑ s, p r s * of s d : ℝ) : EReal) := by
  pointwise [k0_pay149, k0_pay146]
  simp only [hp, ho]
  rw [sum_coe_mul]

theorem pay150 (hp : ∀ r s, k0_pay148 v3 q l (ix2 r s) = ((p r s : ℝ) : EReal))
    (hv : ∀ r d, v4 (ix2 r d) = ((v r d : ℝ) : EReal)) (ho : ∀ r d, o (ix2 r d) = ((of r d : ℝ) : EReal))
    (he : ∀ s, e (ix4 0 0 0 s) = ((ef s : ℝ) : EReal)) (r s : Fin 512) :
    k0_pay150 v3 v4 q o l e (ix2 r s) = ((p r s * ((∑ d, v r d * of s d) - ef s) : ℝ) : EReal) := by
  pointwise [k0_pay150]
  simp only [hp, hv, ho, he]
  rw [sum_coe_mul, ← EReal.coe_sub, ← EReal.coe_mul]

theorem pay151 (g : FVec Ideal S512x512 .bf16) (hp : ∀ r s, g (ix2 r s) = ((p r s : ℝ) : EReal))
    (hq : ∀ r d, q (ix2 r d) = ((qf r d : ℝ) : EReal)) (r : Fin 512) (d : Fin 128) :
    k0_pay151 (k0_pay146 (F := Ideal)) (k0_pay147 q) g (constant S512x128 .f32 0x00000000#32) (ix2 r d)
      = ((∑ s, p r s * qf s d : ℝ) : EReal) := by
  pointwise [k0_pay151, k0_pay146, k0_pay147]
  simp only [hp, hq]
  rw [sum_coe_mul]

theorem pay152 (g : FVec Ideal S512x512 .bf16) (hp : ∀ r s, g (ix2 r s) = ((p r s : ℝ) : EReal))
    (hk : ∀ r d, v3 (ix2 r d) = ((k r d : ℝ) : EReal)) (old : Vec Ideal S512x128 .f32) (a : ℝ) (s : Fin 512) (d : Fin 128)
    (ha : old (ix2 s d) = ((a : ℝ) : EReal)) :
    k0_pay152 v3 g old (ix2 s d) = ((a + ∑ r, p r s * k r d : ℝ) : EReal) := by
  pointwise [k0_pay152]
  simp only [hp, hk, ha]
  rw [sum_coe_mul, ← EReal.coe_add]

theorem pay197 (x : FVec Ideal S512x128 .f32) (a : ℝ) (r : Fin 512) (d : Fin 128) (ha : x (ix2 r d) = ((a : ℝ) : EReal)) :
    k0_pay197 x (ix2 r d) = ((a * Real.log 2 : ℝ) : EReal) := by
  pointwise [k0_pay197]
  rw [ha, ln2_eq, EReal.coe_mul]

theorem pay145 (r : Fin 16384) (d : Fin 128) : k0_pay145 (F := Ideal) (ix2 r d) = ((0 : ℝ) : EReal) := by
  pointwise [k0_pay145]
  rfl

end

end Cert.KernelIdeal.Attn
end
-- ==== Proof.Value.Steps.lean ====
module

public import proofs.«01_k».proof.Proof.Value.Pay

/-! What one grid point computes: for its block of keys, the sums over all queries for the keys and for the values, and
for each query the sum over the block's keys. -/

@[expose] public section
set_option maxRecDepth 16384
noncomputable section
namespace Cert.KernelIdeal.Attn

open Idealize.ShloMosaic Idealize.ShloMosaic.TcCoe
open Cert.KernelIdeal.Gen Cert.Reals Finset

theorem rows_at {e : EltTy} (x : Vec Ideal S16384x128 e) (b : ℕ) (h : b < 32) (s : Fin 512) (d : Fin 128) :
    rows x b h (ix2 s d) = x (ix2 (at_ b h s) d) := by
  refine congrArg x (funext fun a => ?_)
  match a with
  | ⟨0, _⟩ => exact Fin.ext (show 512 * b + 1 * s.val = 512 * b + s.val by omega)
  | ⟨1, _⟩ => exact Fin.ext (show 0 + 1 * d.val = d.val by omega)

theorem row_at {e : EltTy} (x : Vec Ideal S1x32x1x512 e) (b : ℕ) (h : b < 32) (s : Fin 512) :
    row x b h (ix4 0 0 0 s) = x (ix4 0 ⟨b, h⟩ 0 s) := by
  refine congrArg x (funext fun a => ?_)
  match a with
  | ⟨0, _⟩ => rfl
  | ⟨1, _⟩ => exact Fin.ext (show b + 1 * 0 = b by omega)
  | ⟨2, _⟩ => rfl
  | ⟨3, _⟩ => exact Fin.ext (show 0 + 1 * s.val = s.val by omega)

/-- Every position is a place of its block. -/
theorem at_self (i : Fin 16384) : at_ (i.val / 512) (by omega) ⟨i.val % 512, by omega⟩ = i :=
  Fin.ext (show 512 * (i.val / 512) + i.val % 512 = i.val by omega)

theorem setRows_in {e : EltTy} (x : Vec Ideal S16384x128 e) (b : ℕ) (h : b < 32) (w : Vec Ideal S512x128 e)
    (s : Fin 512) (d : Fin 128) : setRows x b w (ix2 (at_ b h s) d) = w (ix2 s d) := by
  have hm : ∀ a : Fin S16384x128.rank, (![512 * b, 0] : Fin 2 → ℕ) a ≤ (ix2 (at_ b h s) d a).val
      ∧ (ix2 (at_ b h s) d a).val < (![512 * b, 0] : Fin 2 → ℕ) a + S512x128.size a := fun a => by
    match a with
    | ⟨0, _⟩ => exact ⟨show 512 * b ≤ 512 * b + s.val by omega, show 512 * b + s.val < 512 * b + 512 by omega⟩
    | ⟨1, _⟩ => exact ⟨Nat.zero_le _, show d.val < 0 + 128 by omega⟩
  refine (dif_pos hm).trans (congrArg w (funext fun a => ?_))
  match a with
  | ⟨0, _⟩ => exact Fin.ext (show 512 * b + s.val - 512 * b = s.val by omega)
  | ⟨1, _⟩ => exact Fin.ext (show d.val - 0 = d.val by omega)

theorem setRows_out {e : EltTy} (x : Vec Ideal S16384x128 e) (b : ℕ) (w : Vec Ideal S512x128 e)
    (i : Fin 16384) (d : Fin 128) (hi : i.val / 512 ≠ b) : setRows x b w (ix2 i d) = x (ix2 i d) := by
  refine dif_neg fun hm => hi ?_
  have h0 : 512 * b ≤ i.val ∧ i.val < 512 * b + 512 := hm 0
  omega

/-- The arrays of a head hold these reals: the queries in base 2, the output's gradient, each row's log-sum in base 2
and each row's sum of the output times its gradient. `m` is any shift of the scores. -/
structure Head (Q K V O : Fin 16384 → Fin 128 → ℝ) (m : Fin 16384 → ℝ) (x2 x5 : Vec Ideal S16384x128 .bf16)
    (x6 x7 : Vec Ideal S1x32x1x512 .f32) : Prop where
  q : ∀ i d, x2 (ix2 i d) = ((Q i d * (1 / Real.log 2) : ℝ) : EReal)
  o : ∀ i d, x5 (ix2 i d) = ((O i d : ℝ) : EReal)
  lse : ∀ b h s, x6 (ix4 0 ⟨b, h⟩ 0 s) = (((m (at_ b h s)
    + Real.log (∑ j, shifted Q K (m (at_ b h s)) (at_ b h s) j)) * (1 / Real.log 2) : ℝ) : EReal)
  delta : ∀ b h s, x7 (ix4 0 ⟨b, h⟩ 0 s) = ((delta Q K V O (at_ b h s) : ℝ) : EReal)

section

variable {Q K V O : Fin 16384 → Fin 128 → ℝ} {m : Fin 16384 → ℝ}
variable {v3 v4 : Vec Ideal S512x128 .bf16} {x2 x5 : Vec Ideal S16384x128 .bf16} {x6 x7 : Vec Ideal S1x32x1x512 .f32}
variable (H : Head Q K V O m x2 x5 x6 x7) {n : ℕ} (hn : n < 32)
variable (hk : ∀ r d, v3 (ix2 r d) = ((K (at_ n hn r) d : ℝ) : EReal))
variable (hv : ∀ r d, v4 (ix2 r d) = ((V (at_ n hn r) d : ℝ) : EReal))

include H in
theorem q_rows (b : ℕ) (h : b < 32) (s : Fin 512) (d : Fin 128) :
    rows x2 b h (ix2 s d) = ((Q (at_ b h s) d * (1 / Real.log 2) : ℝ) : EReal) := (rows_at x2 b h s d).trans (H.q _ _)

include H in
theorem o_rows (b : ℕ) (h : b < 32) (s : Fin 512) (d : Fin 128) :
    rows x5 b h (ix2 s d) = ((O (at_ b h s) d : ℝ) : EReal) := (rows_at x5 b h s d).trans (H.o _ _)

include H in
theorem lse_row (b : ℕ) (h : b < 32) (s : Fin 512) : row x6 b h (ix4 0 0 0 s) = (((m (at_ b h s)
    + Real.log (∑ j, shifted Q K (m (at_ b h s)) (at_ b h s) j)) * (1 / Real.log 2) : ℝ) : EReal) :=
  (row_at x6 b h s).trans (H.lse _ _ _)

include H in
theorem delta_row (b : ℕ) (h : b < 32) (s : Fin 512) :
    row x7 b h (ix4 0 0 0 s) = ((delta Q K V O (at_ b h s) : ℝ) : EReal) := (row_at x7 b h s).trans (H.delta _ _ _)

/-- The scores in base 2. -/
theorem score_base2 (i j : Fin 16384) : ∑ d, K j d * (Q i d * (1 / Real.log 2)) = score Q K i j * (1 / Real.log 2) := by
  rw [score, sum_mul]; exact sum_congr rfl fun d _ => by ring

include H hk in
/-- Below the diagonal the kernel's exponentials are the softmax. -/
theorem step_prob (b : ℕ) (h : b < 32) (hb : n < b) (r s : Fin 512) :
    k0_pay186 v3 (rows x2 b h) (row x6 b h) (ix2 r s) = ((prob Q K (at_ b h s) (at_ n hn r) : ℝ) : EReal) := by
  rw [pay186 _ _ _ hk (q_rows H b h) (lse_row H b h),
    exp2_prob Q K (m (at_ b h s)) (Fin.le_def.mpr (show 512 * n + r.val ≤ 512 * b + s.val by omega)) _ (score_base2 _ _)]

include H hk in
/-- On the diagonal too, the masked ones being zero. -/
theorem diag_prob (r s : Fin 512) :
    k0_pay148 v3 (rows x2 n hn) (row x6 n hn) (ix2 r s) = ((prob Q K (at_ n hn s) (at_ n hn r) : ℝ) : EReal) := by
  rw [pay148 _ _ _ hk (q_rows H n hn) (lse_row H n hn)]
  by_cases h : r ≤ s
  · rw [if_pos h,
      exp2_prob Q K (m (at_ n hn s)) (Fin.le_def.mpr (show 512 * n + r.val ≤ 512 * n + s.val by omega)) _ (score_base2 _ _)]
  · rw [if_neg h, prob_zero Q K (Fin.lt_def.mpr (show 512 * n + s.val < 512 * n + r.val by omega))]

/-- The gradient for a score from the softmax and the gradient for it. -/
theorem dscore_of (i j : Fin 16384) :
    prob Q K i j * ((∑ d, V j d * O i d) - delta Q K V O i) = dscore Q K V O i j := by
  rw [dscore, dprob]; simp only [mul_comm (V j _)]

include H hk hv in
theorem step_dscore (b : ℕ) (h : b < 32) (hb : n < b) (r s : Fin 512) :
    k0_pay188 v3 v4 (rows x2 b h) (rows x5 b h) (row x6 b h) (row x7 b h) (ix2 r s)
      = ((dscore Q K V O (at_ b h s) (at_ n hn r) : ℝ) : EReal) := by
  rw [pay188 (fun r d => V (at_ n hn r) d) (fun s d => O (at_ b h s) d) (fun s => delta Q K V O (at_ b h s))
    (fun r s => prob Q K (at_ b h s) (at_ n hn r)) (step_prob H hn hk b h hb) hv (o_rows H b h) (delta_row H b h), dscore_of]

include H hk hv in
theorem diag_dscore (r s : Fin 512) :
    k0_pay150 v3 v4 (rows x2 n hn) (rows x5 n hn) (row x6 n hn) (row x7 n hn) (ix2 r s)
      = ((dscore Q K V O (at_ n hn s) (at_ n hn r) : ℝ) : EReal) := by
  rw [pay150 (fun r d => V (at_ n hn r) d) (fun s d => O (at_ n hn s) d) (fun s => delta Q K V O (at_ n hn s))
    (fun r s => prob Q K (at_ n hn s) (at_ n hn r)) (diag_prob H hn hk) hv (o_rows H n hn) (delta_row H n hn), dscore_of]

/-- What query `i` adds to the sums for key `j`. -/
def fdk (Q K V O : Fin 16384 → Fin 128 → ℝ) (j : Fin 16384) (d : Fin 128) (i : Fin 16384) : ℝ :=
  dscore Q K V O i j * (Q i d * (1 / Real.log 2))
def fdv (Q K O : Fin 16384 → Fin 128 → ℝ) (j : Fin 16384) (d : Fin 128) (i : Fin 16384) : ℝ := prob Q K i j * O i d
/-- What key `j` adds to the rows for query `i`. -/
def fdq (Q K V O : Fin 16384 → Fin 128 → ℝ) (i : Fin 16384) (d : Fin 128) (j : Fin 16384) : ℝ := dscore Q K V O i j * K j d

include H hk hv in
/-- After the block on the diagonal and `c` blocks below it. -/
theorem steps_at (d0 : Vec Ideal S16384x128 .f32) (old : Fin 16384 → Fin 128 → ℝ)
    (hd : ∀ i d, d0 (ix2 i d) = ((old i d : ℝ) : EReal)) (c : ℕ) (hc : n + 1 + c ≤ 32) :
    (∀ r d, (vsteps v3 v4 x2 x5 x6 x7 (n + 1) (vdiag v3 v4 x2 x5 x6 x7 n hn d0) c).1.1 (ix2 r d)
      = ((blk (fdk Q K V O (at_ n hn r) d) n + ∑ b ∈ range c, blk (fdk Q K V O (at_ n hn r) d) (n + 1 + b) : ℝ) : EReal))
    ∧ (∀ r d, (vsteps v3 v4 x2 x5 x6 x7 (n + 1) (vdiag v3 v4 x2 x5 x6 x7 n hn d0) c).1.2 (ix2 r d)
      = ((blk (fdv Q K O (at_ n hn r) d) n + ∑ b ∈ range c, blk (fdv Q K O (at_ n hn r) d) (n + 1 + b) : ℝ) : EReal))
    ∧ (∀ i d, (vsteps v3 v4 x2 x5 x6 x7 (n + 1) (vdiag v3 v4 x2 x5 x6 x7 n hn d0) c).2 (ix2 i d)
      = ((old i d + (if n ≤ i.val / 512 ∧ i.val / 512 < n + 1 + c then blk (fdq Q K V O i d) n else 0) : ℝ) : EReal)) := by
  induction c with
  | zero =>
    refine ⟨fun r d => ?_, fun r d => ?_, fun i d => ?_⟩
    · rw [sum_range_zero, add_zero, blk_of _ hn]
      exact pay151 _ _ _ (diag_dscore H hn hk hv) (q_rows H n hn) r d
    · rw [sum_range_zero, add_zero, blk_of _ hn]
      exact pay149 _ _ (diag_prob H hn hk) (o_rows H n hn) r d
    · show setRows d0 n _ (ix2 i d) = _
      by_cases hi : i.val / 512 = n
      · obtain ⟨s, rfl⟩ : ∃ s, i = at_ n hn s :=
          ⟨⟨i.val % 512, by omega⟩, Fin.ext (show i.val = 512 * n + i.val % 512 by omega)⟩
        rw [if_pos (by omega), blk_of _ hn, setRows_in _ _ hn]
        exact pay152 _ _ _ (diag_dscore H hn hk hv) hk _ _ _ _ ((rows_at _ _ _ _ _).trans (hd _ _))
      · rw [if_neg (by omega), add_zero, setRows_out _ _ _ _ _ hi, hd]
  | succ c ih =>
    obtain ⟨h1, h2, h3⟩ := ih (by omega)
    have hb : n + 1 + c < 32 := by omega
    rw [vsteps, vstep, dif_pos hb]
    refine ⟨fun r d => ?_, fun r d => ?_, fun i d => ?_⟩
    · rw [sum_range_succ, ← add_assoc, blk_of _ hb]
      exact pay189 _ _ (step_dscore H hn hk hv _ hb (by omega)) (q_rows H _ hb) _ _ r d (h1 r d)
    · rw [sum_range_succ, ← add_assoc, blk_of _ hb]
      exact pay187 _ _ (step_prob H hn hk _ hb (by omega)) (o_rows H _ hb) _ _ r d (h2 r d)
    · show setRows _ (n + 1 + c) _ (ix2 i d) = _
      by_cases hi : i.val / 512 = n + 1 + c
      · obtain ⟨s, rfl⟩ : ∃ s, i = at_ (n + 1 + c) hb s :=
          ⟨⟨i.val % 512, by omega⟩, Fin.ext (show i.val = 512 * (n + 1 + c) + i.val % 512 by omega)⟩
        have h3' := h3 (at_ (n + 1 + c) hb s) d
        rw [if_neg (by omega), add_zero] at h3'
        rw [if_pos (by omega), blk_of _ hn, setRows_in _ _ hb]
        exact pay190 _ _ (step_dscore H hn hk hv _ hb (by omega)) hk _ _ _ _ ((rows_at _ _ _ _ _).trans h3')
      · rw [setRows_out _ _ _ _ _ hi, h3]
        by_cases hi' : n ≤ i.val / 512 ∧ i.val / 512 < n + 1 + c
        · rw [if_pos hi', if_pos (by omega)]
        · rw [if_neg hi', if_neg (by omega)]

include H hk hv in
/-- The grid point: the sums for the keys (in base 2) and for the values over all queries, and each query's sum over the
block's keys added to its row. -/
theorem point_at (d0 : Vec Ideal S16384x128 .f32) (old : Fin 16384 → Fin 128 → ℝ)
    (hd : ∀ i d, d0 (ix2 i d) = ((old i d : ℝ) : EReal)) :
    (∀ r d, k0_pay197 (vpoint v3 v4 x2 x5 x6 x7 n hn d0).1.1 (ix2 r d) = ((dkey Q K V O (at_ n hn r) d : ℝ) : EReal))
    ∧ (∀ r d, (vpoint v3 v4 x2 x5 x6 x7 n hn d0).1.2 (ix2 r d) = ((dvalue Q K O (at_ n hn r) d : ℝ) : EReal))
    ∧ (∀ i d, (vpoint v3 v4 x2 x5 x6 x7 n hn d0).2 (ix2 i d) = ((old i d + blk (fdq Q K V O i d) n : ℝ) : EReal)) := by
  obtain ⟨h1, h2, h3⟩ := steps_at H hn hk hv d0 old hd (31 - n) (by omega)
  refine ⟨fun r d => ?_, fun r d => ?_, fun i d => ?_⟩
  · have hz : ∀ b < n, blk (fdk Q K V O (at_ n hn r) d) b = 0 := fun b hb => blk_zero _ _ fun h s => by
      rw [fdk, dscore_zero Q K V O (Fin.lt_def.mpr (show 512 * b + s.val < 512 * n + r.val by omega)), zero_mul]
    have h := h1 r d
    rw [← sum_blk_from _ n hn hz] at h
    have hl : Real.log 2 ≠ 0 := (Real.log_pos one_lt_two).ne'
    have e : (∑ i, fdk Q K V O (at_ n hn r) d i) * Real.log 2 = dkey Q K V O (at_ n hn r) d := by
      rw [dkey, sum_mul]
      exact sum_congr rfl fun i _ => by rw [fdk]; field_simp
    rw [vpoint, pay197 _ _ r d h, e]
  · have hz : ∀ b < n, blk (fdv Q K O (at_ n hn r) d) b = 0 := fun b hb => blk_zero _ _ fun h s => by
      rw [fdv, prob_zero Q K (Fin.lt_def.mpr (show 512 * b + s.val < 512 * n + r.val by omega)), zero_mul]
    have h := h2 r d
    rw [← sum_blk_from _ n hn hz] at h
    rw [vpoint, h, dvalue]
    simp only [fdv]
  · rw [vpoint, h3 i d]
    by_cases hi : n ≤ i.val / 512
    · rw [if_pos (by omega)]
    · have hz : blk (fdq Q K V O i d) n = 0 := blk_zero _ _ fun h s => by
        rw [fdq, dscore_zero Q K V O (Fin.lt_def.mpr (show i.val < 512 * n + s.val by omega)), zero_mul]
      rw [if_neg (by omega), hz]

end

end Cert.KernelIdeal.Attn
end
-- ==== Proof.Value.Blocks.lean ====
module

public import proofs.«01_k».proof.Proof.Value.Host
public import proofs.«01_k».proof.Proof.Value.Steps
public import proofs.«01_k».proof.Proof.KernelIdeal.Launch
public import Idealize.ShloMosaic.Lib.Pipeline.ValueKit

/-! The windows' blocks at a grid point, read off the arrays: head `t / 32`, block `t % 32`. -/

@[expose] public section
set_option maxRecDepth 16384
noncomputable section
namespace Cert.KernelIdeal.Attn

open Idealize.ShloMosaic Idealize.ShloMosaic.TcCoe
open Cert.KernelIdeal Cert.KernelIdeal.Gen Cert.Reals Cert.Plain

theorem idx0 : ∀ t : Fin cfg0.N, win0_0.index t = ![0, t.val / 32] := (by decide +kernel : ∀ t : Fin grid0.N, _)
theorem idx1 : ∀ t : Fin cfg0.N, win0_1.index t = ![t.val % 32, t.val / 32] := (by decide +kernel : ∀ t : Fin grid0.N, _)
theorem idx2 : ∀ t : Fin cfg0.N, win0_2.index t = ![t.val % 32, t.val / 32] := (by decide +kernel : ∀ t : Fin grid0.N, _)
theorem idx3 : ∀ t : Fin cfg0.N, win0_3.index t = ![0, t.val / 32] := (by decide +kernel : ∀ t : Fin grid0.N, _)
theorem idx4 : ∀ t : Fin cfg0.N, win0_4.index t = ![t.val / 32, 0, 0, 0] := (by decide +kernel : ∀ t : Fin grid0.N, _)
theorem idx5 : ∀ t : Fin cfg0.N, win0_5.index t = ![t.val / 32, 0, 0, 0] := (by decide +kernel : ∀ t : Fin grid0.N, _)
theorem idx6 : ∀ t : Fin cfg0.N, win0_6.index t = ![0, t.val / 32] := (by decide +kernel : ∀ t : Fin grid0.N, _)
theorem idx7 : ∀ t : Fin cfg0.N, win0_7.index t = ![t.val % 32, t.val / 32] := (by decide +kernel : ∀ t : Fin grid0.N, _)
theorem idx8 : ∀ t : Fin cfg0.N, win0_8.index t = ![t.val % 32, t.val / 32] := (by decide +kernel : ∀ t : Fin grid0.N, _)

theorem points : cfg0.N = 256 := N_0

/-- The head of a grid point. -/
def head (t : Fin cfg0.N) : Fin 8 := ⟨t.val / 32, by have := lt_of_lt_of_eq t.isLt points; omega⟩

theorem block_lt (t : Fin cfg0.N) : t.val % 32 < 32 := Nat.mod_lt _ (by decide)

variable (m : (ℓ : Loc nD τ sig) → Buf (Elt Ideal) ℓ) (c : Dev nD) (t : Fin cfg0.N)

theorem read0 (X : FVec Ideal S16384x1024 .bf16) (i : Fin 16384) (d : Fin 128) :
    ((cfg0.win 0).blk t).view.read (Elt Ideal) X (ix2 i d) = X (ix2 i (lane (head t) d)) := by
  blk_ext [idx0 t, lane, head]

theorem read1 (X : FVec Ideal S16384x1024 .bf16) (r : Fin 512) (d : Fin 128) :
    ((cfg0.win 1).blk t).view.read (Elt Ideal) X (ix2 r d) = X (ix2 (at_ (t.val % 32) (block_lt t) r) (lane (head t) d)) := by
  blk_ext [idx1 t, lane, head, at_]

theorem read2 (X : FVec Ideal S16384x1024 .bf16) (r : Fin 512) (d : Fin 128) :
    ((cfg0.win 2).blk t).view.read (Elt Ideal) X (ix2 r d) = X (ix2 (at_ (t.val % 32) (block_lt t) r) (lane (head t) d)) := by
  blk_ext [idx2 t, lane, head, at_]

theorem read3 (X : FVec Ideal S16384x1024 .bf16) (i : Fin 16384) (d : Fin 128) :
    ((cfg0.win 3).blk t).view.read (Elt Ideal) X (ix2 i d) = X (ix2 i (lane (head t) d)) := by
  blk_ext [idx3 t, lane, head]

theorem read4 (X : FVec Ideal S8x32x1x512 .f32) (b : Fin 32) (s : Fin 512) :
    ((cfg0.win 4).blk t).view.read (Elt Ideal) X (ix4 0 b 0 s) = X (ix4 (head t) b 0 s) := by
  blk_ext [idx4 t, head]

theorem read5 (X : FVec Ideal S8x32x1x512 .f32) (b : Fin 32) (s : Fin 512) :
    ((cfg0.win 5).blk t).view.read (Elt Ideal) X (ix4 0 b 0 s) = X (ix4 (head t) b 0 s) := by
  blk_ext [idx5 t, head]

/-- Where the results' blocks lie. -/
theorem place6 (i : Fin 16384) (d : Fin 128) : ((cfg0.win 6).blk t).view.emb (ix2 i d) = ix2 i (lane (head t) d) := by
  blk_ext [idx6 t, lane, head]

theorem place7 (r : Fin 512) (d : Fin 128) :
    ((cfg0.win 7).blk t).view.emb (ix2 r d) = ix2 (at_ (t.val % 32) (block_lt t) r) (lane (head t) d) := by
  blk_ext [idx7 t, lane, head, at_]

theorem place8 (r : Fin 512) (d : Fin 128) :
    ((cfg0.win 8).blk t).view.emb (ix2 r d) = ix2 (at_ (t.val % 32) (block_lt t) r) (lane (head t) d) := by
  blk_ext [idx8 t, lane, head, at_]

theorem iblk0 (i : Fin 16384) (d : Fin 128) :
    iblk m c 0 t (ix2 i d) = qpArr (scaled (m ((c.tc : Thread nD τ).loc main_arg0))) (ix2 i (lane (head t) d)) :=
  (read0 t (V m c main_v7) i d).trans (congrFun (V_q m c) _)

theorem iblk1 (r : Fin 512) (d : Fin 128) :
    iblk m c 1 t (ix2 r d)
      = m ((c.tc : Thread nD τ).loc main_arg1) (ix2 (at_ (t.val % 32) (block_lt t) r) (lane (head t) d)) :=
  (read1 t (V m c main_arg1) r d).trans (congrFun (V_main_arg1 m c) _)

theorem iblk2 (r : Fin 512) (d : Fin 128) :
    iblk m c 2 t (ix2 r d)
      = m ((c.tc : Thread nD τ).loc main_arg2) (ix2 (at_ (t.val % 32) (block_lt t) r) (lane (head t) d)) :=
  (read2 t (V m c main_arg2) r d).trans (congrFun (V_main_arg2 m c) _)

theorem iblk3 (i : Fin 16384) (d : Fin 128) :
    iblk m c 3 t (ix2 i d) = m ((c.tc : Thread nD τ).loc main_arg3) (ix2 i (lane (head t) d)) :=
  (read3 t (V m c main_arg3) i d).trans (congrFun (V_main_arg3 m c) _)

theorem iblk4 (b : Fin 32) (s : Fin 512) :
    iblk m c 4 t (ix4 0 b 0 s)
      = lseArr (rowMax (plainScores m c)) (rowSum (exps (plainScores m c) (rowMax (plainScores m c))))
          (ix4 (head t) b 0 s) :=
  (read4 t (V m c main_v64) b s).trans (congrFun (V_lse m c) _)

theorem iblk5 (b : Fin 32) (s : Fin 512) :
    iblk m c 5 t (ix4 0 b 0 s)
      = deltaArr (byHead (wide (m ((c.tc : Thread nD τ).loc main_arg3))))
          (byHead (outArr (byHead (wide (m ((c.tc : Thread nD τ).loc main_arg2))))
            (soft (expArr (m ((c.tc : Thread nD τ).loc main_arg0)) (m ((c.tc : Thread nD τ).loc main_arg1))))))
          (ix4 (head t) b 0 s) :=
  (read5 t (V m c main_v65) b s).trans (congrFun (V_delta m c) _)

end Cert.KernelIdeal.Attn
end
-- ==== Proof.Value.Grid.lean ====
module

public import proofs.«01_k».proof.Proof.Value.Blocks

/-! The grid: what each point leaves in the results' buffers, and the results' arrays. -/

@[expose] public section
set_option maxRecDepth 16384
noncomputable section
namespace Cert.KernelIdeal.Attn

open Idealize.ShloMosaic Idealize.ShloMosaic.TcCoe
open Cert.KernelIdeal Cert.KernelIdeal.Gen Cert.Reals Cert.Plain
open Finset

/-- The arguments hold these reals. -/
structure Args (m : (ℓ : Loc nD τ sig) → Buf (Elt Ideal) ℓ) (c : Dev nD) (A B C D : Fin 16384 → Fin 1024 → ℝ) : Prop where
  q : ∀ i l, (m ((c.tc : Thread nD τ).loc main_arg0) : FVec Ideal S16384x1024 .bf16) (ix2 i l) = (A i l : EReal)
  k : ∀ i l, (m ((c.tc : Thread nD τ).loc main_arg1) : FVec Ideal S16384x1024 .bf16) (ix2 i l) = (B i l : EReal)
  v : ∀ i l, (m ((c.tc : Thread nD τ).loc main_arg2) : FVec Ideal S16384x1024 .bf16) (ix2 i l) = (C i l : EReal)
  o : ∀ i l, (m ((c.tc : Thread nD τ).loc main_arg3) : FVec Ideal S16384x1024 .bf16) (ix2 i l) = (D i l : EReal)

variable {m : (ℓ : Loc nD τ sig) → Buf (Elt Ideal) ℓ} {c : Dev nD} {A B C D : Fin 16384 → Fin 1024 → ℝ}
variable (H : Args m c A B C D)

include H in
theorem head_at (t : Fin cfg0.N) : ∃ M : Fin 16384 → ℝ,
    Head (hq A (head t)) (hd B (head t)) (hd C (head t)) (hd D (head t)) M
      (iblk m c 0 t) (iblk m c 3 t) (iblk m c 4 t) (iblk m c 5 t) := by
  have hs := scores_at (scaled_real H.q) (wide_real H.k)
  obtain ⟨M, hM⟩ := rowMax_at hs
  have he := exps_at hs hM
  obtain ⟨M', hM'⟩ := expArr_real H.q H.k
  have ho := outArr_at (wide_real H.v) (soft_at hM')
  refine ⟨M (head t), fun i d => ?_, fun i d => ?_, fun b h s => ?_, fun b h s => ?_⟩
  · rw [iblk0, qpArr_at (A := fun i l => A i l * scale) fun i l => by rw [scaled_at, H.q, ← EReal.coe_mul]]
    rfl
  · rw [iblk3, H.o]; rfl
  · rw [iblk4]
    exact lseArr_at hM (rowSum_at he) (fun h i => shifted_sum_pos _ _ _ _) (head t) ⟨b, h⟩ s
  · rw [iblk5]
    exact deltaArr_at (wide_real H.o) ho (head t) ⟨b, h⟩ s

theorem at_congr {a b : ℕ} (e : a = b) (ha : a < 32) (hb : b < 32) (s : Fin 512) : at_ a ha s = at_ b hb s := by
  subst e; rfl

include H in
/-- What a grid point computes. -/
theorem point_real (t : Fin cfg0.N) (d0 : Vec Ideal S16384x128 .f32) (old : Fin 16384 → Fin 128 → ℝ)
    (hd0 : ∀ i d, (if t.val % 32 = 0 then k0_pay145 (F := Ideal) else d0) (ix2 i d) = ((old i d : ℝ) : EReal)) :
    (∀ r d, k0_pay197 (point m c t d0).1.1 (ix2 r d)
      = ((dkey (hq A (head t)) (hd B (head t)) (hd C (head t)) (hd D (head t)) (at_ (t.val % 32) (block_lt t) r) d : ℝ) : EReal))
    ∧ (∀ r d, (point m c t d0).1.2 (ix2 r d)
      = ((dvalue (hq A (head t)) (hd B (head t)) (hd D (head t)) (at_ (t.val % 32) (block_lt t) r) d : ℝ) : EReal))
    ∧ (∀ i d, (point m c t d0).2 (ix2 i d)
      = ((old i d + blk (fdq (hq A (head t)) (hd B (head t)) (hd C (head t)) (hd D (head t)) i d) (t.val % 32) : ℝ) : EReal)) := by
  obtain ⟨M, hM⟩ := head_at H t
  have e := block_of t
  have ea := at_congr e (ilt (cfg0.grid.coords t)) (block_lt t)
  rw [← e] at hd0
  obtain ⟨h1, h2, h3⟩ := point_at hM (n := (cfg0.grid.coords t 1).val) (ilt (cfg0.grid.coords t))
    (v3 := iblk m c 1 t) (v4 := iblk m c 2 t)
    (fun r d => by rw [iblk1, H.k, ea]; rfl) (fun r d => by rw [iblk2, H.v, ea]; rfl)
    (if (cfg0.grid.coords t 1).val = 0 then k0_pay145 (F := Ideal) else d0) old hd0
  refine ⟨fun r d => ?_, fun r d => ?_, fun i d => ?_⟩
  · rw [← ea]; exact h1 r d
  · rw [← ea]; exact h2 r d
  · rw [← e]; exact h3 i d

include H in
/-- The rows for the queries after a point: the sums over the head's key blocks so far. -/
theorem dqAt_real : ∀ (n : ℕ) (hn : n < cfg0.N) (i : Fin 16384) (d : Fin 128), dqAt m c n hn (ix2 i d)
    = ((∑ b ∈ range (n % 32 + 1), blk (fdq (hq A (head ⟨n, hn⟩)) (hd B (head ⟨n, hn⟩)) (hd C (head ⟨n, hn⟩))
        (hd D (head ⟨n, hn⟩)) i d) b : ℝ) : EReal)
  | 0, hn => fun i d => by
    have h := (point_real H ⟨0, hn⟩ (k0_pay145 (F := Ideal)) (fun _ _ => 0) fun i d => by
      rw [if_pos (show (0 : ℕ) % 32 = 0 from rfl)]; exact pay145 i d).2.2 i d
    rw [zero_add] at h
    rw [show (0 : ℕ) % 32 + 1 = 1 from rfl, sum_range_one]
    exact h
  | n + 1, hn => fun i d => by
    have ih := dqAt_real n (Nat.lt_of_succ_lt hn)
    by_cases hz : (n + 1) % 32 = 0
    · have h := (point_real H ⟨n + 1, hn⟩ (dqAt m c n (Nat.lt_of_succ_lt hn)) (fun _ _ => 0) fun i d => by
        rw [if_pos (show (n + 1) % 32 = 0 from hz)]; exact pay145 i d).2.2 i d
      rw [zero_add] at h
      rw [hz, sum_range_one]
      have e : (⟨n + 1, hn⟩ : Fin cfg0.N).val % 32 = 0 := hz
      rw [e] at h
      exact h
    · have eh : head ⟨n + 1, hn⟩ = head ⟨n, Nat.lt_of_succ_lt hn⟩ := Fin.ext (by show (n + 1) / 32 = n / 32; omega)
      have h := (point_real H ⟨n + 1, hn⟩ (dqAt m c n (Nat.lt_of_succ_lt hn)) _ fun i d => by
        rw [if_neg (show ¬ (n + 1) % 32 = 0 from hz)]; exact ih i d).2.2 i d
      rw [eh] at h ⊢
      rw [show (n + 1) % 32 = n % 32 + 1 by omega, sum_range_succ]
      have e : (⟨n + 1, hn⟩ : Fin cfg0.N).val % 32 = n % 32 + 1 := by show (n + 1) % 32 = n % 32 + 1; omega
      rw [e] at h
      exact h

include H in
/-- The array of the keys' gradients. -/
theorem final_dk (X : FVec Ideal S16384x1024 .f32)
    (hX : ∀ j h d, X (ix2 j (lane h d)) = ((dkey (hq A h) (hd B h) (hd C h) (hd D h) j d : ℝ) : EReal)) :
    (dats m 0 c).arrAt 7 cfg0.N = X := by
  refine (dats m 0 c).arrAt_eq_of_covers 7 _ (by decide +kernel) fun t hf y => ?_
  obtain ⟨r, d, rfl⟩ : ∃ (r : Fin 512) (d : Fin 128), y = ix2 r d := ⟨_, _, eq_ix2 y⟩
  rw [place7, hX, after0_7]
  exact (point_real H t (k0_pay145 (F := Ideal)) (fun _ _ => 0) (fun i d => by rw [ite_self]; exact pay145 i d)).1 r d

include H in
/-- The array of the values' gradients. -/
theorem final_dv (X : FVec Ideal S16384x1024 .f32)
    (hX : ∀ j h d, X (ix2 j (lane h d)) = ((dvalue (hq A h) (hd B h) (hd D h) j d : ℝ) : EReal)) :
    (dats m 0 c).arrAt 8 cfg0.N = X := by
  refine (dats m 0 c).arrAt_eq_of_covers 8 _ (by decide +kernel) fun t hf y => ?_
  obtain ⟨r, d, rfl⟩ : ∃ (r : Fin 512) (d : Fin 128), y = ix2 r d := ⟨_, _, eq_ix2 y⟩
  rw [place8, hX, after0_8]
  exact (point_real H t (k0_pay145 (F := Ideal)) (fun _ _ => 0) (fun i d => by rw [ite_self]; exact pay145 i d)).2.1 r d

include H in
/-- The array of the queries' gradients, written back at each head's last key block. -/
theorem final_dq (X : FVec Ideal S16384x1024 .f32)
    (hX : ∀ i h d, X (ix2 i (lane h d)) = ((dquery (hq A h) (hd B h) (hd C h) (hd D h) i d : ℝ) : EReal)) :
    (dats m 0 c).arrAt 6 cfg0.N = X := by
  refine (dats m 0 c).arrAt_eq_of_covers 6 _ (by decide +kernel) fun t hf y => ?_
  obtain ⟨i, d, rfl⟩ : ∃ (i : Fin 16384) (d : Fin 128), y = ix2 i d := ⟨_, _, eq_ix2 y⟩
  rw [place6, hX, after0_6]
  have h := dqAt_real H t.val t.isLt i d
  rw [(flush0_6 t).mp hf, ← sum_blk] at h
  exact h

end Cert.KernelIdeal.Attn
end
-- ==== Proof.Value.Finite.lean ====
module

public import proofs.«01_k».proof.Proof.Value.Grid
public import proofs.«01_k».proof.Defs
public import proofs.«01_k».proof.Proof.Gen.Pre_finite
public import Idealize.ShloMosaic.Lib.ReduceAll

/-! The precondition read back: the four arguments hold numbers. -/

@[expose] public section
set_option maxRecDepth 16384
noncomputable section
namespace Cert.Finite

open Idealize.ShloMosaic Idealize.ShloMosaic.TcCoe

/-- An extended real below infinity in size is a number. -/
theorem real_of_abs {x : EReal} (h : max x (-x) < ⊤) : ∃ a : ℝ, x = (a : EReal) := by
  refine ⟨x.toReal, (EReal.coe_toReal ?_ ?_).symm⟩
  · rintro rfl; simp at h
  · rintro rfl; simp at h

theorem inf_eq : Ideal.ofBits .f32 0x7F800000#32 = ⊤ := by simp [Ideal.ofBits, Ideal.ieee]

/-- The test of one array: every entry is below infinity in size. -/
def test (x : FVec Ideal Cert.Pre_finite.S16384x1024 .bf16) : IVec Cert.Pre_finite.S_ 1 :=
  Host.reduce IntOp.andi
    (cmpf .olt (Host.absf (extf .f32 x Cert.Pre_finite.Facts.bitsLt_bf16_f32))
      (broadcastInDim Cert.Pre_finite.S16384x1024 ![] Cert.Pre_finite.Facts.bcast_S_S16384x1024
        (constant Cert.Pre_finite.S_ .f32 0x7F800000#32)))
    (constantI Cert.Pre_finite.S_ 1 1#1) Cert.Pre_finite.Facts.reducesTo_S16384x1024_S_d0_1 Cert.Pre_finite.Facts.h_S_

theorem test_real (x : FVec Ideal Cert.Pre_finite.S16384x1024 .bf16) (j : Cert.Pre_finite.S_.Idx) (h : test x j = 1#1) :
    ∃ A : Fin 16384 → Fin 1024 → ℝ, ∀ i l, x (ix2 i l) = (A i l : EReal) := by
  haveI : Subsingleton Cert.Pre_finite.S_.Idx := ⟨fun a b => funext fun k => k.elim0⟩
  have key : ∀ i l, ∃ a : ℝ, x (ix2 i l) = (a : EReal) := fun i l => by
    have e := Host.reduce_andi_all _ _ _ _ j h (ix2 i l)
    have e' : Ideal.cmp .olt (max (x (ix2 i l)) (-(x (ix2 i l)))) (Ideal.ofBits .f32 0x7F800000#32) = 1#1 := e
    rw [inf_eq] at e'
    refine real_of_abs ?_
    by_contra hn
    rw [Ideal.cmp, decide_eq_false hn] at e'
    exact absurd e' (by decide)
  choose A hA using key
  exact ⟨A, hA⟩

theorem fn_eq (q k v o : FVec Ideal Cert.Pre_finite.S16384x1024 .bf16) (j : Cert.Pre_finite.S_.Idx) :
    Cert.Pre_finite.fn (F := Ideal) q k v o j
      = IntOp.andi (IntOp.andi (IntOp.andi (test q j) (test k j)) (test v j)) (test o j) := rfl

open Cert.KernelIdeal Cert.KernelIdeal.Attn in
/-- A launch that meets the precondition has real arguments. -/
theorem args (m : (ℓ : Loc nD τ sig) → Buf (Elt Ideal) ℓ) (h : Cert.Pre_KernelIdeal_finite m) (c : Dev nD) :
    ∃ A B C D, Args m c A B C D := by
  have e := (fn_eq _ _ _ _ fun k => k.elim0).symm.trans (congrFun (h c) fun k => k.elim0)
  obtain ⟨e, h4⟩ := IntOp.andi_eq_one.1 e
  obtain ⟨e, h3⟩ := IntOp.andi_eq_one.1 e
  obtain ⟨h1, h2⟩ := IntOp.andi_eq_one.1 e
  obtain ⟨A, hA⟩ := test_real _ _ h1
  obtain ⟨B, hB⟩ := test_real _ _ h2
  obtain ⟨C, hC⟩ := test_real _ _ h3
  obtain ⟨D, hD⟩ := test_real _ _ h4
  exact ⟨A, B, C, D, hA, hB, hC, hD⟩

end Cert.Finite
end
-- ==== Proof.Value.RefRun.lean ====
module

public import proofs.«01_k».proof.Proof.Value.Ref
public import proofs.«01_k».proof.Proof.Gen.ReferenceIdeal.Run

/-! The arrays that the reference's run leaves, as the arrays of `Ref`. -/

@[expose] public section
set_option maxRecDepth 16384
noncomputable section
namespace Cert.Plain

open Idealize.ShloMosaic Idealize.ShloMosaic.TcCoe
open Cert.ReferenceIdeal Cert.ReferenceIdeal.Gen Cert.Reals

/-- The reference's results are these arrays. -/
theorem res_dvalue (m : (ℓ : Loc nD τ sig) → Buf (Elt Ideal) ℓ) (c : Dev nD) :
    Cert.ReferenceIdeal.Value.res_main_v54 m c
      = dvalueArr (byHead (wide (m ((c.tc : Thread nD τ).loc main_arg3))))
          (soft (expArr (m ((c.tc : Thread nD τ).loc main_arg0)) (m ((c.tc : Thread nD τ).loc main_arg1)))) := by
  unfold Cert.ReferenceIdeal.Value.res_main_v54; rfl

theorem res_dkey (m : (ℓ : Loc nD τ sig) → Buf (Elt Ideal) ℓ) (c : Dev nD) :
    Cert.ReferenceIdeal.Value.res_main_v72 m c
      = dkeyArr (dscores (m ((c.tc : Thread nD τ).loc main_arg0)) (m ((c.tc : Thread nD τ).loc main_arg1))
          (m ((c.tc : Thread nD τ).loc main_arg2)) (m ((c.tc : Thread nD τ).loc main_arg3)))
          (byHead (scaled (m ((c.tc : Thread nD τ).loc main_arg0)))) := by
  unfold Cert.ReferenceIdeal.Value.res_main_v72; rfl

theorem res_dquery (m : (ℓ : Loc nD τ sig) → Buf (Elt Ideal) ℓ) (c : Dev nD) :
    Cert.ReferenceIdeal.Value.res_main_v73 m c
      = dqueryArr (dscores (m ((c.tc : Thread nD τ).loc main_arg0)) (m ((c.tc : Thread nD τ).loc main_arg1))
          (m ((c.tc : Thread nD τ).loc main_arg2)) (m ((c.tc : Thread nD τ).loc main_arg3)))
          (byHead (wide (m ((c.tc : Thread nD τ).loc main_arg1)))) := by
  unfold Cert.ReferenceIdeal.Value.res_main_v73; rfl

end Cert.Plain
end
-- ==== Proof.Final.Values.lean ====
module

public import proofs.«01_k».proof.Proof.Value.Finite
public import proofs.«01_k».proof.Proof.Value.RefRun
public import proofs.«01_k».proof.Proof.Final.Frames

/-! The idealized kernel and the idealized reference leave the same three arrays. -/

@[expose] public section
set_option maxRecDepth 16384
noncomputable section
namespace Cert.Proof

open Idealize.ShloMosaic Idealize.ShloMosaic.TcCoe Idealize.SL.Sem
open Cert.KernelIdeal Cert.KernelIdeal.Attn Cert.Plain Cert.Reals

section
variable (m : (ℓ : Loc nD τ sig) → Buf (Elt Ideal) ℓ) (c : Dev nD)

/-- The three gradients as arrays of the arguments. -/
def gradQ : FVec Ideal S16384x1024 .f32 :=
  dqueryArr (dscores (m ((c.tc : Thread nD τ).loc main_arg0)) (m ((c.tc : Thread nD τ).loc main_arg1))
    (m ((c.tc : Thread nD τ).loc main_arg2)) (m ((c.tc : Thread nD τ).loc main_arg3)))
    (byHead (wide (m ((c.tc : Thread nD τ).loc main_arg1))))

def gradK : FVec Ideal S16384x1024 .f32 :=
  dkeyArr (dscores (m ((c.tc : Thread nD τ).loc main_arg0)) (m ((c.tc : Thread nD τ).loc main_arg1))
    (m ((c.tc : Thread nD τ).loc main_arg2)) (m ((c.tc : Thread nD τ).loc main_arg3)))
    (byHead (scaled (m ((c.tc : Thread nD τ).loc main_arg0))))

def gradV : FVec Ideal S16384x1024 .f32 :=
  dvalueArr (byHead (wide (m ((c.tc : Thread nD τ).loc main_arg3))))
    (soft (expArr (m ((c.tc : Thread nD τ).loc main_arg0)) (m ((c.tc : Thread nD τ).loc main_arg1))))

/-- What the launch leaves in its three result arrays. -/
theorem kernel_arrays (h : ∃ A B C D, Args m c A B C D) :
    (dats m 0 c).arrAt 6 cfg0.N = gradQ m c ∧ (dats m 0 c).arrAt 7 cfg0.N = gradK m c
      ∧ (dats m 0 c).arrAt 8 cfg0.N = gradV m c := by
  obtain ⟨A, B, C, D, H⟩ := h
  have hs := dscores_real H.q H.k H.v H.o
  obtain ⟨M, hM⟩ := expArr_real H.q H.k
  exact ⟨final_dq H _ fun i h d => dqueryArr_at (wide_real H.k) hs i h d,
    final_dk H _ fun j h d => dkeyArr_at (scaled_real H.q) hs j h d,
    final_dv H _ fun j h d => dvalueArr_at (wide_real H.o) (soft_at hM) j h d⟩
end

section
open Cert.KernelIdeal.Gen Idealize.ShloMosaic.Tactic Idealize.SL Idealize.SL.RA Idealize.ShloMosaic.Rounds
variable {m : (ℓ : Loc nD τ sig) → Buf (Elt Ideal) ℓ}
  {ds : (p : Fin 1) → (c : Dev nD) → Pipeline.Dat τ (Elt Ideal) Unit ℕ (UR sig nD τ) ℕ (cfgs p) c}
  {r : PUnit × MemSt nD τ sig (Elt Ideal)}

/-- A finished launch read at the three results and the four arguments. -/
theorem finished (hA : ∀ c w, (ds 0 c).A w = V m c (Pipeline.arrRef spec0 w)) (h : Pipeline.FramePost cfgs ds 0 (V m) r)
    (c : Dev nD) {x y z : FVec Ideal S16384x1024 .f32} (hx : (ds 0 c).arrAt 6 cfg0.N = x)
    (hy : (ds 0 c).arrAt 7 cfg0.N = y) (hz : (ds 0 c).arrAt 8 cfg0.N = z) :
    r.2.mem ((c.tc : Thread nD τ).loc main_v66_0) = x ∧ r.2.mem ((c.tc : Thread nD τ).loc main_v66_1) = y
    ∧ r.2.mem ((c.tc : Thread nD τ).loc main_v66_2) = z
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 6).trans hx, ((h c).1 7).trans hy, ((h c).1 8).trans hz,
    ((h c).2 main_arg0 (Pipeline.mem_restRefs_of main_arg0 (by decide) (by decide))).trans (V_main_arg0 m c),
    ((h c).1 1).trans (((ds 0 c).arrAt_in 1 rfl _).trans ((hA c 1).trans (V_main_arg1 m c))),
    ((h c).1 2).trans (((ds 0 c).arrAt_in 2 rfl _).trans ((hA c 2).trans (V_main_arg2 m c))),
    ((h c).1 3).trans (((ds 0 c).arrAt_in 3 rfl _).trans ((hA c 3).trans (V_main_arg3 m c)))⟩
end

theorem algebraic [Cert.Pre_finite.Facts] : Cert.algebraic_KernelIdeal_ReferenceIdeal_pre_finite := by
  intro m g m' g' hpre hargs
  refine ⟨gradQ m, gradK m, gradV m, ?_, ?_⟩
  · refine (θ_run Cert.KernelIdeal.defs _ _).mono (fun r h c => ?_) (run_main m g)
    obtain ⟨h6, h7, h8⟩ := kernel_arrays m c (Cert.Finite.args m hpre c)
    exact finished (fun _ _ => rfl) h.1 c h6 h7 h8
  · refine (θ_run Cert.ReferenceIdeal.defs _ _).mono (fun r h c => ?_) (Cert.ReferenceIdeal.Value.run (F := Ideal) m' g')
    obtain ⟨a0, a1, a2, a3⟩ := hargs c
    obtain ⟨h1, h2, h3, h4⟩ := h c
    refine ⟨h1.trans ((res_dquery m' c).trans ?_), h2.trans ((res_dkey m' c).trans ?_),
      h3.trans ((res_dvalue m' c).trans ?_), h4⟩
    · rw [a0, a1, a2, a3]; rfl
    · rw [a0, a1, a2, a3]; rfl
    · rw [a0, a1, a3]; rfl

end Cert.Proof
end
-- ==== Proof.Weights.Sums.lean ====
module

public import Mathlib.Algebra.BigOperators.Fin
public import Mathlib.Algebra.BigOperators.Intervals

/-! A sum over 16384 rows, taken in consecutive blocks. -/

@[expose] public section
namespace Cert.Weights

open Finset

variable {M : Type*} [AddCommMonoid M]

/-- The summand at row `k`, zero past the last row. -/
def atRow (f : Fin 16384 → M) (k : ℕ) : M := if h : k < 16384 then f ⟨k, h⟩ else 0

theorem atRow_of (f : Fin 16384 → M) (k : ℕ) (h : k < 16384) : atRow f k = f ⟨k, h⟩ := dif_pos h

/-- The sum over one block of `T` rows. -/
def block (f : Fin 16384 → M) (T b : ℕ) : M := ∑ s : Fin T, atRow f (T * b + s.val)

theorem sum_blocks (f : Fin 16384 → M) (T n : ℕ) (h : T * n = 16384) : ∑ k, f k = ∑ b ∈ range n, block f T b := by
  have e : ∑ k, f k = ∑ k ∈ range (T * n), atRow f k := by
    rw [h, Finset.sum_range]
    exact Finset.sum_congr rfl fun k _ => (atRow_of f k.val k.isLt).symm
  rw [e]
  clear e h
  induction n with
  | zero => simp
  | succ n ih =>
    rw [Nat.mul_succ, Finset.sum_range_add, ih, Finset.sum_range_succ, block, Finset.sum_range (fun x => atRow f (T * n + x))]

end Cert.Weights
end
-- ==== Proof.Weights.First.lean ====
module

public import proofs.«01_k».proof.Proof.Weights.Sums
public import proofs.«01_k».proof.Proof.Gen.Kernel2Ideal.Value
public import proofs.«01_k».proof.Proof.Gen.Reference2Ideal.Run
public import Idealize.ShloMosaic.PureOps.IdealRules
public import Idealize.ShloMosaic.Lib.Pointwise
public import Idealize.ShloMosaic.Lib.Pipeline.ValueKit
public import Idealize.ShloMosaic.Lib.Tactic

/-! The gradient of the feed-forward layer's first weight: each of the eight groups of columns is summed over the rows in
    four blocks of 4096, which is the sum over all rows. -/

@[expose] public section
set_option maxRecDepth 16384
noncomputable section
namespace Cert.Kernel2Ideal.Weights

open Idealize.ShloMosaic Idealize.ShloMosaic.TcCoe Idealize.SL.Sem
open Cert.Kernel2Ideal Cert.Kernel2Ideal.Gen Cert.Weights

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a3 : Memref sig .tc .vmem S4096x1024 .bf16) (h3 : a3.IsWhole)
  (a4 : Memref sig .tc .vmem S1x4096x704 .bf16) (h4 : a4.IsWhole) (a5 : Memref sig .tc .vmem S1x1024x704 .bf16) (h5 : a5.IsWhole)
  (a6 : Memref sig .tc .vmem S1024x704 .f32) (h6 : a6.IsWhole)
  (x : Vec F S4096x1024 .bf16) (y : Vec F S1x4096x704 .bf16) (s : Vec F S1024x704 .f32)

/-- The first block of a group starts from zero. -/
theorem first (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x704) hz2, View.readCov_unit_zero (S := S1024x704) _ hz2]
  simp only [View.readAt_eq_ld, h3.read_unread, h4.read_unread, View.ld_unit_zero (S := S4096x1024) hz2,
    View.ld_unit_zero (S := S1x4096x704) hz3]

/-- A later block adds to what the blocks before it left. -/
theorem middle (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  sl_unfold_words
  rw [View.canon_unit_zero hz2]
  simp only [View.readAt_eq_ld, h3.read_unread, h4.read_unread, h6.read_unread, View.ld_unit_zero (S := S4096x1024) hz2,
    View.ld_unit_zero (S := S1x4096x704) hz3, View.ld_unit_zero (S := S1024x704) hz2]

theorem last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz2]
  simp only [View.readAt_eq_ld, h3.read_unread, h4.read_unread, h6.read_unread, View.ld_unit_zero (S := S4096x1024) hz2,
    View.ld_unit_zero (S := S1x4096x704) hz3, View.ld_unit_zero (S := S1024x704) hz2]

/-- The last block of a group writes the sum out. -/
theorem written (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz3, View.readCov_unit_zero (S := S1024x704) _ hz2]
  simp only [View.readAt_eq_ld, h3.read_unread, h4.read_unread, h6.read_unread, View.ld_unit_zero (S := S4096x1024) hz2,
    View.ld_unit_zero (S := S1x4096x704) hz3, View.ld_unit_zero (S := S1024x704) hz2]
end

theorem pay1_at (i : Fin 1024) (j : Fin 704) : k0_pay1 (F := Ideal) (ix2 i j) = 0 := by
  pointwise [k0_pay1]

theorem pay2_at (s : Vec Ideal S1024x704 .f32) (x : Vec Ideal S4096x1024 .bf16) (y : Vec Ideal S1x4096x704 .bf16)
    (i : Fin 1024) (j : Fin 704) : k0_pay2 s x y (ix2 i j) = s (ix2 i j) + ∑ k, x (ix2 k i) * y (ix3 0 k j) := by
  pointwise [k0_pay2]

theorem pay3_at (s : Vec Ideal S1024x704 .f32) (i : Fin 1024) (j : Fin 704) : k0_pay3 s (ix3 0 i j) = s (ix2 i j) := by
  pointwise [k0_pay3]

theorem idx0 : ∀ t : Fin cfg0.N, win0_0.index t = ![t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, 0, 0] := (by decide +kernel : ∀ t : Fin grid0.N, _)

/-- The row a block's row `s` is. -/
def rowOf (t : Fin cfg0.N) (s : Fin 4096) : Fin 16384 := ⟨4096 * (t.val % 4) + s.val, by have := Nat.mod_lt t.val (show 0 < 4 by decide); omega⟩
/-- The group of a grid point. -/
def groupOf (t : Fin cfg0.N) : Fin 8 := ⟨t.val / 4, by have := lt_of_lt_of_eq t.isLt N_0; omega⟩

variable (m : (ℓ : Loc nD τ sig) → Buf (Elt Ideal) ℓ) (c : Dev nD) (t : Fin cfg0.N)

theorem read0 (X : FVec Ideal S16384x1024 .bf16) (s : Fin 4096) (i : Fin 1024) :
    ((cfg0.win 0).blk t).view.read (Elt Ideal) X (ix2 s i) = X (ix2 (rowOf t s) i) := by
  blk_ext [idx0 t, rowOf]

theorem read1 (X : FVec Ideal S8x16384x704 .bf16) (s : Fin 4096) (j : Fin 704) :
    ((cfg0.win 1).blk t).view.read (Elt Ideal) X (ix3 0 s j) = X (ix3 (groupOf t) (rowOf t s) j) := by
  blk_ext [idx1 t, rowOf, groupOf]

theorem place2 (i : Fin 1024) (j : Fin 704) : ((cfg0.win 2).blk t).view.emb (ix3 0 i j) = ix3 (groupOf t) i j := by
  blk_ext [idx2 t, groupOf]

/-- The summand of one entry of the gradient. -/
def term (A : FVec Ideal S16384x1024 .bf16) (B : FVec Ideal S8x16384x704 .bf16) (g : Fin 8) (i : Fin 1024) (j : Fin 704)
    (k : Fin 16384) : EReal := A (ix2 k i) * B (ix3 g k j)

/-- The gradient. -/
def grad (A : FVec Ideal S16384x1024 .bf16) (B : FVec Ideal S8x16384x704 .bf16) : FVec Ideal S8x1024x704 .bf16 :=
  fun y => ∑ k, term A B (y 0) (y 1) (y 2) k

abbrev argA : FVec Ideal S16384x1024 .bf16 := m ((c.tc : Thread nD τ).loc main_arg0)
abbrev argB : FVec Ideal S8x16384x704 .bf16 := m ((c.tc : Thread nD τ).loc main_arg1)

theorem step_at (acc : Vec Ideal S1024x704 .f32) (i : Fin 1024) (j : Fin 704) :
    k0_pay2 acc (iblk m c 0 t) (iblk m c 1 t) (ix2 i j)
      = acc (ix2 i j) + block (term (argA m c) (argB m c) (groupOf t) i j) 4096 (t.val % 4) := by
  rw [pay2_at]
  congr 1
  refine Finset.sum_congr rfl fun s _ => ?_
  have e0 : iblk m c 0 t (ix2 s i) = argA m c (ix2 (rowOf t s) i) :=
    (read0 t (V m c main_arg0) s i).trans (congrFun (V_main_arg0 m c) _)
  have e1 : iblk m c 1 t (ix3 0 s j) = argB m c (ix3 (groupOf t) (rowOf t s) j) :=
    (read1 t (V m c main_arg1) s j).trans (congrFun (V_main_arg1 m c) _)
  refine Eq.trans (b := term (argA m c) (argB m c) (groupOf t) i j (rowOf t s)) ?_ (atRow_of _ _ (rowOf t s).isLt).symm
  exact congrArg₂ (fun a b : EReal => a * b) e0 e1

/-- The sum carried after a grid point. -/
theorem carried (i : Fin 1024) (j : Fin 704) : ∀ (n : ℕ) (h : n < cfg0.N), (outsAt0 m c n h).2 (ix2 i j)
    = ∑ b ∈ Finset.range (n % 4 + 1), block (term (argA m c) (argB m c) (groupOf ⟨n, h⟩) i j) 4096 b := by
  intro n
  induction n with
  | zero =>
    intro h
    rw [outsAt0_A m c ⟨0, h⟩ rfl (by dsimp only; omega)]
    dsimp only
    rw [first, step_at, pay1_at]
    simp
  | succ n ih =>
    intro h
    by_cases h0 : (n + 1) % 4 = 0
    · rw [outsAt0_A m c ⟨n + 1, h⟩ h0 (by dsimp only; omega)]
      dsimp only
      rw [first, step_at, pay1_at]
      dsimp only
      rw [h0]
      simp
    · have hg : groupOf ⟨n, Nat.lt_of_succ_lt h⟩ = groupOf ⟨n + 1, h⟩ := Fin.ext (show n / 4 = (n + 1) / 4 by omega)
      have hm : (n + 1) % 4 = n % 4 + 1 := by omega
      have hs : (outsAt0 m c (n + 1) h).2 = k0_pay2 (outsAt0 m c n (Nat.lt_of_succ_lt h)).2 (iblk m c 0 ⟨n + 1, h⟩) (iblk m c 1 ⟨n + 1, h⟩) := by
        by_cases h1 : (n + 1) % 4 = 3
        · rw [outsAt0_C m c ⟨n + 1, h⟩ h0 h1]
          dsimp only
          rw [last]
          rfl
        · rw [outsAt0_B m c ⟨n + 1, h⟩ h0 h1]
          dsimp only
          rw [middle]
          rfl
      rw [hs, step_at, ih, hg, hm, Finset.sum_range_succ _ (n % 4 + 1)]

theorem after_at (i : Fin 1024) (j : Fin 704) (h3 : t.val % 4 = 3) :
    (outsAt0 m c t.val t.isLt).1 (ix3 0 i j) = grad (argA m c) (argB m c) (ix3 (groupOf t) i j) := by
  have h0 : ¬t.val % 4 = 0 := by omega
  have hs : (outsAt0 m c t.val t.isLt).1 (ix3 0 i j) = (outsAt0 m c t.val t.isLt).2 (ix2 i j) := by
    rw [outsAt0_C m c t h0 h3]
    dsimp only
    rw [written, last, pay3_at]
  rw [hs, carried, h3, grad, sum_blocks _ 4096 4 rfl]
  rfl

theorem final : (dats m 0 c).arrAt 2 cfg0.N = grad (argA m c) (argB m c) :=
  (dats m 0 c).arrAt_eq_of_covers 2 (grad (argA m c) (argB m c)) (by decide +kernel) fun t hf y => by
    obtain ⟨i, j, rfl⟩ : ∃ (i : Fin 1024) (j : Fin 704), y = ix3 0 i j :=
      ⟨y 1, y 2, (eq_ix3 y).trans (congrArg (fun z => ix3 z (y 1) (y 2)) (Subsingleton.elim (α := Fin 1) _ _))⟩
    refine Eq.trans ?_ (congrArg (grad (argA m c) (argB m c)) (place2 t i j)).symm
    refine (congrFun (congrArg Prod.fst ?_) _).trans (after_at m c t i j ((flush0_2 t).mp hf))
    rfl

end Cert.Kernel2Ideal.Weights
end
-- ==== Proof.Weights.FirstPlain.lean ====
module

public import proofs.«01_k».proof.Proof.Gen.Reference2Ideal.Run
public import Idealize.ShloMosaic.PureOps.IdealRules
public import Idealize.ShloMosaic.Lib.Pointwise

/-! The derivative of the first feed-forward product with respect to its weight, read entry by entry. -/

@[expose] public section
set_option maxRecDepth 16384
noncomputable section
namespace Cert.Reference2Ideal.Weights

open Idealize.ShloMosaic Cert.Reference2Ideal Cert.Reference2Ideal.Gen

/-- The reference's result at one entry is the sum over the rows. -/
theorem plain (A : FVec Ideal S16384x1024 .bf16) (B : FVec Ideal S8x16384x704 .bf16) (g : Fin 8) (i : Fin 1024) (j : Fin 704) :
    (truncf .bf16 (transpose S8x1024x704 [0, 2, 1] (Host.dotGeneral dot_S8x704x16384_S16384x1024_S8x704x1024_2_0_01_1_n_n none (transpose S8x704x16384 [0, 2, 1] (extf .f32 B bitsLt_bf16_f32) transposes_S8x16384x704_S8x704x16384_0_2_1) (extf .f32 A bitsLt_bf16_f32)) transposes_S8x704x1024_S8x1024x704_0_2_1) bitsLt_bf16_f32 :
      FVec Ideal S8x1024x704 .bf16) (ix3 g i j) = ∑ k, A (ix2 k i) * B (ix3 g k j) := by
  pointwise []
  exact Finset.sum_congr rfl fun k _ => mul_comm _ _

end Cert.Reference2Ideal.Weights
end
-- ==== Proof.Weights.FirstEqual.lean ====
module

public import proofs.«01_k».proof.Defs
public import proofs.«01_k».proof.Proof.Weights.First
public import proofs.«01_k».proof.Proof.Weights.FirstPlain
public import proofs.«01_k».proof.Proof.Gen.Kernel2.Frame

/-! The claims for the gradient of the feed-forward layer's first weight. -/

@[expose] public section
set_option maxRecDepth 16384
noncomputable section
namespace Cert.Proof.First

open Idealize.ShloMosaic Idealize.ShloMosaic.TcCoe Idealize.SL.Sem
open Cert.Kernel2Ideal.Weights

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Nothing is rewritten in the idealized kernel. -/
theorem preserves : Cert.preserves_Kernel2_Kernel2Ideal := trivial

/-- The kernel and the reference leave the same gradient. -/
theorem algebraic : Cert.algebraic_Kernel2Ideal_Reference2Ideal := by
  intro m g m' g' _ hargs
  refine ⟨fun c => grad (argA m c) (argB m c), ?_, ?_⟩
  · exact (θ_run Cert.Kernel2Ideal.defs _ _).mono (fun r h c => ⟨(h c).1.trans (final m c), (h c).2⟩)
      (Cert.Kernel2Ideal.Value.run_blocks m g)
  · refine (θ_run Cert.Reference2Ideal.defs _ _).mono (fun r h c => ⟨(h c).1.trans ?_, (h c).2⟩)
      (Cert.Reference2Ideal.Value.run (F := Ideal) m' g')
    rw [(hargs c).1, (hargs c).2]
    funext y
    rw [eq_ix3 y]
    exact Cert.Reference2Ideal.Weights.plain _ _ _ _ _

end Cert.Proof.First
end
-- ==== Proof.Weights.Second.lean ====
module

public import proofs.«01_k».proof.Proof.Weights.Sums
public import proofs.«01_k».proof.Proof.Gen.Kernel3Ideal.Value
public import proofs.«01_k».proof.Proof.Gen.Reference3Ideal.Run
public import Idealize.ShloMosaic.PureOps.IdealRules
public import Idealize.ShloMosaic.Lib.Pointwise
public import Idealize.ShloMosaic.Lib.Pipeline.ValueKit
public import Idealize.ShloMosaic.Lib.Tactic

/-! The gradient of the feed-forward layer's second weight: each of the four groups of rows is summed over the tokens in
    eight blocks of 2048, which is the sum over all rows. -/

@[expose] public section
set_option maxRecDepth 16384
noncomputable section
namespace Cert.Kernel3Ideal.Weights

open Idealize.ShloMosaic Idealize.ShloMosaic.TcCoe Idealize.SL.Sem
open Cert.Kernel3Ideal Cert.Kernel3Ideal.Gen Cert.Weights

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a3 : Memref sig .tc .vmem S1x2048x704 .bf16) (h3 : a3.IsWhole)
  (a4 : Memref sig .tc .vmem S2048x1024 .f32) (h4 : a4.IsWhole) (a5 : Memref sig .tc .vmem S1x704x1024 .bf16) (h5 : a5.IsWhole)
  (a6 : Memref sig .tc .vmem S704x1024 .f32) (h6 : a6.IsWhole)
  (x : Vec F S1x2048x704 .bf16) (y : Vec F S2048x1024 .f32) (s : Vec F S704x1024 .f32)

/-- The first block of a group starts from zero. -/
theorem first (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S704x1024) hz2, View.readCov_unit_zero (S := S704x1024) _ hz2]
  simp only [View.readAt_eq_ld, h3.read_unread, h4.read_unread, View.ld_unit_zero (S := S1x2048x704) hz3,
    View.ld_unit_zero (S := S2048x1024) hz2]

/-- A later block adds to what the blocks before it left. -/
theorem middle (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  sl_unfold_words
  rw [View.canon_unit_zero hz2]
  simp only [View.readAt_eq_ld, h3.read_unread, h4.read_unread, h6.read_unread, View.ld_unit_zero (S := S1x2048x704) hz3,
    View.ld_unit_zero (S := S2048x1024) hz2, View.ld_unit_zero (S := S704x1024) hz2]

theorem last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz2]
  simp only [View.readAt_eq_ld, h3.read_unread, h4.read_unread, h6.read_unread, View.ld_unit_zero (S := S1x2048x704) hz3,
    View.ld_unit_zero (S := S2048x1024) hz2, View.ld_unit_zero (S := S704x1024) hz2]

/-- The last block of a group writes the sum out. -/
theorem written (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz3, View.readCov_unit_zero (S := S704x1024) _ hz2]
  simp only [View.readAt_eq_ld, h3.read_unread, h4.read_unread, h6.read_unread, View.ld_unit_zero (S := S1x2048x704) hz3,
    View.ld_unit_zero (S := S2048x1024) hz2, View.ld_unit_zero (S := S704x1024) hz2]
end

theorem pay1_at (i : Fin 704) (j : Fin 1024) : k0_pay1 (F := Ideal) (ix2 i j) = 0 := by
  pointwise [k0_pay1]

theorem pay2_at (s : Vec Ideal S704x1024 .f32) (x : Vec Ideal S1x2048x704 .bf16) (y : Vec Ideal S2048x1024 .f32)
    (i : Fin 704) (j : Fin 1024) : k0_pay2 s x y (ix2 i j) = s (ix2 i j) + ∑ k, x (ix3 0 k i) * y (ix2 k j) := by
  pointwise [k0_pay2]

theorem pay3_at (s : Vec Ideal S704x1024 .f32) (i : Fin 704) (j : Fin 1024) : k0_pay3 s (ix3 0 i j) = s (ix2 i j) := by
  pointwise [k0_pay3]

theorem idx0 : ∀ t : Fin cfg0.N, win0_0.index t = ![t.val / 8, t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0, 0] := (by decide +kernel : ∀ t : Fin grid0.N, _)

/-- The row a block's row `s` is. -/
def rowOf (t : Fin cfg0.N) (s : Fin 2048) : Fin 16384 := ⟨2048 * (t.val % 8) + s.val, by have := Nat.mod_lt t.val (show 0 < 8 by decide); omega⟩
/-- The group of a grid point. -/
def groupOf (t : Fin cfg0.N) : Fin 4 := ⟨t.val / 8, by have := lt_of_lt_of_eq t.isLt N_0; omega⟩

variable (m : (ℓ : Loc nD τ sig) → Buf (Elt Ideal) ℓ) (c : Dev nD) (t : Fin cfg0.N)

theorem read0 (X : FVec Ideal S4x16384x704 .bf16) (s : Fin 2048) (i : Fin 704) :
    ((cfg0.win 0).blk t).view.read (Elt Ideal) X (ix3 0 s i) = X (ix3 (groupOf t) (rowOf t s) i) := by
  blk_ext [idx0 t, rowOf, groupOf]

theorem read1 (X : FVec Ideal S16384x1024 .f32) (s : Fin 2048) (j : Fin 1024) :
    ((cfg0.win 1).blk t).view.read (Elt Ideal) X (ix2 s j) = X (ix2 (rowOf t s) j) := by
  blk_ext [idx1 t, rowOf]

theorem place2 (i : Fin 704) (j : Fin 1024) : ((cfg0.win 2).blk t).view.emb (ix3 0 i j) = ix3 (groupOf t) i j := by
  blk_ext [idx2 t, groupOf]

/-- The summand of one entry of the gradient. -/
def term (A : FVec Ideal S4x16384x704 .bf16) (B : FVec Ideal S16384x1024 .f32) (g : Fin 4) (i : Fin 704) (j : Fin 1024)
    (k : Fin 16384) : EReal := A (ix3 g k i) * B (ix2 k j)

/-- The gradient. -/
def grad (A : FVec Ideal S4x16384x704 .bf16) (B : FVec Ideal S16384x1024 .f32) : FVec Ideal S4x704x1024 .bf16 :=
  fun y => ∑ k, term A B (y 0) (y 1) (y 2) k

abbrev argA : FVec Ideal S4x16384x704 .bf16 := m ((c.tc : Thread nD τ).loc main_arg0)
abbrev argB : FVec Ideal S16384x1024 .f32 := m ((c.tc : Thread nD τ).loc main_arg1)

theorem step_at (acc : Vec Ideal S704x1024 .f32) (i : Fin 704) (j : Fin 1024) :
    k0_pay2 acc (iblk m c 0 t) (iblk m c 1 t) (ix2 i j)
      = acc (ix2 i j) + block (term (argA m c) (argB m c) (groupOf t) i j) 2048 (t.val % 8) := by
  rw [pay2_at]
  congr 1
  refine Finset.sum_congr rfl fun s _ => ?_
  have e0 : iblk m c 0 t (ix3 0 s i) = argA m c (ix3 (groupOf t) (rowOf t s) i) :=
    (read0 t (V m c main_arg0) s i).trans (congrFun (V_main_arg0 m c) _)
  have e1 : iblk m c 1 t (ix2 s j) = argB m c (ix2 (rowOf t s) j) :=
    (read1 t (V m c main_arg1) s j).trans (congrFun (V_main_arg1 m c) _)
  refine Eq.trans (b := term (argA m c) (argB m c) (groupOf t) i j (rowOf t s)) ?_ (atRow_of _ _ (rowOf t s).isLt).symm
  exact congrArg₂ (fun a b : EReal => a * b) e0 e1

/-- The sum carried after a grid point. -/
theorem carried (i : Fin 704) (j : Fin 1024) : ∀ (n : ℕ) (h : n < cfg0.N), (outsAt0 m c n h).2 (ix2 i j)
    = ∑ b ∈ Finset.range (n % 8 + 1), block (term (argA m c) (argB m c) (groupOf ⟨n, h⟩) i j) 2048 b := by
  intro n
  induction n with
  | zero =>
    intro h
    rw [outsAt0_A m c ⟨0, h⟩ rfl (by dsimp only; omega)]
    dsimp only
    rw [first, step_at, pay1_at]
    simp
  | succ n ih =>
    intro h
    by_cases h0 : (n + 1) % 8 = 0
    · rw [outsAt0_A m c ⟨n + 1, h⟩ h0 (by dsimp only; omega)]
      dsimp only
      rw [first, step_at, pay1_at]
      dsimp only
      rw [h0]
      simp
    · have hg : groupOf ⟨n, Nat.lt_of_succ_lt h⟩ = groupOf ⟨n + 1, h⟩ := Fin.ext (show n / 8 = (n + 1) / 8 by omega)
      have hm : (n + 1) % 8 = n % 8 + 1 := by omega
      have hs : (outsAt0 m c (n + 1) h).2 = k0_pay2 (outsAt0 m c n (Nat.lt_of_succ_lt h)).2 (iblk m c 0 ⟨n + 1, h⟩) (iblk m c 1 ⟨n + 1, h⟩) := by
        by_cases h1 : (n + 1) % 8 = 7
        · rw [outsAt0_C m c ⟨n + 1, h⟩ h0 h1]
          dsimp only
          rw [last]
          rfl
        · rw [outsAt0_B m c ⟨n + 1, h⟩ h0 h1]
          dsimp only
          rw [middle]
          rfl
      rw [hs, step_at, ih, hg, hm, Finset.sum_range_succ _ (n % 8 + 1)]

theorem after_at (i : Fin 704) (j : Fin 1024) (h3 : t.val % 8 = 7) :
    (outsAt0 m c t.val t.isLt).1 (ix3 0 i j) = grad (argA m c) (argB m c) (ix3 (groupOf t) i j) := by
  have h0 : ¬t.val % 8 = 0 := by omega
  have hs : (outsAt0 m c t.val t.isLt).1 (ix3 0 i j) = (outsAt0 m c t.val t.isLt).2 (ix2 i j) := by
    rw [outsAt0_C m c t h0 h3]
    dsimp only
    rw [written, last, pay3_at]
  rw [hs, carried, h3, grad, sum_blocks _ 2048 8 rfl]
  rfl

theorem final : (dats m 0 c).arrAt 2 cfg0.N = grad (argA m c) (argB m c) :=
  (dats m 0 c).arrAt_eq_of_covers 2 (grad (argA m c) (argB m c)) (by decide +kernel) fun t hf y => by
    obtain ⟨i, j, rfl⟩ : ∃ (i : Fin 704) (j : Fin 1024), y = ix3 0 i j :=
      ⟨y 1, y 2, (eq_ix3 y).trans (congrArg (fun z => ix3 z (y 1) (y 2)) (Subsingleton.elim (α := Fin 1) _ _))⟩
    refine Eq.trans ?_ (congrArg (grad (argA m c) (argB m c)) (place2 t i j)).symm
    refine (congrFun (congrArg Prod.fst ?_) _).trans (after_at m c t i j ((flush0_2 t).mp hf))
    rfl

end Cert.Kernel3Ideal.Weights
end
-- ==== Proof.Weights.SecondPlain.lean ====
module

public import proofs.«01_k».proof.Proof.Gen.Reference3Ideal.Run
public import Idealize.ShloMosaic.PureOps.IdealRules
public import Idealize.ShloMosaic.Lib.Pointwise

/-! The derivative of the second feed-forward product with respect to its weight, read entry by entry. -/

@[expose] public section
set_option maxRecDepth 16384
noncomputable section
namespace Cert.Reference3Ideal.Weights

open Idealize.ShloMosaic Cert.Reference3Ideal Cert.Reference3Ideal.Gen

/-- The reference's result at one entry is the sum over the rows. -/
theorem plain (A : FVec Ideal S4x16384x704 .bf16) (B : FVec Ideal S16384x1024 .f32) (g : Fin 4) (i : Fin 704) (j : Fin 1024) :
    (truncf .bf16 (transpose S4x704x1024 [1, 2, 0] (Host.dotGeneral dot_S16384x1024_S4x16384x704_S1024x4x704_0_1_1_02_n_n none B (extf .f32 A bitsLt_bf16_f32)) transposes_S1024x4x704_S4x704x1024_1_2_0) bitsLt_bf16_f32 :
      FVec Ideal S4x704x1024 .bf16) (ix3 g i j) = ∑ k, A (ix3 g k i) * B (ix2 k j) := by
  pointwise []
  exact Finset.sum_congr rfl fun k _ => mul_comm _ _

end Cert.Reference3Ideal.Weights
end
-- ==== Proof.Weights.SecondEqual.lean ====
module

public import proofs.«01_k».proof.Defs
public import proofs.«01_k».proof.Proof.Weights.Second
public import proofs.«01_k».proof.Proof.Weights.SecondPlain
public import proofs.«01_k».proof.Proof.Gen.Kernel3.Frame

/-! The claims for the gradient of the feed-forward layer's second weight. -/

@[expose] public section
set_option maxRecDepth 16384
noncomputable section
namespace Cert.Proof.Second

open Idealize.ShloMosaic Idealize.ShloMosaic.TcCoe Idealize.SL.Sem
open Cert.Kernel3Ideal.Weights

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing is rewritten in the idealized kernel. -/
theorem preserves : Cert.preserves_Kernel3_Kernel3Ideal := trivial

/-- The kernel and the reference leave the same gradient. -/
theorem algebraic : Cert.algebraic_Kernel3Ideal_Reference3Ideal := by
  intro m g m' g' _ hargs
  refine ⟨fun c => grad (argA m c) (argB m c), ?_, ?_⟩
  · exact (θ_run Cert.Kernel3Ideal.defs _ _).mono (fun r h c => ⟨(h c).1.trans (final m c), (h c).2⟩)
      (Cert.Kernel3Ideal.Value.run_blocks m g)
  · refine (θ_run Cert.Reference3Ideal.defs _ _).mono (fun r h c => ⟨(h c).1.trans ?_, (h c).2⟩)
      (Cert.Reference3Ideal.Value.run (F := Ideal) m' g')
    rw [(hargs c).1, (hargs c).2]
    funext y
    rw [eq_ix3 y]
    exact Cert.Reference3Ideal.Weights.plain _ _ _ _ _

end Cert.Proof.Second
end
-- ==== Proof.Weights.Third.lean ====
module

public import proofs.«01_k».proof.Proof.Weights.Sums
public import proofs.«01_k».proof.Proof.Gen.Kernel4Ideal.Value
public import proofs.«01_k».proof.Proof.Gen.Reference4Ideal.Run
public import Idealize.ShloMosaic.PureOps.IdealRules
public import Idealize.ShloMosaic.Lib.Pointwise
public import Idealize.ShloMosaic.Lib.Pipeline.ValueKit
public import Idealize.ShloMosaic.Lib.Tactic

/-! The gradient of the attention's output weight: it is summed over the rows in eight
    blocks of 2048, which is the sum over all rows. -/

@[expose] public section
set_option maxRecDepth 16384
noncomputable section
namespace Cert.Kernel4Ideal.Weights

open Idealize.ShloMosaic Idealize.ShloMosaic.TcCoe Idealize.SL.Sem
open Cert.Kernel4Ideal Cert.Kernel4Ideal.Gen Cert.Weights

section
variable {F : FTy → Type} [FloatOps F]

theorem hz2 : (![0, 0] : Fin 2 → Nat) = fun _ => 0 := funext fun a => by fin_cases a <;> rfl

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)
  (x : Vec F S2048x1024 .bf16) (y : Vec F S2048x1024 .f32) (s : Vec F S1024x1024 .f32)

/-- The first block starts from zero. -/
theorem first (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S2048x1024) hz2]

/-- A later block adds to what the blocks before it left. -/
theorem middle (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  sl_unfold_words
  rw [View.canon_unit_zero hz2]
  simp only [View.readAt_eq_ld, h3.read_unread, h4.read_unread, h6.read_unread, View.ld_unit_zero (S := S2048x1024) hz2, View.ld_unit_zero (S := S1024x1024) hz2]

theorem last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz2]
  simp only [View.readAt_eq_ld, h3.read_unread, h4.read_unread, h6.read_unread, View.ld_unit_zero (S := S2048x1024) hz2, View.ld_unit_zero (S := S1024x1024) hz2]

/-- The last block writes the sum out. -/
theorem written (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz2, View.readCov_unit_zero (S := S1024x1024) _ hz2]
  simp only [View.readAt_eq_ld, h3.read_unread, h4.read_unread, h6.read_unread, View.ld_unit_zero (S := S2048x1024) hz2, View.ld_unit_zero (S := S1024x1024) hz2]
end

theorem pay1_at (i j : Fin 1024) : k0_pay1 (F := Ideal) (ix2 i j) = 0 := by
  pointwise [k0_pay1]

theorem pay2_at (s : Vec Ideal S1024x1024 .f32) (x : Vec Ideal S2048x1024 .bf16) (y : Vec Ideal S2048x1024 .f32)
    (i j : Fin 1024) : k0_pay2 s x y (ix2 i j) = s (ix2 i j) + ∑ k, x (ix2 k i) * y (ix2 k j) := by
  pointwise [k0_pay2]

theorem pay3_at (s : Vec Ideal S1024x1024 .f32) (i j : Fin 1024) : k0_pay3 s (ix2 i j) = s (ix2 i j) := by
  pointwise [k0_pay3]

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

/-- The row a block's row `s` is. -/
def rowOf (t : Fin cfg0.N) (s : Fin 2048) : Fin 16384 := ⟨2048 * (t.val % 8) + s.val, by have := Nat.mod_lt t.val (show 0 < 8 by decide); omega⟩

variable (m : (ℓ : Loc nD τ sig) → Buf (Elt Ideal) ℓ) (c : Dev nD) (t : Fin cfg0.N)

theorem read0 (X : FVec Ideal S16384x1024 .bf16) (s : Fin 2048) (i : Fin 1024) :
    ((cfg0.win 0).blk t).view.read (Elt Ideal) X (ix2 s i) = X (ix2 (rowOf t s) i) := by
  blk_ext [idx0 t, rowOf]

theorem read1 (X : FVec Ideal S16384x1024 .f32) (s : Fin 2048) (j : Fin 1024) :
    ((cfg0.win 1).blk t).view.read (Elt Ideal) X (ix2 s j) = X (ix2 (rowOf t s) j) := by
  blk_ext [idx1 t, rowOf]

theorem place2 (i j : Fin 1024) : ((cfg0.win 2).blk t).view.emb (ix2 i j) = ix2 i j := by
  blk_ext [idx2 t]

/-- The summand of one entry of the gradient. -/
def term (A : FVec Ideal S16384x1024 .bf16) (B : FVec Ideal S16384x1024 .f32) (i j : Fin 1024)
    (k : Fin 16384) : EReal := A (ix2 k i) * B (ix2 k j)

/-- The gradient. -/
def grad (A : FVec Ideal S16384x1024 .bf16) (B : FVec Ideal S16384x1024 .f32) : FVec Ideal S1024x1024 .bf16 :=
  fun y => ∑ k, term A B (y 0) (y 1) k

abbrev argA : FVec Ideal S16384x1024 .bf16 := m ((c.tc : Thread nD τ).loc main_arg0)
abbrev argB : FVec Ideal S16384x1024 .f32 := m ((c.tc : Thread nD τ).loc main_arg1)

theorem step_at (acc : Vec Ideal S1024x1024 .f32) (i j : Fin 1024) :
    k0_pay2 acc (iblk m c 0 t) (iblk m c 1 t) (ix2 i j)
      = acc (ix2 i j) + block (term (argA m c) (argB m c) i j) 2048 (t.val % 8) := by
  rw [pay2_at]
  congr 1
  refine Finset.sum_congr rfl fun s _ => ?_
  have e0 : iblk m c 0 t (ix2 s i) = argA m c (ix2 (rowOf t s) i) :=
    (read0 t (V m c main_arg0) s i).trans (congrFun (V_main_arg0 m c) _)
  have e1 : iblk m c 1 t (ix2 s j) = argB m c (ix2 (rowOf t s) j) :=
    (read1 t (V m c main_arg1) s j).trans (congrFun (V_main_arg1 m c) _)
  refine Eq.trans (b := term (argA m c) (argB m c) i j (rowOf t s)) ?_ (atRow_of _ _ (rowOf t s).isLt).symm
  exact congrArg₂ (fun a b : EReal => a * b) e0 e1

/-- The sum carried after a grid point. -/
theorem carried (i j : Fin 1024) : ∀ (n : ℕ) (h : n < cfg0.N), (outsAt0 m c n h).2 (ix2 i j)
    = ∑ b ∈ Finset.range (n % 8 + 1), block (term (argA m c) (argB m c) i j) 2048 b := by
  intro n
  induction n with
  | zero =>
    intro h
    rw [outsAt0_A m c ⟨0, h⟩ rfl (by dsimp only; omega)]
    dsimp only
    rw [first, step_at, pay1_at]
    simp
  | succ n ih =>
    intro h
    by_cases h0 : (n + 1) % 8 = 0
    · rw [outsAt0_A m c ⟨n + 1, h⟩ h0 (by dsimp only; omega)]
      dsimp only
      rw [first, step_at, pay1_at]
      dsimp only
      rw [h0]
      simp
    · have hm : (n + 1) % 8 = n % 8 + 1 := by omega
      have hs : (outsAt0 m c (n + 1) h).2 = k0_pay2 (outsAt0 m c n (Nat.lt_of_succ_lt h)).2 (iblk m c 0 ⟨n + 1, h⟩) (iblk m c 1 ⟨n + 1, h⟩) := by
        by_cases h1 : (n + 1) % 8 = 7
        · rw [outsAt0_C m c ⟨n + 1, h⟩ h0 h1]
          dsimp only
          rw [last]
          rfl
        · rw [outsAt0_B m c ⟨n + 1, h⟩ h0 h1]
          dsimp only
          rw [middle]
          rfl
      rw [hs, step_at, ih, hm, Finset.sum_range_succ _ (n % 8 + 1)]

theorem after_at (i j : Fin 1024) (h3 : t.val % 8 = 7) :
    (outsAt0 m c t.val t.isLt).1 (ix2 i j) = grad (argA m c) (argB m c) (ix2 i j) := by
  have h0 : ¬t.val % 8 = 0 := by omega
  have hs : (outsAt0 m c t.val t.isLt).1 (ix2 i j) = (outsAt0 m c t.val t.isLt).2 (ix2 i j) := by
    rw [outsAt0_C m c t h0 h3]
    dsimp only
    rw [written, last, pay3_at]
  rw [hs, carried, h3, grad, sum_blocks _ 2048 8 rfl]
  rfl

theorem final : (dats m 0 c).arrAt 2 cfg0.N = grad (argA m c) (argB m c) :=
  (dats m 0 c).arrAt_eq_of_covers 2 (grad (argA m c) (argB m c)) (by decide +kernel) fun t hf y => by
    obtain ⟨i, j, rfl⟩ : ∃ (i j : Fin 1024), y = ix2 i j :=
      ⟨y 0, y 1, eq_ix2 y⟩
    refine Eq.trans ?_ (congrArg (grad (argA m c) (argB m c)) (place2 t i j)).symm
    refine (congrFun (congrArg Prod.fst ?_) _).trans (after_at m c t i j ((flush0_2 t).mp hf))
    rfl

end Cert.Kernel4Ideal.Weights
end
-- ==== Proof.Weights.ThirdPlain.lean ====
module

public import proofs.«01_k».proof.Proof.Gen.Reference4Ideal.Run
public import Idealize.ShloMosaic.PureOps.IdealRules
public import Idealize.ShloMosaic.Lib.Pointwise

/-! The derivative of the attention's output product with respect to its weight, read entry by entry. -/

@[expose] public section
set_option maxRecDepth 16384
noncomputable section
namespace Cert.Reference4Ideal.Weights

open Idealize.ShloMosaic Cert.Reference4Ideal Cert.Reference4Ideal.Gen

/-- The reference's result at one entry is the sum over the rows. -/
theorem plain (A : FVec Ideal S16384x1024 .bf16) (B : FVec Ideal S16384x1024 .f32) (i j : Fin 1024) :
    (truncf .bf16 (transpose S1024x1024 [1, 0] (Host.dotGeneral dot_S16384x1024_S16384x1024_S1024x1024_0_0_1_1_n_n none B (extf .f32 A bitsLt_bf16_f32)) transposes_S1024x1024_S1024x1024_1_0) bitsLt_bf16_f32 :
      FVec Ideal S1024x1024 .bf16) (ix2 i j) = ∑ k, A (ix2 k i) * B (ix2 k j) := by
  pointwise []
  exact Finset.sum_congr rfl fun k _ => mul_comm _ _

end Cert.Reference4Ideal.Weights
end
-- ==== Proof.Weights.ThirdEqual.lean ====
module

public import proofs.«01_k».proof.Defs
public import proofs.«01_k».proof.Proof.Weights.Third
public import proofs.«01_k».proof.Proof.Weights.ThirdPlain
public import proofs.«01_k».proof.Proof.Gen.Kernel4.Frame

/-! The claims for the gradient of the attention's output weight. -/

@[expose] public section
set_option maxRecDepth 16384
noncomputable section
namespace Cert.Proof.Third

open Idealize.ShloMosaic Idealize.ShloMosaic.TcCoe Idealize.SL.Sem
open Cert.Kernel4Ideal.Weights

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Nothing is rewritten in the idealized kernel. -/
theorem preserves : Cert.preserves_Kernel4_Kernel4Ideal := trivial

/-- The kernel and the reference leave the same gradient. -/
theorem algebraic : Cert.algebraic_Kernel4Ideal_Reference4Ideal := by
  intro m g m' g' _ hargs
  refine ⟨fun c => grad (argA m c) (argB m c), ?_, ?_⟩
  · exact (θ_run Cert.Kernel4Ideal.defs _ _).mono (fun r h c => ⟨(h c).1.trans (final m c), (h c).2⟩)
      (Cert.Kernel4Ideal.Value.run_blocks m g)
  · refine (θ_run Cert.Reference4Ideal.defs _ _).mono (fun r h c => ⟨(h c).1.trans ?_, (h c).2⟩)
      (Cert.Reference4Ideal.Value.run (F := Ideal) m' g')
    rw [(hargs c).1, (hargs c).2]
    funext y
    rw [eq_ix2 y]
    exact Cert.Reference4Ideal.Weights.plain _ _ _ _

end Cert.Proof.Third
end
-- ==== Proof.Weights.Fourth.lean ====
module

public import proofs.«01_k».proof.Proof.Weights.Sums
public import proofs.«01_k».proof.Proof.Gen.Kernel5Ideal.Value
public import proofs.«01_k».proof.Proof.Gen.Reference5Ideal.Run
public import Idealize.ShloMosaic.PureOps.IdealRules
public import Idealize.ShloMosaic.Lib.Pointwise
public import Idealize.ShloMosaic.Lib.Pipeline.ValueKit
public import Idealize.ShloMosaic.Lib.Tactic

/-! The gradient of the attention's query weight: it is summed over the rows in four
    blocks of 4096, which is the sum over all rows. -/

@[expose] public section
set_option maxRecDepth 16384
noncomputable section
namespace Cert.Kernel5Ideal.Weights

open Idealize.ShloMosaic Idealize.ShloMosaic.TcCoe Idealize.SL.Sem
open Cert.Kernel5Ideal Cert.Kernel5Ideal.Gen Cert.Weights

section
variable {F : FTy → Type} [FloatOps F]

theorem hz2 : (![0, 0] : Fin 2 → Nat) = fun _ => 0 := funext fun a => by fin_cases a <;> rfl

variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole)
  (x : Vec F S4096x1024 .bf16) (y : Vec F S4096x1024 .bf16) (s : Vec F S1024x1024 .f32)

/-- The first block starts from zero. -/
theorem first (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S4096x1024) hz2]

/-- A later block adds to what the blocks before it left. -/
theorem middle (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  sl_unfold_words
  rw [View.canon_unit_zero hz2]
  simp only [View.readAt_eq_ld, h3.read_unread, h4.read_unread, h6.read_unread, View.ld_unit_zero (S := S4096x1024) hz2, View.ld_unit_zero (S := S1024x1024) hz2]

theorem last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz2]
  simp only [View.readAt_eq_ld, h3.read_unread, h4.read_unread, h6.read_unread, View.ld_unit_zero (S := S4096x1024) hz2, View.ld_unit_zero (S := S1024x1024) hz2]

/-- The last block writes the sum out. -/
theorem written (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz2, View.readCov_unit_zero (S := S1024x1024) _ hz2]
  simp only [View.readAt_eq_ld, h3.read_unread, h4.read_unread, h6.read_unread, View.ld_unit_zero (S := S4096x1024) hz2, View.ld_unit_zero (S := S1024x1024) hz2]
end

theorem pay1_at (i j : Fin 1024) : k0_pay1 (F := Ideal) (ix2 i j) = 0 := by
  pointwise [k0_pay1]

theorem pay2_at (s : Vec Ideal S1024x1024 .f32) (x : Vec Ideal S4096x1024 .bf16) (y : Vec Ideal S4096x1024 .bf16)
    (i j : Fin 1024) : k0_pay2 s x y (ix2 i j) = s (ix2 i j) + ∑ k, x (ix2 k i) * y (ix2 k j) := by
  pointwise [k0_pay2]

theorem pay3_at (s : Vec Ideal S1024x1024 .f32) (i j : Fin 1024) : k0_pay3 s (ix2 i j) = s (ix2 i j) := by
  pointwise [k0_pay3]

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- The row a block's row `s` is. -/
def rowOf (t : Fin cfg0.N) (s : Fin 4096) : Fin 16384 := ⟨4096 * (t.val % 4) + s.val, by have := Nat.mod_lt t.val (show 0 < 4 by decide); omega⟩

variable (m : (ℓ : Loc nD τ sig) → Buf (Elt Ideal) ℓ) (c : Dev nD) (t : Fin cfg0.N)

theorem read0 (X : FVec Ideal S16384x1024 .bf16) (s : Fin 4096) (i : Fin 1024) :
    ((cfg0.win 0).blk t).view.read (Elt Ideal) X (ix2 s i) = X (ix2 (rowOf t s) i) := by
  blk_ext [idx0 t, rowOf]

theorem read1 (X : FVec Ideal S16384x1024 .bf16) (s : Fin 4096) (j : Fin 1024) :
    ((cfg0.win 1).blk t).view.read (Elt Ideal) X (ix2 s j) = X (ix2 (rowOf t s) j) := by
  blk_ext [idx1 t, rowOf]

theorem place2 (i j : Fin 1024) : ((cfg0.win 2).blk t).view.emb (ix2 i j) = ix2 i j := by
  blk_ext [idx2 t]

/-- The summand of one entry of the gradient. -/
def term (A : FVec Ideal S16384x1024 .bf16) (B : FVec Ideal S16384x1024 .bf16) (i j : Fin 1024)
    (k : Fin 16384) : EReal := A (ix2 k i) * B (ix2 k j)

/-- The gradient. -/
def grad (A : FVec Ideal S16384x1024 .bf16) (B : FVec Ideal S16384x1024 .bf16) : FVec Ideal S1024x1024 .bf16 :=
  fun y => ∑ k, term A B (y 0) (y 1) k

abbrev argA : FVec Ideal S16384x1024 .bf16 := m ((c.tc : Thread nD τ).loc main_arg0)
abbrev argB : FVec Ideal S16384x1024 .bf16 := m ((c.tc : Thread nD τ).loc main_arg1)

theorem step_at (acc : Vec Ideal S1024x1024 .f32) (i j : Fin 1024) :
    k0_pay2 acc (iblk m c 0 t) (iblk m c 1 t) (ix2 i j)
      = acc (ix2 i j) + block (term (argA m c) (argB m c) i j) 4096 (t.val % 4) := by
  rw [pay2_at]
  congr 1
  refine Finset.sum_congr rfl fun s _ => ?_
  have e0 : iblk m c 0 t (ix2 s i) = argA m c (ix2 (rowOf t s) i) :=
    (read0 t (V m c main_arg0) s i).trans (congrFun (V_main_arg0 m c) _)
  have e1 : iblk m c 1 t (ix2 s j) = argB m c (ix2 (rowOf t s) j) :=
    (read1 t (V m c main_arg1) s j).trans (congrFun (V_main_arg1 m c) _)
  refine Eq.trans (b := term (argA m c) (argB m c) i j (rowOf t s)) ?_ (atRow_of _ _ (rowOf t s).isLt).symm
  exact congrArg₂ (fun a b : EReal => a * b) e0 e1

/-- The sum carried after a grid point. -/
theorem carried (i j : Fin 1024) : ∀ (n : ℕ) (h : n < cfg0.N), (outsAt0 m c n h).2 (ix2 i j)
    = ∑ b ∈ Finset.range (n % 4 + 1), block (term (argA m c) (argB m c) i j) 4096 b := by
  intro n
  induction n with
  | zero =>
    intro h
    rw [outsAt0_A m c ⟨0, h⟩ rfl (by dsimp only; omega)]
    dsimp only
    rw [first, step_at, pay1_at]
    simp
  | succ n ih =>
    intro h
    by_cases h0 : (n + 1) % 4 = 0
    · rw [outsAt0_A m c ⟨n + 1, h⟩ h0 (by dsimp only; omega)]
      dsimp only
      rw [first, step_at, pay1_at]
      dsimp only
      rw [h0]
      simp
    · have hm : (n + 1) % 4 = n % 4 + 1 := by omega
      have hs : (outsAt0 m c (n + 1) h).2 = k0_pay2 (outsAt0 m c n (Nat.lt_of_succ_lt h)).2 (iblk m c 0 ⟨n + 1, h⟩) (iblk m c 1 ⟨n + 1, h⟩) := by
        by_cases h1 : (n + 1) % 4 = 3
        · rw [outsAt0_C m c ⟨n + 1, h⟩ h0 h1]
          dsimp only
          rw [last]
          rfl
        · rw [outsAt0_B m c ⟨n + 1, h⟩ h0 h1]
          dsimp only
          rw [middle]
          rfl
      rw [hs, step_at, ih, hm, Finset.sum_range_succ _ (n % 4 + 1)]

theorem after_at (i j : Fin 1024) (h3 : t.val % 4 = 3) :
    (outsAt0 m c t.val t.isLt).1 (ix2 i j) = grad (argA m c) (argB m c) (ix2 i j) := by
  have h0 : ¬t.val % 4 = 0 := by omega
  have hs : (outsAt0 m c t.val t.isLt).1 (ix2 i j) = (outsAt0 m c t.val t.isLt).2 (ix2 i j) := by
    rw [outsAt0_C m c t h0 h3]
    dsimp only
    rw [written, last, pay3_at]
  rw [hs, carried, h3, grad, sum_blocks _ 4096 4 rfl]
  rfl

theorem final : (dats m 0 c).arrAt 2 cfg0.N = grad (argA m c) (argB m c) :=
  (dats m 0 c).arrAt_eq_of_covers 2 (grad (argA m c) (argB m c)) (by decide +kernel) fun t hf y => by
    obtain ⟨i, j, rfl⟩ : ∃ (i j : Fin 1024), y = ix2 i j :=
      ⟨y 0, y 1, eq_ix2 y⟩
    refine Eq.trans ?_ (congrArg (grad (argA m c) (argB m c)) (place2 t i j)).symm
    refine (congrFun (congrArg Prod.fst ?_) _).trans (after_at m c t i j ((flush0_2 t).mp hf))
    rfl

end Cert.Kernel5Ideal.Weights
end
-- ==== Proof.Weights.FourthPlain.lean ====
module

public import proofs.«01_k».proof.Proof.Gen.Reference5Ideal.Run
public import Idealize.ShloMosaic.PureOps.IdealRules
public import Idealize.ShloMosaic.Lib.Pointwise

/-! The derivative of the attention's query product with respect to its weight, read entry by entry. -/

@[expose] public section
set_option maxRecDepth 16384
noncomputable section
namespace Cert.Reference5Ideal.Weights

open Idealize.ShloMosaic Cert.Reference5Ideal Cert.Reference5Ideal.Gen

/-- The reference's result at one entry is the sum over the rows. -/
theorem plain (A : FVec Ideal S16384x1024 .bf16) (B : FVec Ideal S16384x1024 .bf16) (i j : Fin 1024) :
    (truncf .bf16 (transpose S1024x1024 [1, 0] (Host.dotGeneral dot_S16384x1024_S16384x1024_S1024x1024_0_0_1_1_n_n none (extf .f32 B bitsLt_bf16_f32) (extf .f32 A bitsLt_bf16_f32)) transposes_S1024x1024_S1024x1024_1_0) bitsLt_bf16_f32 :
      FVec Ideal S1024x1024 .bf16) (ix2 i j) = ∑ k, A (ix2 k i) * B (ix2 k j) := by
  pointwise []
  exact Finset.sum_congr rfl fun k _ => mul_comm _ _

end Cert.Reference5Ideal.Weights
end
-- ==== Proof.Weights.FourthEqual.lean ====
module

public import proofs.«01_k».proof.Defs
public import proofs.«01_k».proof.Proof.Weights.Fourth
public import proofs.«01_k».proof.Proof.Weights.FourthPlain
public import proofs.«01_k».proof.Proof.Gen.Kernel5.Frame

/-! The claims for the gradient of the attention's query weight. -/

@[expose] public section
set_option maxRecDepth 16384
noncomputable section
namespace Cert.Proof.Fourth

open Idealize.ShloMosaic Idealize.ShloMosaic.TcCoe Idealize.SL.Sem
open Cert.Kernel5Ideal.Weights

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Nothing is rewritten in the idealized kernel. -/
theorem preserves : Cert.preserves_Kernel5_Kernel5Ideal := trivial

/-- The kernel and the reference leave the same gradient. -/
theorem algebraic : Cert.algebraic_Kernel5Ideal_Reference5Ideal := by
  intro m g m' g' _ hargs
  refine ⟨fun c => grad (argA m c) (argB m c), ?_, ?_⟩
  · exact (θ_run Cert.Kernel5Ideal.defs _ _).mono (fun r h c => ⟨(h c).1.trans (final m c), (h c).2⟩)
      (Cert.Kernel5Ideal.Value.run_blocks m g)
  · refine (θ_run Cert.Reference5Ideal.defs _ _).mono (fun r h c => ⟨(h c).1.trans ?_, (h c).2⟩)
      (Cert.Reference5Ideal.Value.run (F := Ideal) m' g')
    rw [(hargs c).1, (hargs c).2]
    funext y
    rw [eq_ix2 y]
    exact Cert.Reference5Ideal.Weights.plain _ _ _ _

end Cert.Proof.Fourth
end
-- ==== Proof.Forward.Host.lean ====
module

public import proofs.«01_k».proof.Proof.Value.Host
public import proofs.«01_k».proof.Proof.Gen.Kernel6Ideal.Frame

/-! What the forward program computes before the launch: the queries scaled for base 2, and the values with ones in one
    lane of each head. -/

@[expose] public section
set_option maxRecDepth 16384
noncomputable section
namespace Cert.Forward

open Idealize.ShloMosaic Idealize.ShloMosaic.TcCoe
open Cert.Kernel6Ideal Cert.Kernel6Ideal.Gen Cert.Reals Cert.Plain

/-- The width of a head, as a divisor. -/
def width : IVec S_ 32 :=
  select (cmpi .eq (id (constantI S_ 32 128#32)) (constantI S_ 32 0#32)) (constantI S_ 32 1#32) (id (constantI S_ 32 128#32))

/-- The remainders by it. -/
def rems : IVec S1024 32 := Host.remsi (iotaInDim S1024 32 0) (broadcastInDim S1024 ![] bcast_S_S1024 width)

/-- The lanes that hold ones: lane 64 of each head. -/
def isOne : IVec S1024 1 :=
  cmpi .eq
    (select
      (andi (cmpi .ne (cmpi .slt rems (broadcastInDim S1024 ![] bcast_S_S1024 (constantI S_ 32 0#32)))
          (broadcastInDim S1024 ![] bcast_S_S1024 (cmpi .slt width (constantI S_ 32 0#32))))
        (cmpi .ne rems (broadcastInDim S1024 ![] bcast_S_S1024 (constantI S_ 32 0#32))))
      (addi rems (broadcastInDim S1024 ![] bcast_S_S1024 width)) rems)
    (broadcastInDim S1024 ![] bcast_S_S1024 (constantI S_ 32 64#32))

/-- An array with the ones. -/
def ones (x : FVec Ideal S16384x1024 .f32) : FVec Ideal S16384x1024 .f32 :=
  select (broadcastInDim S16384x1024 ![1] bcast_S1024_S16384x1024_1 isOne)
    (broadcastInDim S16384x1024 ![] bcast_S_S16384x1024 (id (constant S_ .f32 0x3F800000#32))) x

/-- The values with the ones, narrowed. -/
def onesArr (v : FVec Ideal S16384x1024 .bf16) : FVec Ideal S16384x1024 .bf16 := truncf .bf16 (ones (wide v)) bitsLt_bf16_f32

theorem isOne_at : ∀ h : Fin 8, isOne (ix1 (lane h 64)) = 1#1 := by decide +kernel

/-- An array of reals with the ones. -/
def withOnes (C : Fin 16384 → Fin 1024 → ℝ) (i : Fin 16384) (l : Fin 1024) : ℝ := if isOne (ix1 l) = 1#1 then 1 else C i l

theorem withOnes_at (C : Fin 16384 → Fin 1024 → ℝ) (h : Fin 8) (j : Fin 16384) : hd (withOnes C) h j 64 = 1 :=
  if_pos (isOne_at h)

/-- The literal one. -/
theorem one_eq : Ideal.ofBits .f32 0x3F800000#32 = ((1 : ℝ) : EReal) := by
  simp [Ideal.ofBits, Ideal.ieee, -EReal.coe_mul]; norm_num

section one
variable {v : FVec Ideal S16384x1024 .bf16} {C : Fin 16384 → Fin 1024 → ℝ}

theorem ones_real {x : FVec Ideal S16384x1024 .f32} (hx : ∀ i l, x (ix2 i l) = (C i l : EReal)) (i : Fin 16384) (l : Fin 1024) :
    ones x (ix2 i l) = ((withOnes C i l : ℝ) : EReal) := by
  pointwise [ones]
  rw [hx, withOnes]
  by_cases h : isOne (ix1 l) = 1#1
  · rw [if_pos h, h]; exact one_eq
  · rw [if_neg h]
    exact if_neg h

theorem onesArr_real (hv : ∀ i l, v (ix2 i l) = (C i l : EReal)) (i : Fin 16384) (l : Fin 1024) :
    onesArr v (ix2 i l) = ((withOnes C i l : ℝ) : EReal) := by
  pointwise [onesArr]
  exact ones_real (fun i l => (wide_at v i l).trans (hv i l)) i l
end one

section V
variable (m : (ℓ : Loc nD τ sig) → Buf (Elt Ideal) ℓ) (c : Dev nD)

theorem V_q : V m c main_v7 = Cert.KernelIdeal.Attn.qpArr (scaled (m ((c.tc : Thread nD τ).loc main_arg0))) := by
  simp only [V, hostOps0, hostOps0_1, hostOps0_2, hostOps0_3, hostOps0_4, List.flatten_cons, List.flatten_nil,
    List.append_nil, List.cons_append, List.nil_append, StableHlo.TRef.nullary, StableHlo.TRef.unary, StableHlo.TRef.binary,
    StableHlo.TRef.ternary]
  after_results_simp
  rfl

theorem V_v : V m c main_v14 = onesArr (m ((c.tc : Thread nD τ).loc main_arg2)) := by
  simp only [V, hostOps0, hostOps0_1, hostOps0_2, hostOps0_3, hostOps0_4, List.flatten_cons, List.flatten_nil,
    List.append_nil, List.cons_append, List.nil_append, StableHlo.TRef.nullary, StableHlo.TRef.unary, StableHlo.TRef.binary,
    StableHlo.TRef.ternary]
  after_results_simp
  simp only [StableHlo.TRef.toBuf, StableHlo.TRef.ofBuf, cast_eq]
  rfl
end V
end Cert.Forward
end
-- ==== Proof.Forward.Online.lean ====
module

public import proofs.«01_k».proof.Proof.Value.Softmax

/-! One row of the attention taken block by block: the greatest score so far in base 2, and the sums of the values
    weighted by the exponentials less it. -/

@[expose] public section
noncomputable section
namespace Cert.Online

open Idealize.ShloMosaic Finset Cert.Reals

variable (Q K V : Fin 16384 → Fin 128 → ℝ) (i : Fin 16384)

/-- One block of a row: the greatest score and the sums after it. -/
def rowMax (m : EReal) (s : Fin 512 → EReal) : EReal := max m (Finset.fold max ⊥ s univ)

def rowAcc (m : EReal) (a : Fin 128 → EReal) (s : Fin 512 → EReal) (v : Fin 512 → Fin 128 → EReal) (d : Fin 128) : EReal :=
  Ideal.exp2 (m - rowMax m s) * a d + ∑ j, Ideal.exp2 (s j - rowMax m s) * v j d

/-- The sums over the first `n` blocks, the exponentials taken less `M`. -/
def sums (M : ℝ) (n : ℕ) (d : Fin 128) : ℝ := ∑ b ∈ range n, blk (fun j => shifted Q K M i j * V j d) b

/-- What a row carries after `n` blocks. -/
def State (n : ℕ) (m : EReal) (a : Fin 128 → EReal) : Prop :=
  (n = 0 ∧ m = ⊥ ∧ ∀ d, a d = 0) ∨ ∃ M : ℝ, m = (M : EReal) ∧ ∀ d, a d = (sums Q K V i (M * Real.log 2) n d : ℝ)

theorem log2_ne : Real.log 2 ≠ 0 := (Real.log_pos one_lt_two).ne'

theorem two_pow (x : ℝ) : Real.rpow 2 x = Real.exp (Real.log 2 * x) := Real.rpow_def_of_pos two_pos x

/-- A score in base 2, with the greatest taken off. -/
theorem exp2_score (M : ℝ) (j : Fin 16384) (x : EReal)
    (hx : x = if j ≤ i then ((score Q K i j * (1 / Real.log 2) : ℝ) : EReal) else ⊥) :
    Ideal.exp2 (x - (M : EReal)) = ((shifted Q K (M * Real.log 2) i j : ℝ) : EReal) := by
  have hl := log2_ne
  rw [hx, shifted]
  split
  · rw [← EReal.coe_sub, Ideal.exp2_coe, two_pow]
    congr 2
    field_simp
  · rw [EReal.bot_sub, Ideal.exp2_bot]; rfl

/-- Another number taken off. -/
theorem sums_shift (M M' : ℝ) (n : ℕ) (d : Fin 128) :
    Real.rpow 2 (M - M') * sums Q K V i (M * Real.log 2) n d = sums Q K V i (M' * Real.log 2) n d := by
  have e : ∀ j, Real.rpow 2 (M - M') * (shifted Q K (M * Real.log 2) i j * V j d) = shifted Q K (M' * Real.log 2) i j * V j d := by
    intro j
    rw [shifted_eq, shifted_eq, two_pow]
    have : Real.exp (-(M' * Real.log 2)) = Real.exp (Real.log 2 * (M - M')) * Real.exp (-(M * Real.log 2)) := by
      rw [← Real.exp_add]; congr 1; ring
    rw [this]; ring
  rw [sums, sums, mul_sum]
  refine sum_congr rfl fun b _ => ?_
  unfold blk
  split
  · rw [mul_sum]; exact sum_congr rfl fun s _ => e _
  · exact mul_zero _

theorem fold_real (s : Fin 512 → EReal) (b : ℕ) (hb : b < 32) (hi : 512 * b ≤ i.val)
    (hs : ∀ j, s j = if at_ b hb j ≤ i then ((score Q K i (at_ b hb j) * (1 / Real.log 2) : ℝ) : EReal) else ⊥) :
    ∃ S : ℝ, Finset.fold max ⊥ s univ = (S : EReal) := by
  refine Cert.Plain.fold_max_real s (fun j => ?_) 0 ?_
  · rw [hs]; split
    · exact EReal.coe_ne_top _
    · exact bot_ne_top
  · rw [hs, if_pos (show at_ b hb 0 ≤ i from hi)]; exact EReal.coe_ne_bot _

/-- One more block. -/
theorem step {m : EReal} {a : Fin 128 → EReal} {s : Fin 512 → EReal} {v : Fin 512 → Fin 128 → EReal} (b : ℕ) (hb : b < 32)
    (hi : 512 * b ≤ i.val)
    (hs : ∀ j, s j = if at_ b hb j ≤ i then ((score Q K i (at_ b hb j) * (1 / Real.log 2) : ℝ) : EReal) else ⊥)
    (hv : ∀ j d, v j d = (V (at_ b hb j) d : EReal)) (h : State Q K V i b m a) :
    State Q K V i (b + 1) (rowMax m s) (rowAcc m a s v) := by
  obtain ⟨S, hS⟩ := fold_real Q K i s b hb hi hs
  have part : ∀ (M : ℝ) (d : Fin 128), ∑ j, Ideal.exp2 (s j - (M : EReal)) * v j d
      = ((blk (fun j => shifted Q K (M * Real.log 2) i j * V j d) b : ℝ) : EReal) := by
    intro M d
    rw [blk_of _ hb, coe_sum]
    refine sum_congr rfl fun j _ => ?_
    rw [exp2_score Q K i M (at_ b hb j) (s j) (hs j), hv, EReal.coe_mul]
  rcases h with ⟨rfl, rfl, h0⟩ | ⟨M, rfl, hM⟩
  · have e : rowMax ⊥ s = (S : EReal) := by rw [rowMax, hS]; exact max_eq_right bot_le
    refine Or.inr ⟨S, e, fun d => ?_⟩
    rw [rowAcc, e, h0, part, mul_zero, zero_add, sums, sum_range_one]
  · have e : rowMax (M : EReal) s = ((max M S : ℝ) : EReal) := by rw [rowMax, hS]; exact (EReal.coe_strictMono.monotone.map_max).symm
    refine Or.inr ⟨max M S, e, fun d => ?_⟩
    rw [rowAcc, e, hM, part, ← EReal.coe_sub, Ideal.exp2_coe, ← EReal.coe_mul, sums_shift, ← EReal.coe_add, sums, sums,
      sum_range_succ]

/-- After the blocks up to the row's own, the sums are over all positions. -/
theorem whole (n : ℕ) (hn : n ≤ 32) (hi : i.val < 512 * n) (M : ℝ) (d : Fin 128) :
    sums Q K V i M n d = ∑ j, shifted Q K M i j * V j d := by
  rw [sum_blk, sums]
  refine sum_subset (range_subset_range.mpr hn) fun b _ hb => ?_
  have hb' : n ≤ b := by simpa using hb
  refine blk_zero _ _ fun h s => ?_
  have : ¬at_ b h s ≤ i := by
    rw [not_le, Fin.lt_def]
    show i.val < 512 * b + s.val
    have := Nat.mul_le_mul_left 512 hb'
    omega
  rw [shifted, if_neg this, zero_mul]

/-- The logarithm of a row's weights does not depend on what is taken off. -/
theorem log_total (M : ℝ) : M + Real.log (∑ j, shifted Q K M i j) = Real.log (total Q K i) := by
  rw [shifted_sum, Real.log_mul (total_pos Q K i).ne' (Real.exp_pos _).ne', Real.log_exp]
  ring

section final
variable {Q K V i} {n : ℕ} (h0 : 0 < n) (hn : n ≤ 32) (hi : i.val < 512 * n) (hV : ∀ j, V j 64 = 1)
  {m : EReal} {a : Fin 128 → EReal} (h : State Q K V i n m a)
include h0 hn hi hV h

/-- The output is the sums over the sum of the exponentials, which is lane 64's. -/
theorem output (d : Fin 128) : Ideal.div (a d) (a 64) = ((out Q K V i d : ℝ) : EReal) := by
  obtain ⟨rfl, _⟩ | ⟨M, -, hM⟩ := h
  · exact absurd h0 (lt_irrefl _)
  · have hs := shifted_sum_pos Q K (M * Real.log 2) i
    rw [hM, hM, whole Q K V i n hn hi, whole Q K V i n hn hi]
    simp only [hV, mul_one]
    rw [Cert.Plain.div_real hs.ne', out, sum_div]
    refine congrArg (fun x : ℝ => (x : EReal)) (sum_congr rfl fun j _ => ?_)
    rw [← shifted_div Q K (M * Real.log 2)]
    ring

/-- The row's log-sum in base 2. -/
theorem logsum : m + Ideal.log (a 64) * ((1 / Real.log 2 : ℝ) : EReal) = ((Real.log (total Q K i) * (1 / Real.log 2) : ℝ) : EReal) := by
  obtain ⟨rfl, _⟩ | ⟨M, rfl, hM⟩ := h
  · exact absurd h0 (lt_irrefl _)
  · have hs := shifted_sum_pos Q K (M * Real.log 2) i
    rw [hM, whole Q K V i n hn hi]
    simp only [hV, mul_one]
    rw [Ideal.log_coe, if_neg (not_le.mpr hs), ← EReal.coe_mul, ← EReal.coe_add, ← log_total Q K i (M * Real.log 2)]
    refine congrArg (fun x : ℝ => (x : EReal)) ?_
    generalize Real.log _ = L
    have := log2_ne
    field_simp

end final

end Cert.Online
end
-- ==== Proof.Forward.Block.lean ====
module

public import proofs.«01_k».proof.Proof.Forward.Online
public import proofs.«01_k».proof.Proof.Value.Steps
public import proofs.«01_k».proof.Proof.Gen.Kernel6Ideal.Skeleton
public import Idealize.ShloMosaic.Lib.VecWindow

/-! One block of keys of the attention, on the vectors its buffers hold: each row's greatest score and sums go on as in
    `Online`. -/

@[expose] public section
set_option maxRecDepth 16384
noncomputable section
namespace Cert.Forward

open Idealize.ShloMosaic Idealize.ShloMosaic.TcCoe
open Cert.Kernel6Ideal Cert.Kernel6Ideal.Gen Cert.Reals

section any
variable {F : FTy → Type} [FloatOps F] [Named F]

/-- The rows' greatest scores so far and their sums. -/
abbrev Carry (F : FTy → Type) [FloatOps F] : Type := FVec F S512x1 .f32 × FVec F S512x128 .f32

theorem rows_inb {n : ℕ} (h : n < 32) : ∀ a, (![512 * n, 0] : Fin 2 → ℕ) a + S512x128.size a ≤ S16384x128.size a := by
  intro a; fin_cases a <;> simp [S512x128, S16384x128] <;> omega

/-- Rows `512 n` to `512 n + 511`. -/
def rows {e : EltTy} (x : Vec F S16384x128 e) (n : ℕ) (h : n < 32) : Vec F S512x128 e :=
  VecWindow.window x (![512 * n, 0] : Fin 2 → ℕ) S512x128.size (rows_inb h)

variable (q : FVec F S512x128 .bf16) (x1 x2 : Vec F S16384x128 .bf16)

/-- A block before the diagonal. -/
def vstep (n : ℕ) (s : Carry F) : Carry F :=
  if h : n < 32 then (k0_pay190 q s.1 (rows x1 n h), k0_pay191 q s.1 s.2 (rows x1 n h) (rows x2 n h)) else s

/-- `m` blocks from block `b` on. -/
def vsteps (b : ℕ) (s : Carry F) : ℕ → Carry F
  | 0 => s
  | m + 1 => vstep q x1 x2 (b + m) (vsteps b s m)

theorem vsteps_add (b : ℕ) (s : Carry F) (m k : ℕ) :
    vsteps q x1 x2 b s (m + k) = vsteps q x1 x2 (b + m) (vsteps q x1 x2 b s m) k := by
  induction k with
  | zero => rfl
  | succ k ih => rw [← Nat.add_assoc, vsteps, ih, vsteps, Nat.add_assoc]

end any

theorem rows_at {e : EltTy} (x : Vec Ideal S16384x128 e) (b : ℕ) (h : b < 32) (s : Fin 512) (d : Fin 128) :
    rows x b h (ix2 s d) = x (ix2 (at_ b h s) d) := by
  refine congrArg x (funext fun a => ?_)
  match a with
  | ⟨0, _⟩ => exact Fin.ext (show 512 * b + 1 * s.val = 512 * b + s.val by omega)
  | ⟨1, _⟩ => exact Fin.ext (show 0 + 1 * d.val = d.val by omega)

/-- The mask's constant is minus infinity. -/
theorem mask_eq : (Named.named (F := Ideal) κ "mask" (φ := .f32) 0xF149F2CA#32 : Ideal .f32) = ⊥ :=
  IdealRules.named_const.ideal_named_scalar _ _ _ _ rfl

theorem log2e_eq : (Named.named (F := Ideal) κ "log2e" (φ := .f32) 0x3FB8AA3B#32 : Ideal .f32) = (((Real.log 2)⁻¹ : ℝ) : EReal) :=
  IdealRules.named_const.ideal_named_scalar _ _ _ _ rfl

section at_
variable (q : FVec Ideal S512x128 .bf16) (m : FVec Ideal S512x1 .f32) (a : FVec Ideal S512x128 .f32)
  (k v : Vec Ideal S512x128 .bf16)

/-- The block's scores. -/
def sc (r : Fin 512) (j : Fin 512) : EReal := ∑ d, q (ix2 r d) * k (ix2 j d)

theorem max_at (r : Fin 512) : k0_pay190 q m k (ix2 r 0) = Online.rowMax (m (ix2 r 0)) (sc q k r) := by
  pointwise [k0_pay190, k0_pay189]
  rfl

theorem acc_at (r : Fin 512) (d : Fin 128) : k0_pay191 q m a k v (ix2 r d)
    = Online.rowAcc (m (ix2 r 0)) (fun d => a (ix2 r d)) (sc q k r) (fun j d => v (ix2 j d)) d := by
  pointwise [k0_pay191, k0_pay190, k0_pay189]
  rfl
end at_

end Cert.Forward
end
-- ==== Proof.Forward.Offs.lean ====
module

public import proofs.«01_k».proof.Proof.Gen.Kernel6Ideal

@[expose] public section

/-! The trip counts of the forward kernel's loops and the offsets of its accesses, in closed form. With `n` key blocks
before the diagonal one, the loop unrolled 16 times makes `n / 16` trips, the one unrolled 8 times `n % 16 / 8`, the one
unrolled 4 times `n % 8 / 4`, the one unrolled 2 times `n % 4 / 2` and the last one `n % 2`; the five remainder loops
make none. -/

set_option maxRecDepth 16384
-- each of these closed forms is decided over the whole grid: one at a time
set_option Elab.async false

namespace Cert.Forward

open Idealize.ShloMosaic Idealize.ShloMosaic.TcCoe Cert.Kernel6Ideal Cert.Kernel6Ideal.Gen

theorem trips1 : ∀ i : grid0.Coords, (k0_t1_loop i).trips = (i 1).val / 16 := by decide +kernel
theorem trips2 : ∀ i : grid0.Coords, (k0_t2_loop i).trips = 0 := by decide +kernel
theorem trips3 : ∀ i : grid0.Coords, (k0_t3_loop i).trips = (i 1).val % 16 / 8 := by decide +kernel
theorem trips4 : ∀ i : grid0.Coords, (k0_t4_loop i).trips = 0 := by decide +kernel
theorem trips5 : ∀ i : grid0.Coords, (k0_t5_loop i).trips = (i 1).val % 8 / 4 := by decide +kernel
theorem trips6 : ∀ i : grid0.Coords, (k0_t6_loop i).trips = 0 := by decide +kernel
theorem trips7 : ∀ i : grid0.Coords, (k0_t7_loop i).trips = (i 1).val % 4 / 2 := by decide +kernel
theorem trips8 : ∀ i : grid0.Coords, (k0_t8_loop i).trips = 0 := by decide +kernel
theorem trips9 : ∀ i : grid0.Coords, (k0_t9_loop i).trips = (i 1).val % 2 := by decide +kernel
theorem trips10 : ∀ i : grid0.Coords, (k0_t10_loop i).trips = 0 := by decide +kernel

theorem off1 : ∀ (i : grid0.Coords) (t : Fin (k0_t1_loop i).trips) (r : Fin 16),
    k0_off1 i t (BitVec.ofNat 32 r.val) = ![512 * (16 * t.val + r.val), 0] := by decide +kernel
theorem off3 : ∀ (i : grid0.Coords) (t : Fin (k0_t3_loop i).trips) (r : Fin 8),
    k0_off3 i t (BitVec.ofNat 32 r.val) = ![512 * (16 * ((i 1).val / 16) + 8 * t.val + r.val), 0] := by decide +kernel
theorem off5 : ∀ (i : grid0.Coords) (t : Fin (k0_t5_loop i).trips) (r : Fin 4),
    k0_off5 i t (BitVec.ofNat 32 r.val) = ![512 * (8 * ((i 1).val / 8) + 4 * t.val + r.val), 0] := by decide +kernel
theorem off7 : ∀ (i : grid0.Coords) (t : Fin (k0_t7_loop i).trips) (r : Fin 2),
    k0_off7 i t (BitVec.ofNat 32 r.val) = ![512 * (4 * ((i 1).val / 4) + 2 * t.val + r.val), 0] := by decide +kernel
theorem off9 : ∀ (i : grid0.Coords) (t : Fin (k0_t9_loop i).trips),
    k0_off9 i t = ![512 * (2 * ((i 1).val / 2) + t.val), 0] := by decide +kernel
theorem off11 : ∀ i : grid0.Coords, k0_off11 i = ![512 * (i 1).val, 0] := by decide +kernel

end Cert.Forward

end
-- ==== Proof.Forward.Loops.lean ====
module

public import proofs.«01_k».proof.Proof.Forward.Block
public import proofs.«01_k».proof.Proof.Forward.Offs
public import proofs.«01_k».proof.Proof.Gen.Kernel6Ideal.Loops
public import Idealize.ShloMosaic.Lib.Exec
public import Idealize.ShloMosaic.Lib.Tactic
public import Idealize.ShloMosaic.Lib.Pipeline.Kit

/-! The unrolled loops over the key blocks before the diagonal, each as the same step repeated. -/

@[expose] public section
set_option maxRecDepth 16384
set_option maxHeartbeats 4000000
noncomputable section
namespace Cert.Forward

open Idealize.ShloMosaic Idealize.ShloMosaic.TcCoe
open Cert.Kernel6Ideal Cert.Kernel6Ideal.Gen

variable {F : FTy → Type} [FloatOps F] [Named F]

section step

variable (arg3 arg4 : Memref sig .tc .vmem S16384x128 .bf16) (q : FVec F S512x128 .bf16)
  (X3 : BufTy.Contents (Elt F) arg3.view.ty) (X4 : BufTy.Contents (Elt F) arg4.view.ty)

/-- The block whose rows start at `off`. -/
def stepAt (off : Fin 2 → ℕ) (h : ∀ a, off a + S512x128.size a ≤ S16384x128.size a) (s : Carry F) : Carry F :=
  (k0_pay190 q s.1 (View.readAt (Elt F) arg3.view (Rect.unit (s := S16384x128) off S512x128.size h).toLoadRect X3),
    k0_pay191 q s.1 s.2 (View.readAt (Elt F) arg3.view (Rect.unit (s := S16384x128) off S512x128.size h).toLoadRect X3)
      (View.readAt (Elt F) arg4.view (Rect.unit (s := S16384x128) off S512x128.size h).toLoadRect X4))

theorem stepAt_eq {off : Fin 2 → ℕ} (h : ∀ a, off a + S512x128.size a ≤ S16384x128.size a) (s : Carry F)
    (n : ℕ) (e : off = ![512 * n, 0]) :
    stepAt arg3 arg4 q X3 X4 off h s = vstep q (arg3.view.read (Elt F) X3) (arg4.view.read (Elt F) X4) n s := by
  subst e
  have hn : n < 32 := by
    have := h 0
    simp [S512x128, S16384x128] at this
    omega
  rw [vstep, dif_pos hn, stepAt, View.readAt_unit _ X3 _ rfl (rows_inb hn), View.readAt_unit _ X4 _ rfl (rows_inb hn)]
  rfl

end step

/-- Trips of `u` blocks each, one after the other. -/
theorem chain (q : FVec F S512x128 .bf16) (x1 x2 : Vec F S16384x128 .bf16) (b u T : ℕ) (f : ℕ → Carry F)
    (hf : ∀ k, k < T → f (k + 1) = vsteps q x1 x2 (b + u * k) (f k) u) :
    ∀ k, k ≤ T → f k = vsteps q x1 x2 b (f 0) (u * k)
  | 0, _ => rfl
  | k + 1, h => by
    rw [hf k h, chain q x1 x2 b u T f hf k (by omega), ← vsteps_add, Nat.mul_succ]

section loops

variable (𝒱 : Variants) (c : Dev nD) (bd : Option 𝒱.V) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S512x128 .f32) (harg5 : arg5.IsWhole)
  (arg6 : Memref sig .tc .vmem S1x1x1x512 .f32) (harg6 : arg6.IsWhole)

/-- A trip of the loop unrolled 16 times. -/
theorem trip1 (v0 : Vec F S512x128 .bf16)
    (X3 : BufTy.Contents (Elt F) arg3.view.ty) (X4 : BufTy.Contents (Elt F) arg4.view.ty) (k : Fin (k0_t1_loop i).trips) (acc : Carry F) :
    tripR_k0_t1 𝒱 c bd i arg2 harg2 arg3 harg3 arg4 harg4 arg5 harg5 arg6 harg6 v0 X3 X4 k acc
      = vsteps (k0_pay170 v0) (arg3.view.read (Elt F) X3) (arg4.view.read (Elt F) X4) (0 + 16 * k.val) acc 16 := by
  have e : tripR_k0_t1 𝒱 c bd i arg2 harg2 arg3 harg3 arg4 harg4 arg5 harg5 arg6 harg6 v0 X3 X4 k acc
    = stepAt arg3 arg4 (k0_pay170 v0) X3 X4 _ (k0_off1_inb i k 15)
      (stepAt arg3 arg4 (k0_pay170 v0) X3 X4 _ (k0_off1_inb i k 14)
      (stepAt arg3 arg4 (k0_pay170 v0) X3 X4 _ (k0_off1_inb i k 13)
      (stepAt arg3 arg4 (k0_pay170 v0) X3 X4 _ (k0_off1_inb i k 12)
      (stepAt arg3 arg4 (k0_pay170 v0) X3 X4 _ (k0_off1_inb i k 11)
      (stepAt arg3 arg4 (k0_pay170 v0) X3 X4 _ (k0_off1_inb i k 10)
      (stepAt arg3 arg4 (k0_pay170 v0) X3 X4 _ (k0_off1_inb i k 9)
      (stepAt arg3 arg4 (k0_pay170 v0) X3 X4 _ (k0_off1_inb i k 8)
      (stepAt arg3 arg4 (k0_pay170 v0) X3 X4 _ (k0_off1_inb i k 7)
      (stepAt arg3 arg4 (k0_pay170 v0) X3 X4 _ (k0_off1_inb i k 6)
      (stepAt arg3 arg4 (k0_pay170 v0) X3 X4 _ (k0_off1_inb i k 5)
      (stepAt arg3 arg4 (k0_pay170 v0) X3 X4 _ (k0_off1_inb i k 4)
      (stepAt arg3 arg4 (k0_pay170 v0) X3 X4 _ (k0_off1_inb i k 3)
      (stepAt arg3 arg4 (k0_pay170 v0) X3 X4 _ (k0_off1_inb i k 2)
      (stepAt arg3 arg4 (k0_pay170 v0) X3 X4 _ (k0_off1_inb i k 1)
      (stepAt arg3 arg4 (k0_pay170 v0) X3 X4 _ (k0_off1_inb i k 0)
      acc))))))))))))))) := by
    unfold tripR_k0_t1 trip_k0_t1
    rfl
  rw [e, stepAt_eq _ _ _ _ _ _ _ _ (off1 i k 15), stepAt_eq _ _ _ _ _ _ _ _ (off1 i k 14), stepAt_eq _ _ _ _ _ _ _ _ (off1 i k 13), stepAt_eq _ _ _ _ _ _ _ _ (off1 i k 12), stepAt_eq _ _ _ _ _ _ _ _ (off1 i k 11), stepAt_eq _ _ _ _ _ _ _ _ (off1 i k 10), stepAt_eq _ _ _ _ _ _ _ _ (off1 i k 9), stepAt_eq _ _ _ _ _ _ _ _ (off1 i k 8), stepAt_eq _ _ _ _ _ _ _ _ (off1 i k 7), stepAt_eq _ _ _ _ _ _ _ _ (off1 i k 6), stepAt_eq _ _ _ _ _ _ _ _ (off1 i k 5), stepAt_eq _ _ _ _ _ _ _ _ (off1 i k 4), stepAt_eq _ _ _ _ _ _ _ _ (off1 i k 3), stepAt_eq _ _ _ _ _ _ _ _ (off1 i k 2), stepAt_eq _ _ _ _ _ _ _ _ (off1 i k 1), stepAt_eq _ _ _ _ _ _ _ _ (off1 i k 0)]
  rw [Nat.zero_add]
  rfl

theorem loop1 (v0 : Vec F S512x128 .bf16)
    (X3 : BufTy.Contents (Elt F) arg3.view.ty) (X4 : BufTy.Contents (Elt F) arg4.view.ty) (init : Carry F) (n : ℕ)
    (hn : n = (k0_t1_loop i).trips) :
    st_k0_t1 𝒱 c bd i arg2 harg2 arg3 harg3 arg4 harg4 arg5 harg5 arg6 harg6 v0 X3 X4 init n
      = vsteps (k0_pay170 v0) (arg3.view.read (Elt F) X3) (arg4.view.read (Elt F) X4) (0) init (16 * (k0_t1_loop i).trips) := by
  subst hn
  refine (chain (k0_pay170 v0) (arg3.view.read (Elt F) X3) (arg4.view.read (Elt F) X4) (0) 16 (k0_t1_loop i).trips
    (st_k0_t1 𝒱 c bd i arg2 harg2 arg3 harg3 arg4 harg4 arg5 harg5 arg6 harg6 v0 X3 X4 init) (fun k h => ?_) _ le_rfl).trans ?_
  · exact (st_k0_t1_succ 𝒱 c bd i arg2 harg2 arg3 harg3 arg4 harg4 arg5 harg5 arg6 harg6 v0 X3 X4 init ⟨k, h⟩).trans
      (trip1 𝒱 c bd i arg2 harg2 arg3 harg3 arg4 harg4 arg5 harg5 arg6 harg6 v0 X3 X4 ⟨k, h⟩ _)
  · rw [st_k0_t1_zero]

/-- A trip of the loop unrolled 8 times. -/
theorem trip3 (arg1 : BitVec 32) (v1 : FVec F S512x128 .bf16) (v28_0 : FVec F S512x1 .f32) (v28_1 : FVec F S512x128 .f32) (v30 v31 c8_i32 v32 v34 v36 : BitVec 32)
    (X3 : BufTy.Contents (Elt F) arg3.view.ty) (X4 : BufTy.Contents (Elt F) arg4.view.ty) (k : Fin (k0_t3_loop i).trips) (acc : Carry F) :
    tripR_k0_t3 𝒱 c bd i arg2 harg2 arg3 harg3 arg4 harg4 arg5 harg5 arg6 harg6 arg1 v1 v28_0 v28_1 v30 v31 c8_i32 v32 v34 v36 X3 X4 k acc
      = vsteps v1 (arg3.view.read (Elt F) X3) (arg4.view.read (Elt F) X4) (16 * ((i 1).val / 16) + 8 * k.val) acc 8 := by
  have e : tripR_k0_t3 𝒱 c bd i arg2 harg2 arg3 harg3 arg4 harg4 arg5 harg5 arg6 harg6 arg1 v1 v28_0 v28_1 v30 v31 c8_i32 v32 v34 v36 X3 X4 k acc
    = stepAt arg3 arg4 v1 X3 X4 _ (k0_off3_inb i k 7)
      (stepAt arg3 arg4 v1 X3 X4 _ (k0_off3_inb i k 6)
      (stepAt arg3 arg4 v1 X3 X4 _ (k0_off3_inb i k 5)
      (stepAt arg3 arg4 v1 X3 X4 _ (k0_off3_inb i k 4)
      (stepAt arg3 arg4 v1 X3 X4 _ (k0_off3_inb i k 3)
      (stepAt arg3 arg4 v1 X3 X4 _ (k0_off3_inb i k 2)
      (stepAt arg3 arg4 v1 X3 X4 _ (k0_off3_inb i k 1)
      (stepAt arg3 arg4 v1 X3 X4 _ (k0_off3_inb i k 0)
      acc))))))) := by
    unfold tripR_k0_t3 trip_k0_t3
    rfl
  rw [e, stepAt_eq _ _ _ _ _ _ _ _ (off3 i k 7), stepAt_eq _ _ _ _ _ _ _ _ (off3 i k 6), stepAt_eq _ _ _ _ _ _ _ _ (off3 i k 5), stepAt_eq _ _ _ _ _ _ _ _ (off3 i k 4), stepAt_eq _ _ _ _ _ _ _ _ (off3 i k 3), stepAt_eq _ _ _ _ _ _ _ _ (off3 i k 2), stepAt_eq _ _ _ _ _ _ _ _ (off3 i k 1), stepAt_eq _ _ _ _ _ _ _ _ (off3 i k 0)]
  rfl

theorem loop3 (arg1 : BitVec 32) (v1 : FVec F S512x128 .bf16) (v28_0 : FVec F S512x1 .f32) (v28_1 : FVec F S512x128 .f32) (v30 v31 c8_i32 v32 v34 v36 : BitVec 32)
    (X3 : BufTy.Contents (Elt F) arg3.view.ty) (X4 : BufTy.Contents (Elt F) arg4.view.ty) (init : Carry F) (n : ℕ)
    (hn : n = (k0_t3_loop i).trips) :
    st_k0_t3 𝒱 c bd i arg2 harg2 arg3 harg3 arg4 harg4 arg5 harg5 arg6 harg6 arg1 v1 v28_0 v28_1 v30 v31 c8_i32 v32 v34 v36 X3 X4 init n
      = vsteps v1 (arg3.view.read (Elt F) X3) (arg4.view.read (Elt F) X4) (16 * ((i 1).val / 16)) init (8 * (k0_t3_loop i).trips) := by
  subst hn
  refine (chain v1 (arg3.view.read (Elt F) X3) (arg4.view.read (Elt F) X4) (16 * ((i 1).val / 16)) 8 (k0_t3_loop i).trips
    (st_k0_t3 𝒱 c bd i arg2 harg2 arg3 harg3 arg4 harg4 arg5 harg5 arg6 harg6 arg1 v1 v28_0 v28_1 v30 v31 c8_i32 v32 v34 v36 X3 X4 init) (fun k h => ?_) _ le_rfl).trans ?_
  · exact (st_k0_t3_succ 𝒱 c bd i arg2 harg2 arg3 harg3 arg4 harg4 arg5 harg5 arg6 harg6 arg1 v1 v28_0 v28_1 v30 v31 c8_i32 v32 v34 v36 X3 X4 init ⟨k, h⟩).trans
      (trip3 𝒱 c bd i arg2 harg2 arg3 harg3 arg4 harg4 arg5 harg5 arg6 harg6 arg1 v1 v28_0 v28_1 v30 v31 c8_i32 v32 v34 v36 X3 X4 ⟨k, h⟩ _)
  · rw [st_k0_t3_zero]

/-- A trip of the loop unrolled 4 times. -/
theorem trip5 (arg1 : BitVec 32) (v1 : FVec F S512x128 .bf16) (v55_0 : FVec F S512x1 .f32) (v55_1 : FVec F S512x128 .f32) (v57 v75 c0_i32_30 c1_i32_31 v78 : BitVec 32)
    (X3 : BufTy.Contents (Elt F) arg3.view.ty) (X4 : BufTy.Contents (Elt F) arg4.view.ty) (k : Fin (k0_t5_loop i).trips) (acc : Carry F) :
    tripR_k0_t5 𝒱 c bd i arg2 harg2 arg3 harg3 arg4 harg4 arg5 harg5 arg6 harg6 arg1 v1 v55_0 v55_1 v57 v75 c0_i32_30 c1_i32_31 v78 X3 X4 k acc
      = vsteps v1 (arg3.view.read (Elt F) X3) (arg4.view.read (Elt F) X4) (8 * ((i 1).val / 8) + 4 * k.val) acc 4 := by
  have e : tripR_k0_t5 𝒱 c bd i arg2 harg2 arg3 harg3 arg4 harg4 arg5 harg5 arg6 harg6 arg1 v1 v55_0 v55_1 v57 v75 c0_i32_30 c1_i32_31 v78 X3 X4 k acc
    = stepAt arg3 arg4 v1 X3 X4 _ (k0_off5_inb i k 3)
      (stepAt arg3 arg4 v1 X3 X4 _ (k0_off5_inb i k 2)
      (stepAt arg3 arg4 v1 X3 X4 _ (k0_off5_inb i k 1)
      (stepAt arg3 arg4 v1 X3 X4 _ (k0_off5_inb i k 0)
      acc))) := by
    unfold tripR_k0_t5 trip_k0_t5
    rfl
  rw [e, stepAt_eq _ _ _ _ _ _ _ _ (off5 i k 3), stepAt_eq _ _ _ _ _ _ _ _ (off5 i k 2), stepAt_eq _ _ _ _ _ _ _ _ (off5 i k 1), stepAt_eq _ _ _ _ _ _ _ _ (off5 i k 0)]
  rfl

theorem loop5 (arg1 : BitVec 32) (v1 : FVec F S512x128 .bf16) (v55_0 : FVec F S512x1 .f32) (v55_1 : FVec F S512x128 .f32) (v57 v75 c0_i32_30 c1_i32_31 v78 : BitVec 32)
    (X3 : BufTy.Contents (Elt F) arg3.view.ty) (X4 : BufTy.Contents (Elt F) arg4.view.ty) (init : Carry F) (n : ℕ)
    (hn : n = (k0_t5_loop i).trips) :
    st_k0_t5 𝒱 c bd i arg2 harg2 arg3 harg3 arg4 harg4 arg5 harg5 arg6 harg6 arg1 v1 v55_0 v55_1 v57 v75 c0_i32_30 c1_i32_31 v78 X3 X4 init n
      = vsteps v1 (arg3.view.read (Elt F) X3) (arg4.view.read (Elt F) X4) (8 * ((i 1).val / 8)) init (4 * (k0_t5_loop i).trips) := by
  subst hn
  refine (chain v1 (arg3.view.read (Elt F) X3) (arg4.view.read (Elt F) X4) (8 * ((i 1).val / 8)) 4 (k0_t5_loop i).trips
    (st_k0_t5 𝒱 c bd i arg2 harg2 arg3 harg3 arg4 harg4 arg5 harg5 arg6 harg6 arg1 v1 v55_0 v55_1 v57 v75 c0_i32_30 c1_i32_31 v78 X3 X4 init) (fun k h => ?_) _ le_rfl).trans ?_
  · exact (st_k0_t5_succ 𝒱 c bd i arg2 harg2 arg3 harg3 arg4 harg4 arg5 harg5 arg6 harg6 arg1 v1 v55_0 v55_1 v57 v75 c0_i32_30 c1_i32_31 v78 X3 X4 init ⟨k, h⟩).trans
      (trip5 𝒱 c bd i arg2 harg2 arg3 harg3 arg4 harg4 arg5 harg5 arg6 harg6 arg1 v1 v55_0 v55_1 v57 v75 c0_i32_30 c1_i32_31 v78 X3 X4 ⟨k, h⟩ _)
  · rw [st_k0_t5_zero]

/-- A trip of the loop unrolled 2 times. -/
theorem trip7 (arg1 : BitVec 32) (v1 : FVec F S512x128 .bf16) (v55_0 : FVec F S512x1 .f32) (v55_1 : FVec F S512x128 .f32) (v57 v75 c0_i32_30 c1_i32_31 v78 v84 : BitVec 32)
    (X3 : BufTy.Contents (Elt F) arg3.view.ty) (X4 : BufTy.Contents (Elt F) arg4.view.ty) (k : Fin (k0_t7_loop i).trips) (acc : Carry F) :
    tripR_k0_t7 𝒱 c bd i arg2 harg2 arg3 harg3 arg4 harg4 arg5 harg5 arg6 harg6 arg1 v1 v55_0 v55_1 v57 v75 c0_i32_30 c1_i32_31 v78 v84 X3 X4 k acc
      = vsteps v1 (arg3.view.read (Elt F) X3) (arg4.view.read (Elt F) X4) (4 * ((i 1).val / 4) + 2 * k.val) acc 2 := by
  have e : tripR_k0_t7 𝒱 c bd i arg2 harg2 arg3 harg3 arg4 harg4 arg5 harg5 arg6 harg6 arg1 v1 v55_0 v55_1 v57 v75 c0_i32_30 c1_i32_31 v78 v84 X3 X4 k acc
    = stepAt arg3 arg4 v1 X3 X4 _ (k0_off7_inb i k 1)
      (stepAt arg3 arg4 v1 X3 X4 _ (k0_off7_inb i k 0)
      acc) := by
    unfold tripR_k0_t7 trip_k0_t7
    rfl
  rw [e, stepAt_eq _ _ _ _ _ _ _ _ (off7 i k 1), stepAt_eq _ _ _ _ _ _ _ _ (off7 i k 0)]
  rfl

theorem loop7 (arg1 : BitVec 32) (v1 : FVec F S512x128 .bf16) (v55_0 : FVec F S512x1 .f32) (v55_1 : FVec F S512x128 .f32) (v57 v75 c0_i32_30 c1_i32_31 v78 v84 : BitVec 32)
    (X3 : BufTy.Contents (Elt F) arg3.view.ty) (X4 : BufTy.Contents (Elt F) arg4.view.ty) (init : Carry F) (n : ℕ)
    (hn : n = (k0_t7_loop i).trips) :
    st_k0_t7 𝒱 c bd i arg2 harg2 arg3 harg3 arg4 harg4 arg5 harg5 arg6 harg6 arg1 v1 v55_0 v55_1 v57 v75 c0_i32_30 c1_i32_31 v78 v84 X3 X4 init n
      = vsteps v1 (arg3.view.read (Elt F) X3) (arg4.view.read (Elt F) X4) (4 * ((i 1).val / 4)) init (2 * (k0_t7_loop i).trips) := by
  subst hn
  refine (chain v1 (arg3.view.read (Elt F) X3) (arg4.view.read (Elt F) X4) (4 * ((i 1).val / 4)) 2 (k0_t7_loop i).trips
    (st_k0_t7 𝒱 c bd i arg2 harg2 arg3 harg3 arg4 harg4 arg5 harg5 arg6 harg6 arg1 v1 v55_0 v55_1 v57 v75 c0_i32_30 c1_i32_31 v78 v84 X3 X4 init) (fun k h => ?_) _ le_rfl).trans ?_
  · exact (st_k0_t7_succ 𝒱 c bd i arg2 harg2 arg3 harg3 arg4 harg4 arg5 harg5 arg6 harg6 arg1 v1 v55_0 v55_1 v57 v75 c0_i32_30 c1_i32_31 v78 v84 X3 X4 init ⟨k, h⟩).trans
      (trip7 𝒱 c bd i arg2 harg2 arg3 harg3 arg4 harg4 arg5 harg5 arg6 harg6 arg1 v1 v55_0 v55_1 v57 v75 c0_i32_30 c1_i32_31 v78 v84 X3 X4 ⟨k, h⟩ _)
  · rw [st_k0_t7_zero]

/-- A trip of the loop unrolled 1 times. -/
theorem trip9 (arg1 : BitVec 32) (v1 : FVec F S512x128 .bf16) (v109_0 : FVec F S512x1 .f32) (v109_1 : FVec F S512x128 .f32) (v111 v112 c1_i32_46 v113 v118 : BitVec 32) (v119 : BitVec 1)
    (X3 : BufTy.Contents (Elt F) arg3.view.ty) (X4 : BufTy.Contents (Elt F) arg4.view.ty) (k : Fin (k0_t9_loop i).trips) (acc : Carry F) :
    tripR_k0_t9 𝒱 c bd i arg2 harg2 arg3 harg3 arg4 harg4 arg5 harg5 arg6 harg6 arg1 v1 v109_0 v109_1 v111 v112 c1_i32_46 v113 v118 v119 X3 X4 k acc
      = vsteps v1 (arg3.view.read (Elt F) X3) (arg4.view.read (Elt F) X4) (2 * ((i 1).val / 2) + 1 * k.val) acc 1 := by
  have e : tripR_k0_t9 𝒱 c bd i arg2 harg2 arg3 harg3 arg4 harg4 arg5 harg5 arg6 harg6 arg1 v1 v109_0 v109_1 v111 v112 c1_i32_46 v113 v118 v119 X3 X4 k acc
    = stepAt arg3 arg4 v1 X3 X4 _ (k0_off9_inb i k) acc := by
    unfold tripR_k0_t9 trip_k0_t9
    rfl
  rw [e, stepAt_eq _ _ _ _ _ _ _ _ (off9 i k)]
  rw [Nat.one_mul]
  rfl

theorem loop9 (arg1 : BitVec 32) (v1 : FVec F S512x128 .bf16) (v109_0 : FVec F S512x1 .f32) (v109_1 : FVec F S512x128 .f32) (v111 v112 c1_i32_46 v113 v118 : BitVec 32) (v119 : BitVec 1)
    (X3 : BufTy.Contents (Elt F) arg3.view.ty) (X4 : BufTy.Contents (Elt F) arg4.view.ty) (init : Carry F) (n : ℕ)
    (hn : n = (k0_t9_loop i).trips) :
    st_k0_t9 𝒱 c bd i arg2 harg2 arg3 harg3 arg4 harg4 arg5 harg5 arg6 harg6 arg1 v1 v109_0 v109_1 v111 v112 c1_i32_46 v113 v118 v119 X3 X4 init n
      = vsteps v1 (arg3.view.read (Elt F) X3) (arg4.view.read (Elt F) X4) (2 * ((i 1).val / 2)) init (1 * (k0_t9_loop i).trips) := by
  subst hn
  refine (chain v1 (arg3.view.read (Elt F) X3) (arg4.view.read (Elt F) X4) (2 * ((i 1).val / 2)) 1 (k0_t9_loop i).trips
    (st_k0_t9 𝒱 c bd i arg2 harg2 arg3 harg3 arg4 harg4 arg5 harg5 arg6 harg6 arg1 v1 v109_0 v109_1 v111 v112 c1_i32_46 v113 v118 v119 X3 X4 init) (fun k h => ?_) _ le_rfl).trans ?_
  · exact (st_k0_t9_succ 𝒱 c bd i arg2 harg2 arg3 harg3 arg4 harg4 arg5 harg5 arg6 harg6 arg1 v1 v109_0 v109_1 v111 v112 c1_i32_46 v113 v118 v119 X3 X4 init ⟨k, h⟩).trans
      (trip9 𝒱 c bd i arg2 harg2 arg3 harg3 arg4 harg4 arg5 harg5 arg6 harg6 arg1 v1 v109_0 v109_1 v111 v112 c1_i32_46 v113 v118 v119 X3 X4 ⟨k, h⟩ _)
  · rw [st_k0_t9_zero]

/-- The remainder loops make no trip. -/
theorem loop2 (v0 : Vec F S512x128 .bf16) (v26 : BitVec 32)
    (X3 : BufTy.Contents (Elt F) arg3.view.ty) (X4 : BufTy.Contents (Elt F) arg4.view.ty) (init : Carry F) (n : ℕ)
    (hn : n = (k0_t2_loop i).trips) :
    st_k0_t2 𝒱 c bd i arg2 harg2 arg3 harg3 arg4 harg4 arg5 harg5 arg6 harg6 v0 v26 X3 X4 init n
      = init := by
  subst hn
  rw [trips2 i, st_k0_t2_zero]

theorem loop4 (arg1 : BitVec 32) (v1 : FVec F S512x128 .bf16) (v28_0 : FVec F S512x1 .f32) (v28_1 : FVec F S512x128 .f32) (v30 v31 c8_i32 v32 v34 v36 v53 : BitVec 32)
    (X3 : BufTy.Contents (Elt F) arg3.view.ty) (X4 : BufTy.Contents (Elt F) arg4.view.ty) (init : Carry F) (n : ℕ)
    (hn : n = (k0_t4_loop i).trips) :
    st_k0_t4 𝒱 c bd i arg2 harg2 arg3 harg3 arg4 harg4 arg5 harg5 arg6 harg6 arg1 v1 v28_0 v28_1 v30 v31 c8_i32 v32 v34 v36 v53 X3 X4 init n
      = init := by
  subst hn
  rw [trips4 i, st_k0_t4_zero]

theorem loop6 (arg1 : BitVec 32) (v1 : FVec F S512x128 .bf16) (v55_0 : FVec F S512x1 .f32) (v55_1 : FVec F S512x128 .f32) (v57 v75 c0_i32_30 c1_i32_31 v78 v80 : BitVec 32)
    (X3 : BufTy.Contents (Elt F) arg3.view.ty) (X4 : BufTy.Contents (Elt F) arg4.view.ty) (init : Carry F) (n : ℕ)
    (hn : n = (k0_t6_loop i).trips) :
    st_k0_t6 𝒱 c bd i arg2 harg2 arg3 harg3 arg4 harg4 arg5 harg5 arg6 harg6 arg1 v1 v55_0 v55_1 v57 v75 c0_i32_30 c1_i32_31 v78 v80 X3 X4 init n
      = init := by
  subst hn
  rw [trips6 i, st_k0_t6_zero]

theorem loop8 (arg1 : BitVec 32) (v1 : FVec F S512x128 .bf16) (v55_0 : FVec F S512x1 .f32) (v55_1 : FVec F S512x128 .f32) (v57 v75 c0_i32_30 c1_i32_31 v78 v84 v107 : BitVec 32)
    (X3 : BufTy.Contents (Elt F) arg3.view.ty) (X4 : BufTy.Contents (Elt F) arg4.view.ty) (init : Carry F) (n : ℕ)
    (hn : n = (k0_t8_loop i).trips) :
    st_k0_t8 𝒱 c bd i arg2 harg2 arg3 harg3 arg4 harg4 arg5 harg5 arg6 harg6 arg1 v1 v55_0 v55_1 v57 v75 c0_i32_30 c1_i32_31 v78 v84 v107 X3 X4 init n
      = init := by
  subst hn
  rw [trips8 i, st_k0_t8_zero]

theorem loop10 (arg1 : BitVec 32) (v1 : FVec F S512x128 .bf16) (v109_0 : FVec F S512x1 .f32) (v109_1 : FVec F S512x128 .f32) (v111 v112 c1_i32_46 v113 v118 : BitVec 32) (v119 : BitVec 1)
    (X3 : BufTy.Contents (Elt F) arg3.view.ty) (X4 : BufTy.Contents (Elt F) arg4.view.ty) (init : Carry F) (n : ℕ)
    (hn : n = (k0_t10_loop i).trips) :
    st_k0_t10 𝒱 c bd i arg2 harg2 arg3 harg3 arg4 harg4 arg5 harg5 arg6 harg6 arg1 v1 v109_0 v109_1 v111 v112 c1_i32_46 v113 v118 v119 X3 X4 init n
      = init := by
  subst hn
  rw [trips10 i, st_k0_t10_zero]

end loops

end Cert.Forward
end
-- ==== Proof.Forward.Point.lean ====
module

public import proofs.«01_k».proof.Proof.Forward.Loops
public import proofs.«01_k».proof.Proof.Gen.Kernel6Ideal.Frame

/-! What a grid point writes, from the blocks it reads. -/

@[expose] public section
set_option maxRecDepth 16384
set_option maxHeartbeats 4000000
noncomputable section
namespace Cert.Forward

open Idealize.ShloMosaic Idealize.ShloMosaic.TcCoe
open Cert.Kernel6Ideal Cert.Kernel6Ideal.Gen

variable {F : FTy → Type} [FloatOps F] [Named F]

theorem hz2 : (![0, 0] : Fin 2 → Nat) = fun _ => 0 := funext fun a => by fin_cases a <;> rfl
theorem hz4 : (![0, 0, 0, 0] : Fin 4 → Nat) = fun _ => 0 := funext fun a => by fin_cases a <;> rfl

theorem ilt (i : grid0.Coords) : (i 1).val < 32 := (i 1).isLt

section
variable (q : Vec F S512x128 .bf16) (x1 x2 : Vec F S16384x128 .bf16)

/-- What the rows carry up to the diagonal block `n`. -/
def before (n : ℕ) : Carry F := vsteps (k0_pay170 q) x1 x2 0 (k0_pay171, k0_pay172) n

variable (n : ℕ) (h : n < 32)

/-- The rows' greatest scores. -/
def maxs : FVec F S512x1 .f32 := k0_pay196 (k0_pay170 q) (before q x1 x2 n).1 (rows x1 n h)
/-- The rows' sums of exponentials. -/
def sums : FVec F S512x1 .f32 :=
  k0_pay198 (k0_pay170 q) (before q x1 x2 n).1 (before q x1 x2 n).2 (rows x1 n h) (rows x2 n h)
/-- The rows' outputs. -/
def outs : FVec F S512x128 .f32 :=
  k0_pay199 (k0_pay170 q) (before q x1 x2 n).1 (before q x1 x2 n).2 (rows x1 n h) (rows x2 n h)
end

variable (c : Dev nD) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S512x128 .f32) (harg5 : arg5.IsWhole)
  (arg6 : Memref sig .tc .vmem S1x1x1x512 .f32) (harg6 : arg6.IsWhole)
  (x0 : Vec F S512x128 .bf16) (x1 x2 : Vec F S16384x128 .bf16)

/-- A block of rows is read at its offset. -/
theorem ld_rows {e : EltTy} (x : Vec F S16384x128 e) (off : Fin 2 → ℕ) (h : ∀ a, off a + S512x128.size a ≤ S16384x128.size a)
    (n : ℕ) (hn : n < 32) (ho : off = ![512 * n, 0]) :
    View.ld x (Rect.unit (s := S16384x128) off S512x128.size h) = rows x n hn := by
  subst ho; rfl

/-- The five loops in a row are the blocks before the diagonal. -/
theorem blocks (q : FVec F S512x128 .bf16) (s : Carry F) :
    vsteps q x1 x2 (2 * ((i 1).val / 2)) (vsteps q x1 x2 (4 * ((i 1).val / 4)) (vsteps q x1 x2 (8 * ((i 1).val / 8))
      (vsteps q x1 x2 (16 * ((i 1).val / 16)) (vsteps q x1 x2 0 s (16 * (k0_t1_loop i).trips)) (8 * (k0_t3_loop i).trips))
        (4 * (k0_t5_loop i).trips)) (2 * (k0_t7_loop i).trips)) (1 * (k0_t9_loop i).trips)
      = vsteps q x1 x2 0 s (i 1).val := by
  have hi := ilt i
  rw [trips1, trips3, trips5, trips7, trips9]
  have e1 : 16 * ((i 1).val / 16) = 0 + 16 * ((i 1).val / 16) := by omega
  have e2 : 8 * ((i 1).val / 8) = 0 + (16 * ((i 1).val / 16) + 8 * ((i 1).val % 16 / 8)) := by omega
  have e3 : 4 * ((i 1).val / 4) = 0 + (8 * ((i 1).val / 8) + 4 * ((i 1).val % 8 / 4)) := by omega
  have e4 : 2 * ((i 1).val / 2) = 0 + (4 * ((i 1).val / 4) + 2 * ((i 1).val % 4 / 2)) := by omega
  have e5 : (i 1).val = 2 * ((i 1).val / 2) + 1 * ((i 1).val % 2) := by omega
  have f1 := vsteps_add q x1 x2 0 s (16 * ((i 1).val / 16)) (8 * ((i 1).val % 16 / 8))
  have f2 := vsteps_add q x1 x2 0 s (8 * ((i 1).val / 8)) (4 * ((i 1).val % 8 / 4))
  have f3 := vsteps_add q x1 x2 0 s (4 * ((i 1).val / 4)) (2 * ((i 1).val % 4 / 2))
  have f4 := vsteps_add q x1 x2 0 s (2 * ((i 1).val / 2)) (1 * ((i 1).val % 2))
  rw [Nat.zero_add] at e2 e3 e4 f1 f2 f3 f4
  rw [← f1, ← e2, ← f2, ← e3, ← f3, ← e4, ← f4, ← e5]

/-- What a point writes of the output. -/
theorem out3 : out0_A_3 c i arg2 harg2 arg3 harg3 arg4 harg4 arg5 harg5 arg6 harg6 x0 x1 x2
    = outs x0 x1 x2 (i 1).val (ilt i) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz2]
  simp only [Prod.mk.eta]
  rw [loop1 (hn := ?_)]
  swap
  · rfl
  rw [loop2 (hn := ?_)]
  swap
  · rfl
  rw [loop3 (hn := ?_)]
  swap
  · rfl
  rw [loop4 (hn := ?_)]
  swap
  · rfl
  rw [loop5 (hn := ?_)]
  swap
  · rfl
  rw [loop6 (hn := ?_)]
  swap
  · rfl
  rw [loop7 (hn := ?_)]
  swap
  · rfl
  rw [loop8 (hn := ?_)]
  swap
  · rfl
  rw [loop9 (hn := ?_)]
  swap
  · rfl
  rw [loop10 (hn := ?_)]
  swap
  · rfl
  rw [blocks]
  simp only [View.readAt_eq_ld, harg2.read_unread, harg3.read_unread, harg4.read_unread, View.ld_unit_zero (S := S512x128) hz2]
  exact congrArg₂ (k0_pay199 _ _ _) (ld_rows x1 _ _ _ (ilt i) (off11 i)) (ld_rows x2 _ _ _ (ilt i) (off11 i))

/-- What a point writes of the rows' log-sums. -/
theorem out4 : out0_A_4 c i arg2 harg2 arg3 harg3 arg4 harg4 arg5 harg5 arg6 harg6 x0 x1 x2
    = k0_pay1 (maxs x0 x1 x2 (i 1).val (ilt i)) (sums x0 x1 x2 (i 1).val (ilt i)) := by
  unfold out0_A_4
  rw [View.read_writes_eq_canon _ _ _ (cover0_A_4 c i arg2 harg2 arg3 harg3 arg4 harg4 arg5 harg5 arg6 harg6 x0 x1 x2)]
  unfold kernelRun0_A
  dsimp only
  sl_unfold_words
  rw [View.canon_unit_zero hz4]
  simp only [Prod.mk.eta]
  rw [loop1 (hn := ?_)]
  swap
  · rfl
  rw [loop2 (hn := ?_)]
  swap
  · rfl
  rw [loop3 (hn := ?_)]
  swap
  · rfl
  rw [loop4 (hn := ?_)]
  swap
  · rfl
  rw [loop5 (hn := ?_)]
  swap
  · rfl
  rw [loop6 (hn := ?_)]
  swap
  · rfl
  rw [loop7 (hn := ?_)]
  swap
  · rfl
  rw [loop8 (hn := ?_)]
  swap
  · rfl
  rw [loop9 (hn := ?_)]
  swap
  · rfl
  rw [loop10 (hn := ?_)]
  swap
  · rfl
  rw [blocks]
  simp only [View.readAt_eq_ld, harg2.read_unread, harg3.read_unread, harg4.read_unread, View.ld_unit_zero (S := S512x128) hz2]
  exact congrArg₂ k0_pay1 (congrArg (k0_pay196 _ _) (ld_rows x1 _ _ _ (ilt i) (off11 i)))
    (congrArg₂ (k0_pay198 _ _ _) (ld_rows x1 _ _ _ (ilt i) (off11 i)) (ld_rows x2 _ _ _ (ilt i) (off11 i)))

end Cert.Forward
end
-- ==== Proof.Forward.Rows.lean ====
module

public import proofs.«01_k».proof.Proof.Forward.Point

/-! What a grid point's rows hold over the reals: after every block the row's state of `Online`, at the end the attention's
    output and the row's log-sum. -/

@[expose] public section
set_option maxRecDepth 16384
noncomputable section
namespace Cert.Forward

open Idealize.ShloMosaic Idealize.ShloMosaic.TcCoe
open Cert.Kernel6Ideal Cert.Kernel6Ideal.Gen Cert.Reals
open Finset

section at_
variable (q : FVec Ideal S512x128 .bf16) (m : FVec Ideal S512x1 .f32) (a : FVec Ideal S512x128 .f32)
  (k v : Vec Ideal S512x128 .bf16)

/-- The diagonal block's scores: minus infinity where the key is after the query. -/
def dsc (r : Fin 512) (j : Fin 512) : EReal := if j ≤ r then sc q k r j else ⊥

theorem dsc_at (r j : Fin 512) : k0_pay195 q k (ix2 r j) = dsc q k r j := by
  pointwise [k0_pay195]
  rw [mask_eq, WordCmp.cmpi_sle_ofNat (by omega) (by omega), dsc]
  by_cases h : j ≤ r
  · rw [if_pos h, decide_eq_true (Fin.le_def.mp h)]
    rfl
  · rw [if_neg h, decide_eq_false (fun h' => h (Fin.le_def.mpr h'))]
    rfl

theorem dmax_at (r : Fin 512) : k0_pay196 q m k (ix2 r 0) = Online.rowMax (m (ix2 r 0)) (dsc q k r) := by
  pointwise [k0_pay196]
  simp only [dsc_at]
  rfl

theorem dacc_at (r : Fin 512) (d : Fin 128) : k0_pay197 q m a k v (ix2 r d)
    = Online.rowAcc (m (ix2 r 0)) (fun d => a (ix2 r d)) (dsc q k r) (fun j d => v (ix2 j d)) d := by
  pointwise [k0_pay197]
  simp only [dsc_at, dmax_at]
  rfl

theorem sum_at (r : Fin 512) : k0_pay198 q m a k v (ix2 r 0) = k0_pay197 q m a k v (ix2 r 64) := by
  pointwise [k0_pay198]

theorem out_at (r : Fin 512) (d : Fin 128) : k0_pay199 q m a k v (ix2 r d)
    = Ideal.div (k0_pay197 q m a k v (ix2 r d)) (k0_pay197 q m a k v (ix2 r 64)) := by
  pointwise [k0_pay199]
  rw [sum_at]

theorem lse_at (l : FVec Ideal S512x1 .f32) (r : Fin 512) : k0_pay1 m l (ix4 0 0 0 r)
    = m (ix2 r 0) + Ideal.log (l (ix2 r 0)) * ((1 / Real.log 2 : ℝ) : EReal) := by
  pointwise [k0_pay1]
  rw [log2e_eq, one_div]

theorem init_max (r : Fin 512) : k0_pay171 (F := Ideal) (ix2 r 0) = ⊥ := by
  pointwise [k0_pay171]
  exact mask_eq

theorem init_acc (r : Fin 512) (d : Fin 128) : k0_pay172 (F := Ideal) (ix2 r d) = 0 := by
  pointwise [k0_pay172]

theorem query_at (x : Vec Ideal S512x128 .bf16) (r : Fin 512) (d : Fin 128) : k0_pay170 x (ix2 r d) = x (ix2 r d) := by
  pointwise [k0_pay170]
end at_

section point
variable {Q K V : Fin 16384 → Fin 128 → ℝ} {n : ℕ} (hn : n < 32)
  {x0 : Vec Ideal S512x128 .bf16} {x1 x2 : Vec Ideal S16384x128 .bf16}
  (h0 : ∀ r d, x0 (ix2 r d) = ((Q (at_ n hn r) d * (1 / Real.log 2) : ℝ) : EReal))
  (h1 : ∀ j d, x1 (ix2 j d) = (K j d : EReal)) (h2 : ∀ j d, x2 (ix2 j d) = (V j d : EReal))
  (hV : ∀ j, V j 64 = 1)

theorem score_base2 (i j : Fin 16384) : ∑ d, Q i d * (1 / Real.log 2) * K j d = score Q K i j * (1 / Real.log 2) := by
  rw [score, sum_mul]; exact sum_congr rfl fun d _ => by ring

include h0 h1 in
theorem sc_real (b : ℕ) (hb : b < 32) (r j : Fin 512) :
    sc (k0_pay170 x0) (rows x1 b hb) r j = ((score Q K (at_ n hn r) (at_ b hb j) * (1 / Real.log 2) : ℝ) : EReal) := by
  rw [sc, ← score_base2, ← sum_coe_mul]
  exact sum_congr rfl fun d _ => by rw [query_at, rows_at, h0, h1]

include h0 h1 h2 in
/-- Before the diagonal. -/
theorem before_state (r : Fin 512) : ∀ b, b ≤ n → Online.State Q K V (at_ n hn r) b
    ((before x0 x1 x2 b).1 (ix2 r 0)) (fun d => (before x0 x1 x2 b).2 (ix2 r d))
  | 0, _ => Or.inl ⟨rfl, init_max r, fun d => init_acc r d⟩
  | b + 1, h => by
    have hb : b < 32 := by omega
    have ih := before_state r b (by omega)
    have e : before x0 x1 x2 (b + 1) = (k0_pay190 (k0_pay170 x0) (before x0 x1 x2 b).1 (rows x1 b hb),
        k0_pay191 (k0_pay170 x0) (before x0 x1 x2 b).1 (before x0 x1 x2 b).2 (rows x1 b hb) (rows x2 b hb)) := by
      rw [before, vsteps, Nat.zero_add, vstep, dif_pos hb]; rfl
    have s := Online.step Q K V _ b hb (show 512 * b ≤ 512 * n + r.val by omega)
      (s := sc (k0_pay170 x0) (rows x1 b hb) r) (v := fun j d => rows x2 b hb (ix2 j d))
      (fun j => by
        rw [if_pos (Fin.le_def.mpr (show 512 * b + j.val ≤ 512 * n + r.val by omega))]
        exact sc_real hn h0 h1 b hb r j)
      (fun j d => (rows_at x2 b hb j d).trans (h2 _ _)) ih
    rw [e]
    convert s using 1
    · exact max_at _ _ _ r
    · exact funext fun d => acc_at _ _ _ _ _ r d

include h0 h1 h2 in
/-- With the diagonal. -/
theorem after_state (r : Fin 512) : Online.State Q K V (at_ n hn r) (n + 1)
    (maxs x0 x1 x2 n hn (ix2 r 0))
    (fun d => k0_pay197 (k0_pay170 x0) (before x0 x1 x2 n).1 (before x0 x1 x2 n).2 (rows x1 n hn) (rows x2 n hn) (ix2 r d)) := by
  have s := Online.step Q K V _ n hn (show 512 * n ≤ 512 * n + r.val by omega)
    (s := dsc (k0_pay170 x0) (rows x1 n hn) r) (v := fun j d => rows x2 n hn (ix2 j d))
    (fun j => by
      rw [dsc]
      by_cases h : j ≤ r
      · rw [if_pos h, if_pos (Fin.le_def.mpr (show 512 * n + j.val ≤ 512 * n + r.val by have := Fin.le_def.mp h; omega))]
        exact sc_real hn h0 h1 n hn r j
      · rw [if_neg h, if_neg]
        intro h'
        have : 512 * n + j.val ≤ 512 * n + r.val := Fin.le_def.mp h'
        exact h (Fin.le_def.mpr (by omega)))
    (fun j d => (rows_at x2 n hn j d).trans (h2 _ _)) (before_state hn h0 h1 h2 r n le_rfl)
  convert s using 1
  · exact dmax_at _ _ _ r
  · exact funext fun d => dacc_at _ _ _ _ _ r d

include h0 h1 h2 hV in
/-- The output's rows. -/
theorem outs_real (r : Fin 512) (d : Fin 128) :
    outs x0 x1 x2 n hn (ix2 r d) = ((out Q K V (at_ n hn r) d : ℝ) : EReal) := by
  rw [outs, out_at]
  exact Online.output (Nat.succ_pos n) (by omega) (show 512 * n + r.val < 512 * (n + 1) by omega) hV
    (after_state hn h0 h1 h2 r) d

include h0 h1 h2 hV in
/-- The rows' log-sums in base 2. -/
theorem lse_real (r : Fin 512) :
    k0_pay1 (maxs x0 x1 x2 n hn) (sums x0 x1 x2 n hn) (ix4 0 0 0 r)
      = ((Real.log (total Q K (at_ n hn r)) * (1 / Real.log 2) : ℝ) : EReal) := by
  rw [lse_at, sums, sum_at]
  exact Online.logsum (Nat.succ_pos n) (by omega) (show 512 * n + r.val < 512 * (n + 1) by omega) hV
    (after_state hn h0 h1 h2 r)

end point
end Cert.Forward
end
-- ==== Proof.Forward.Grid.lean ====
module

public import proofs.«01_k».proof.Proof.Forward.Host
public import proofs.«01_k».proof.Proof.Forward.Rows
public import Idealize.ShloMosaic.Lib.Pipeline.ValueKit

/-! The grid: what each point reads and writes, and the two results' arrays. Point `t` is query block `t % 32` of head
    `t / 32`. -/

@[expose] public section
set_option maxRecDepth 16384
noncomputable section
namespace Cert.Forward

open Idealize.ShloMosaic Idealize.ShloMosaic.TcCoe
open Cert.Kernel6Ideal Cert.Kernel6Ideal.Gen Cert.Reals Cert.Plain

theorem idx0 : ∀ t : Fin cfg0.N, win0_0.index t = ![t.val % 32, t.val / 32] := (by decide +kernel : ∀ t : Fin grid0.N, _)
theorem idx1 : ∀ t : Fin cfg0.N, win0_1.index t = ![0, t.val / 32] := (by decide +kernel : ∀ t : Fin grid0.N, _)
theorem idx2 : ∀ t : Fin cfg0.N, win0_2.index t = ![0, t.val / 32] := (by decide +kernel : ∀ t : Fin grid0.N, _)
theorem idx3 : ∀ t : Fin cfg0.N, win0_3.index t = ![t.val % 32, t.val / 32] := (by decide +kernel : ∀ t : Fin grid0.N, _)
theorem idx4 : ∀ t : Fin cfg0.N, win0_4.index t = ![t.val / 32, t.val % 32, 0, 0] := (by decide +kernel : ∀ t : Fin grid0.N, _)

theorem block_of : ∀ t : Fin cfg0.N, (cfg0.grid.coords t 1).val = t.val % 32 :=
  (by decide +kernel : ∀ t : Fin grid0.N, (grid0.coords t 1).val = t.val % 32)

/-- The head of a grid point. -/
def head (t : Fin cfg0.N) : Fin 8 := ⟨t.val / 32, by have := lt_of_lt_of_eq t.isLt N_0; omega⟩

theorem block_lt (t : Fin cfg0.N) : t.val % 32 < 32 := Nat.mod_lt _ (by decide)

variable (m : (ℓ : Loc nD τ sig) → Buf (Elt Ideal) ℓ) (c : Dev nD) (t : Fin cfg0.N)

theorem read0 (X : FVec Ideal S16384x1024 .bf16) (r : Fin 512) (d : Fin 128) :
    ((cfg0.win 0).blk t).view.read (Elt Ideal) X (ix2 r d) = X (ix2 (at_ (t.val % 32) (block_lt t) r) (lane (head t) d)) := by
  blk_ext [idx0 t, lane, head, at_]

theorem read1 (X : FVec Ideal S16384x1024 .bf16) (i : Fin 16384) (d : Fin 128) :
    ((cfg0.win 1).blk t).view.read (Elt Ideal) X (ix2 i d) = X (ix2 i (lane (head t) d)) := by
  blk_ext [idx1 t, lane, head]

theorem read2 (X : FVec Ideal S16384x1024 .bf16) (i : Fin 16384) (d : Fin 128) :
    ((cfg0.win 2).blk t).view.read (Elt Ideal) X (ix2 i d) = X (ix2 i (lane (head t) d)) := by
  blk_ext [idx2 t, lane, head]

/-- Where the results' blocks lie. -/
theorem place3 (r : Fin 512) (d : Fin 128) :
    ((cfg0.win 3).blk t).view.emb (ix2 r d) = ix2 (at_ (t.val % 32) (block_lt t) r) (lane (head t) d) := by
  blk_ext [idx3 t, lane, head, at_]

theorem place4 (r : Fin 512) :
    ((cfg0.win 4).blk t).view.emb (ix4 0 0 0 r) = ix4 (head t) ⟨t.val % 32, block_lt t⟩ 0 r := by
  blk_ext [idx4 t, head]

theorem iblk0 (r : Fin 512) (d : Fin 128) : iblk m c 0 t (ix2 r d)
    = Cert.KernelIdeal.Attn.qpArr (scaled (m ((c.tc : Thread nD τ).loc main_arg0)))
        (ix2 (at_ (t.val % 32) (block_lt t) r) (lane (head t) d)) :=
  (read0 t (V m c main_v7) r d).trans (congrFun (V_q m c) _)

theorem iblk1 (i : Fin 16384) (d : Fin 128) :
    iblk m c 1 t (ix2 i d) = m ((c.tc : Thread nD τ).loc main_arg1) (ix2 i (lane (head t) d)) :=
  (read1 t (V m c main_arg1) i d).trans (congrFun (V_main_arg1 m c) _)

theorem iblk2 (i : Fin 16384) (d : Fin 128) :
    iblk m c 2 t (ix2 i d) = onesArr (m ((c.tc : Thread nD τ).loc main_arg2)) (ix2 i (lane (head t) d)) :=
  (read2 t (V m c main_v14) i d).trans (congrFun (V_v m c) _)

/-- What a point leaves in its two blocks. -/
theorem point_eq : outsAt0 m c t
    = (outs (iblk m c 0 t) (iblk m c 1 t) (iblk m c 2 t) (grid0.coords t 1).val (ilt (grid0.coords t)),
      k0_pay1 (maxs (iblk m c 0 t) (iblk m c 1 t) (iblk m c 2 t) (grid0.coords t 1).val (ilt (grid0.coords t)))
        (sums (iblk m c 0 t) (iblk m c 1 t) (iblk m c 2 t) (grid0.coords t 1).val (ilt (grid0.coords t)))) := by
  unfold outsAt0
  rw [out3, out4]

/-- The arguments hold these reals. -/
structure Args (m : (ℓ : Loc nD τ sig) → Buf (Elt Ideal) ℓ) (c : Dev nD) (A B C : Fin 16384 → Fin 1024 → ℝ) : Prop where
  q : ∀ i l, (m ((c.tc : Thread nD τ).loc main_arg0) : FVec Ideal S16384x1024 .bf16) (ix2 i l) = (A i l : EReal)
  k : ∀ i l, (m ((c.tc : Thread nD τ).loc main_arg1) : FVec Ideal S16384x1024 .bf16) (ix2 i l) = (B i l : EReal)
  v : ∀ i l, (m ((c.tc : Thread nD τ).loc main_arg2) : FVec Ideal S16384x1024 .bf16) (ix2 i l) = (C i l : EReal)

variable {m c} {A B C : Fin 16384 → Fin 1024 → ℝ} (H : Args m c A B C)

section point
include H

theorem query (r : Fin 512) (d : Fin 128) : iblk m c 0 t (ix2 r d)
    = ((hq A (head t) (at_ (t.val % 32) (block_lt t) r) d * (1 / Real.log 2) : ℝ) : EReal) := by
  rw [iblk0, Cert.KernelIdeal.Attn.qpArr_at (A := fun i l => A i l * scale) fun i l => by rw [scaled_at, H.q, ← EReal.coe_mul]]
  rfl

theorem key (i : Fin 16384) (d : Fin 128) : iblk m c 1 t (ix2 i d) = ((hd B (head t) i d : ℝ) : EReal) := by
  rw [iblk1, H.k]; rfl

theorem value (i : Fin 16384) (d : Fin 128) : iblk m c 2 t (ix2 i d) = ((hd (withOnes C) (head t) i d : ℝ) : EReal) := by
  rw [iblk2, onesArr_real H.v]; rfl

/-- What a point writes of the output. -/
theorem point_out (r : Fin 512) (d : Fin 128) : (outsAt0 m c t).1 (ix2 r d)
    = ((out (hq A (head t)) (hd B (head t)) (hd (withOnes C) (head t)) (at_ (t.val % 32) (block_lt t) r) d : ℝ) : EReal) := by
  have e := block_of t
  rw [point_eq]
  dsimp only
  have key : ∀ (n : ℕ) (hn : n < 32), n = t.val % 32 → outs (iblk m c 0 t) (iblk m c 1 t) (iblk m c 2 t) n hn (ix2 r d)
      = ((out (hq A (head t)) (hd B (head t)) (hd (withOnes C) (head t)) (at_ (t.val % 32) (block_lt t) r) d : ℝ) : EReal) := by
    rintro n hn rfl
    exact outs_real hn (query t H) (key t H) (value t H) (withOnes_at C (head t)) r d
  exact key _ _ e

/-- What a point writes of the rows' log-sums. -/
theorem point_lse (r : Fin 512) : (outsAt0 m c t).2 (ix4 0 0 0 r)
    = ((Real.log (total (hq A (head t)) (hd B (head t)) (at_ (t.val % 32) (block_lt t) r)) * (1 / Real.log 2) : ℝ) : EReal) := by
  have e := block_of t
  rw [point_eq]
  dsimp only
  have key : ∀ (n : ℕ) (hn : n < 32), n = t.val % 32 →
      k0_pay1 (maxs (iblk m c 0 t) (iblk m c 1 t) (iblk m c 2 t) n hn) (sums (iblk m c 0 t) (iblk m c 1 t) (iblk m c 2 t) n hn) (ix4 0 0 0 r)
      = ((Real.log (total (hq A (head t)) (hd B (head t)) (at_ (t.val % 32) (block_lt t) r)) * (1 / Real.log 2) : ℝ) : EReal) := by
    rintro n hn rfl
    exact lse_real hn (query t H) (key t H) (value t H) (withOnes_at C (head t)) r
  exact key _ _ e

/-- The array of the outputs. -/
theorem final_out (X : FVec Ideal S16384x1024 .f32)
    (hX : ∀ i h d, X (ix2 i (lane h d)) = ((out (hq A h) (hd B h) (hd (withOnes C) h) i d : ℝ) : EReal)) :
    (dats m 0 c).arrAt 3 cfg0.N = X := by
  refine (dats m 0 c).arrAt_eq_of_covers 3 _ (by decide +kernel) fun t hf y => ?_
  obtain ⟨r, d, rfl⟩ : ∃ (r : Fin 512) (d : Fin 128), y = ix2 r d := ⟨_, _, eq_ix2 y⟩
  rw [place3, hX, after0_3]
  exact point_out t H r d

/-- The array of the rows' log-sums. -/
theorem final_lse (X : FVec Ideal S8x32x1x512 .f32)
    (hX : ∀ h (b : Fin 32) s, X (ix4 h b 0 s)
      = ((Real.log (total (hq A h) (hd B h) (at_ b.val b.isLt s)) * (1 / Real.log 2) : ℝ) : EReal)) :
    (dats m 0 c).arrAt 4 cfg0.N = X := by
  refine (dats m 0 c).arrAt_eq_of_covers 4 _ (by decide +kernel) fun t hf y => ?_
  obtain ⟨a, b, e, r, rfl⟩ : ∃ (a b e : Fin 1) (r : Fin 512), y = ix4 a b e r := ⟨_, _, _, _, eq_ix4 y⟩
  obtain rfl := Subsingleton.elim a 0
  obtain rfl := Subsingleton.elim b 0
  obtain rfl := Subsingleton.elim e 0
  rw [place4, hX, after0_4]
  exact point_lse t H r

end point
end Cert.Forward
end
-- ==== Proof.Forward.Plain.lean ====
module

public import proofs.«01_k».proof.Proof.Forward.Grid
public import proofs.«01_k».proof.Proof.Gen.Reference6Ideal.Run

/-! The reference's two results, as arrays of the arguments and over the reals. -/

@[expose] public section
set_option maxRecDepth 16384
noncomputable section
namespace Cert.Forward

open Idealize.ShloMosaic Idealize.ShloMosaic.TcCoe
open Cert.Reals Cert.Plain Cert.KernelIdeal.Attn

/-- The attention's output, with the ones. -/
def plainOut (q k v : FVec Ideal Cert.KernelIdeal.S16384x1024 .bf16) : FVec Ideal Cert.KernelIdeal.S16384x1024 .f32 :=
  ones (outArr (byHead (wide v)) (soft (expArr q k)))

/-- The scores. -/
def scoreArr (q k : FVec Ideal Cert.KernelIdeal.S16384x1024 .bf16) : FVec Ideal Cert.KernelIdeal.S8x16384x16384 .f32 :=
  scores (byHead (scaled q)) (byHead (wide k))

/-- The rows' log-sums. -/
def plainLse (q k : FVec Ideal Cert.KernelIdeal.S16384x1024 .bf16) : FVec Ideal Cert.KernelIdeal.S8x32x1x512 .f32 :=
  lseArr (rowMax (scoreArr q k)) (rowSum (exps (scoreArr q k) (rowMax (scoreArr q k))))

/-- Every lane of the array is a lane of a head. -/
theorem lane_surj (l : Fin 1024) : ∃ (h : Fin 8) (d : Fin 128), l = lane h d :=
  ⟨⟨l.val / 128, by omega⟩, ⟨l.val % 128, Nat.mod_lt _ (by decide)⟩, Fin.ext (by simp only [lane]; omega)⟩

/-- The output over the reals, the heads side by side. -/
def outs8 (A B C : Fin 16384 → Fin 1024 → ℝ) (i : Fin 16384) (l : Fin 1024) : ℝ :=
  out (hq A ⟨l.val / 128, by omega⟩) (hd B ⟨l.val / 128, by omega⟩) (hd C ⟨l.val / 128, by omega⟩) i
    ⟨l.val % 128, Nat.mod_lt _ (by decide)⟩

theorem outs8_lane (A B C : Fin 16384 → Fin 1024 → ℝ) (i : Fin 16384) (h : Fin 8) (d : Fin 128) :
    outs8 A B C i (lane h d) = out (hq A h) (hd B h) (hd C h) i d := by
  have eh : (⟨(lane h d).val / 128, by omega⟩ : Fin 8) = h := Fin.ext (by simp only [lane]; omega)
  have ed : (⟨(lane h d).val % 128, Nat.mod_lt _ (by decide)⟩ : Fin 128) = d := Fin.ext (by simp only [lane]; omega)
  unfold outs8
  rw [eh, ed]

/-- The probabilities of a row sum to one, so values that are one give an output that is one. -/
theorem out_withOnes (A B C : Fin 16384 → Fin 1024 → ℝ) (i : Fin 16384) (h : Fin 8) (d : Fin 128) :
    withOnes (outs8 A B C) i (lane h d) = out (hq A h) (hd B h) (hd (withOnes C) h) i d := by
  by_cases e : isOne (ix1 (lane h d)) = 1#1
  · have hv : ∀ j, hd (withOnes C) h j d = 1 := fun j => if_pos e
    rw [withOnes, if_pos e, out]
    simp only [hv, mul_one, prob]
    rw [← Finset.sum_div]
    exact (div_self (total_pos _ _ i).ne').symm
  · have hv : ∀ j, hd (withOnes C) h j d = hd C h j d := fun j => if_neg e
    rw [withOnes, if_neg e, outs8_lane, out, out]
    simp only [hv]

section real
variable {q k v : FVec Ideal Cert.KernelIdeal.S16384x1024 .bf16} {A B C : Fin 16384 → Fin 1024 → ℝ}
  (hA : ∀ i l, q (ix2 i l) = (A i l : EReal)) (hB : ∀ i l, k (ix2 i l) = (B i l : EReal))
include hA hB

theorem plainOut_at (hC : ∀ i l, v (ix2 i l) = (C i l : EReal)) (i : Fin 16384) (h : Fin 8) (d : Fin 128) :
    plainOut q k v (ix2 i (lane h d)) = ((out (hq A h) (hd B h) (hd (withOnes C) h) i d : ℝ) : EReal) := by
  obtain ⟨M, hM⟩ := expArr_real hA hB
  have hx : ∀ i l, outArr (byHead (wide v)) (soft (expArr q k)) (ix2 i l) = ((outs8 A B C i l : ℝ) : EReal) := fun i l => by
    obtain ⟨h, d, rfl⟩ := lane_surj l
    have e := outArr_at (V := hd C) (Q := hq A) (K := hd B) (wide_real hC) (soft_at hM) i h d
    rw [byHead_at] at e
    rw [e, outs8_lane]
  rw [plainOut, ones_real hx, out_withOnes]

theorem plainLse_at (h : Fin 8) (b : Fin 32) (s : Fin 512) : plainLse q k (ix4 h b 0 s)
    = ((Real.log (total (hq A h) (hd B h) (at_ b.val b.isLt s)) * (1 / Real.log 2) : ℝ) : EReal) := by
  have hs := scores_at (scaled_real hA) (wide_real hB)
  obtain ⟨M, hM⟩ := rowMax_at hs
  have e := lseArr_at hM (rowSum_at (exps_at hs hM)) (fun h i => shifted_sum_pos _ _ _ _) h b s
  rw [Online.log_total] at e
  exact e
end real

open Cert.Reference6Ideal Cert.Reference6Ideal.Gen in
/-- The reference leaves the attention's output. -/
theorem res_out (m : (ℓ : Loc nD τ sig) → Buf (Elt Ideal) ℓ) (c : Dev nD) :
    Cert.Reference6Ideal.Value.res_main_v59 m c
      = plainOut (m ((c.tc : Thread nD τ).loc main_arg0)) (m ((c.tc : Thread nD τ).loc main_arg1))
          (m ((c.tc : Thread nD τ).loc main_arg2)) := by
  unfold Cert.Reference6Ideal.Value.res_main_v59; rfl

end Cert.Forward
end
-- ==== Proof.Forward.Equal.lean ====
module

public import proofs.«01_k».proof.Proof.Value.Finite
public import proofs.«01_k».proof.Proof.Forward.Plain
public import proofs.«01_k».proof.Proof.Gen.Kernel6.Frame
public import proofs.«01_k».proof.Proof.Gen.Kernel6Ideal.Value
public import proofs.«01_k».proof.Proof.Gen.Pre_finite6

/-! The claims for the attention's forward call. -/

@[expose] public section
set_option maxRecDepth 16384
noncomputable section
namespace Cert.Proof.Forward

open Idealize.ShloMosaic Idealize.ShloMosaic.TcCoe Idealize.SL.Sem
open Cert.Kernel6Ideal Cert.Kernel6Ideal.Gen Cert.Forward

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The frames hold of every launch, so of the launches that meet the precondition. -/
theorem frame_pi_finite [Cert.Pre_finite6.Facts] : Cert.quiescent_Kernel6Ideal_pre_finite6 := fun m ρ _ => frame_pi m ρ trivial

theorem frame_ri_finite [Cert.Pre_finite6.Facts] : Cert.quiescent_Reference6Ideal_pre_finite6 := fun m ρ _ => frame_ri m ρ trivial

/-- The mask's constant is minus infinity over the reals, and the last factor is one over the logarithm of two. -/
theorem preserves : Cert.preserves_Kernel6_Kernel6Ideal :=
  ⟨IdealRules.named_const.statement Cert.Kernel6Ideal.κ "mask" .f32 0xF149F2CA#32 ⊥ rfl,
    IdealRules.named_const.statement Cert.Kernel6Ideal.κ "log2e" .f32 0x3FB8AA3B#32 (((Real.log 2)⁻¹ : ℝ) : EReal) rfl⟩

section finite
variable [Cert.Pre_finite.Facts] [Cert.Pre_finite6.Facts]

theorem fn_eq (q k v : FVec Ideal Cert.Pre_finite6.S16384x1024 .bf16) (j : Cert.Pre_finite6.S_.Idx) :
    Cert.Pre_finite6.fn (F := Ideal) q k v j
      = IntOp.andi (IntOp.andi (Cert.Finite.test q j) (Cert.Finite.test k j)) (Cert.Finite.test v j) := rfl

/-- A launch that meets the precondition has real arguments. -/
theorem args (m : (ℓ : Loc nD τ sig) → Buf (Elt Ideal) ℓ) (h : Cert.Pre_Kernel6Ideal_finite6 m) (c : Dev nD) :
    ∃ A B C, Args m c A B C := by
  have e := (fn_eq _ _ _ fun k => k.elim0).symm.trans (congrFun (h c) fun k => k.elim0)
  obtain ⟨e, h3⟩ := IntOp.andi_eq_one.1 e
  obtain ⟨h1, h2⟩ := IntOp.andi_eq_one.1 e
  obtain ⟨A, hA⟩ := Cert.Finite.test_real _ _ h1
  obtain ⟨B, hB⟩ := Cert.Finite.test_real _ _ h2
  obtain ⟨C, hC⟩ := Cert.Finite.test_real _ _ h3
  exact ⟨A, B, C, hA, hB, hC⟩

/-- The output and the rows' log-sums as arrays of the arguments. -/
def outOf (m : (ℓ : Loc nD τ sig) → Buf (Elt Ideal) ℓ) (c : Dev nD) : FVec Ideal S16384x1024 .f32 :=
  plainOut (m ((c.tc : Thread nD τ).loc main_arg0)) (m ((c.tc : Thread nD τ).loc main_arg1))
    (m ((c.tc : Thread nD τ).loc main_arg2))

def lseOf (m : (ℓ : Loc nD τ sig) → Buf (Elt Ideal) ℓ) (c : Dev nD) : FVec Ideal S8x32x1x512 .f32 :=
  plainLse (m ((c.tc : Thread nD τ).loc main_arg0)) (m ((c.tc : Thread nD τ).loc main_arg1))

/-- What the launch leaves in its two result arrays. -/
theorem kernel_arrays (m : (ℓ : Loc nD τ sig) → Buf (Elt Ideal) ℓ) (c : Dev nD) (h : ∃ A B C, Args m c A B C) :
    (dats m 0 c).arrAt 3 cfg0.N = outOf m c ∧ (dats m 0 c).arrAt 4 cfg0.N = lseOf m c := by
  obtain ⟨A, B, C, H⟩ := h
  exact ⟨final_out H _ fun i h d => plainOut_at H.q H.k H.v i h d, final_lse H _ fun h b s => plainLse_at H.q H.k h b s⟩

/-- The kernel and the reference leave the same output and the same log-sums. -/
theorem algebraic : Cert.algebraic_Kernel6Ideal_Reference6Ideal_pre_finite6 := by
  intro m g m' g' hpre hargs
  refine ⟨outOf m, lseOf m, ?_, ?_⟩
  · refine (θ_run Cert.Kernel6Ideal.defs _ _).mono (fun r h c => ?_) (Cert.Kernel6Ideal.Value.run_blocks m g)
    obtain ⟨h3, h4⟩ := kernel_arrays m c (args m hpre c)
    exact ⟨(h c).1.trans h3, (h c).2.1.trans h4, (h c).2.2⟩
  · refine (θ_run Cert.Reference6Ideal.defs _ _).mono (fun r h c => ?_) (Cert.Reference6Ideal.Value.run (F := Ideal) m' g')
    obtain ⟨a0, a1, a2⟩ := hargs c
    obtain ⟨h1, h2, h3⟩ := h c
    refine ⟨h1.trans ((res_out m' c).trans ?_), h2.trans ?_, h3⟩
    · rw [a0, a1, a2]; rfl
    · rw [a0, a1]; rfl
end finite

end Cert.Proof.Forward
end
-- ==== Proof.Feed.Row.lean ====
module

public import Idealize.ShloMosaic.PureOps.IdealRules

/-! One row of the feed-forward step: the normed input, its products with the first weight, and the output as a sum over
    the hidden units, which come in four groups. -/

@[expose] public section
noncomputable section
namespace Cert.Feed

open Idealize.ShloMosaic

variable (x g : Fin 1024 → EReal) (w : Fin 8 → Fin 1024 → Fin 704 → EReal) (u : Fin 4 → Fin 704 → Fin 1024 → EReal)

/-- The row over its root mean square, times the layer's scale. -/
def normed (d : Fin 1024) : EReal :=
  x d * Ideal.rsqrt (Ideal.div (∑ e, x e * x e) (Ideal.ofBits .f32 0x44800000#32) + Ideal.ofBits .f32 0x358637BD#32) * g d

/-- Unit `f` of group `c`. -/
def unit (c : Fin 8) (f : Fin 704) : EReal := ∑ d, normed x g d * w c d f

/-- The gated unit: groups 0 to 3 are the gates of groups 4 to 7. -/
def gated (c : Fin 4) (f : Fin 704) : EReal :=
  unit x g w (c.castLE (by decide)) f * Ideal.logistic (unit x g w (c.castLE (by decide)) f) * unit x g w (c.natAdd 4) f

/-- One group's part of the output. -/
def part (c : Fin 4) (d : Fin 1024) : EReal := ∑ f, gated x g w c f * u c f d

/-- The output, with the residual. -/
def output (d : Fin 1024) : EReal := x d + ∑ c, part x g w u c d

/-- The groups' parts are added to the residual one after another. -/
theorem output_eq (d : Fin 1024) :
    output x g w u d = x d + part x g w u 0 d + part x g w u 1 d + part x g w u 2 d + part x g w u 3 d := by
  rw [output, Fin.sum_univ_four]
  simp only [add_assoc]

end Cert.Feed
end
-- ==== Proof.Feed.Point.lean ====
module

public import proofs.«01_k».proof.Proof.Feed.Row
public import proofs.«01_k».proof.Proof.Gen.Kernel7Ideal.Frame
public import Idealize.ShloMosaic.Lib.Pointwise
public import Idealize.ShloMosaic.Lib.Pipeline.ValueKit
public import Idealize.ShloMosaic.Lib.Tactic

/-! What a grid point leaves in its three blocks, row by row. -/

@[expose] public section
set_option maxRecDepth 16384
noncomputable section
namespace Cert.Feed

open Idealize.ShloMosaic Idealize.ShloMosaic.TcCoe
open Cert.Kernel7Ideal Cert.Kernel7Ideal.Gen

theorem hz2 : (![0, 0] : Fin 2 → Nat) = fun _ => 0 := funext fun a => by fin_cases a <;> rfl

section at_
variable (x : Vec Ideal S256x1024 .f32) (g : Vec Ideal S1x1024 .f32) (n : FVec Ideal S256x1024 .bf16)
  (w v : Vec Ideal S1x1x1024x704 .bf16) (u : Vec Ideal S1x704x1024 .bf16)

theorem normed_at (r : Fin 256) (d : Fin 1024) :
    k0_pay4 x g (ix2 r d) = normed (fun e => x (ix2 r e)) (fun e => g (ix2 0 e)) d := by
  pointwise [k0_pay4]
  rfl

/-- A group's units. -/
def product (r : Fin 256) (f : Fin 704) : EReal := ∑ d, n (ix2 r d) * w (ix4 0 0 d f)

theorem pay5_at (r : Fin 256) (f : Fin 704) : k0_pay5 x g w (ix2 r f) = product (k0_pay4 x g) w r f := by
  pointwise [k0_pay5]
  rfl
theorem pay6_at (r : Fin 256) (f : Fin 704) : k0_pay6 x g w (ix2 r f) = product (k0_pay4 x g) w r f := by
  pointwise [k0_pay6]
  rfl
theorem pay10_at (r : Fin 256) (f : Fin 704) : k0_pay10 n w (ix2 r f) = product n w r f := by
  pointwise [k0_pay10]
  rfl
theorem pay11_at (r : Fin 256) (f : Fin 704) : k0_pay11 n w (ix2 r f) = product n w r f := by
  pointwise [k0_pay11]
  rfl
theorem pay15_at (r : Fin 256) (f : Fin 704) : k0_pay15 n w (ix2 r f) = product n w r f := by
  pointwise [k0_pay15]
  rfl
theorem pay16_at (r : Fin 256) (f : Fin 704) : k0_pay16 n w (ix2 r f) = product n w r f := by
  pointwise [k0_pay16]
  rfl
theorem pay20_at (r : Fin 256) (f : Fin 704) : k0_pay20 n w (ix2 r f) = product n w r f := by
  pointwise [k0_pay20]
  rfl
theorem pay21_at (r : Fin 256) (f : Fin 704) : k0_pay21 n w (ix2 r f) = product n w r f := by
  pointwise [k0_pay21]
  rfl

theorem pay7_at (r : Fin 256) (f : Fin 704) : k0_pay7 x g w (ix3 0 r f) = product (k0_pay4 x g) w r f := by
  pointwise [k0_pay7]
  exact pay5_at x g w r f
theorem pay8_at (r : Fin 256) (f : Fin 704) : k0_pay8 x g w (ix3 0 r f) = product (k0_pay4 x g) w r f := by
  pointwise [k0_pay8]
  exact pay6_at x g w r f
theorem pay12_at (r : Fin 256) (f : Fin 704) : k0_pay12 n w (ix3 0 r f) = product n w r f := by
  pointwise [k0_pay12]
  exact pay10_at n w r f
theorem pay13_at (r : Fin 256) (f : Fin 704) : k0_pay13 n w (ix3 0 r f) = product n w r f := by
  pointwise [k0_pay13]
  exact pay11_at n w r f
theorem pay17_at (r : Fin 256) (f : Fin 704) : k0_pay17 n w (ix3 0 r f) = product n w r f := by
  pointwise [k0_pay17]
  exact pay15_at n w r f
theorem pay18_at (r : Fin 256) (f : Fin 704) : k0_pay18 n w (ix3 0 r f) = product n w r f := by
  pointwise [k0_pay18]
  exact pay16_at n w r f
theorem pay22_at (r : Fin 256) (f : Fin 704) : k0_pay1 (k0_pay22 n w) (ix3 0 r f) = product n w r f := by
  pointwise [k0_pay1, k0_pay22]
  exact pay20_at n w r f
theorem pay2_at (r : Fin 256) (f : Fin 704) : k0_pay2 (k0_pay21 n w) (ix3 0 r f) = product n w r f := by
  pointwise [k0_pay2]
  exact pay21_at n w r f

/-- A group's part of the output, from its units. -/
def added (r : Fin 256) (d : Fin 1024) : EReal :=
  ∑ f, product n w r f * Ideal.logistic (product n w r f) * product n v r f * u (ix3 0 f d)

theorem pay14_at (w' v' : Vec Ideal S1x1x1024x704 .bf16) (u' : Vec Ideal S1x704x1024 .bf16) (r : Fin 256) (d : Fin 1024) :
    k0_pay14 x (k0_pay4 x g) (k0_pay5 x g w) (k0_pay6 x g v) (k0_pay9 x g w) u w' v' u' (ix2 r d)
      = x (ix2 r d) + added (k0_pay4 x g) w v u r d + added (k0_pay4 x g) w' v' u' r d := by
  pointwise [k0_pay14, k0_pay9]
  simp only [pay5_at, pay6_at, pay10_at, pay11_at]
  rfl

theorem pay19_at (a : FVec Ideal S256x1024 .f32) (r : Fin 256) (d : Fin 1024) :
    k0_pay19 n a w v u (ix2 r d) = a (ix2 r d) + added n w v u r d := by
  pointwise [k0_pay19]
  simp only [pay15_at, pay16_at]
  rfl

theorem pay3_at (a : FVec Ideal S256x1024 .f32) (r : Fin 256) (d : Fin 1024) :
    k0_pay3 a (k0_pay20 n w) (k0_pay21 n v) u (ix2 r d) = a (ix2 r d) + added n w v u r d := by
  pointwise [k0_pay3]
  simp only [pay20_at, pay21_at]
  rfl
end at_

end Cert.Feed
end
-- ==== Proof.Feed.Block.lean ====
module

public import proofs.«01_k».proof.Proof.Feed.Point

/-! A grid point's three blocks as functions of the blocks it reads. -/

@[expose] public section
set_option maxRecDepth 16384
noncomputable section
namespace Cert.Feed

open Idealize.ShloMosaic Idealize.ShloMosaic.TcCoe
open Cert.Kernel7Ideal Cert.Kernel7Ideal.Gen

variable (x : Vec Ideal S256x1024 .f32) (g : Vec Ideal S1x1024 .f32) (w : Vec Ideal S8x1x1024x704 .bf16)
  (u : Vec Ideal S4x704x1024 .bf16)

theorem load_w (k : ℕ) (hk : k < 8) (inb : ∀ a, (![k, 0, 0, 0] : Fin 4 → ℕ) a + S1x1x1024x704.size a ≤ S8x1x1024x704.size a)
    (d : Fin 1024) (f : Fin 704) :
    View.ld w (Rect.unit (s := S8x1x1024x704) ![k, 0, 0, 0] S1x1x1024x704.size inb) (ix4 0 0 d f) = w (ix4 ⟨k, hk⟩ 0 d f) := by
  refine congrArg w (funext fun a => ?_)
  match a with
  | ⟨0, _⟩ => exact Fin.ext (show k + 1 * 0 = k by omega)
  | ⟨1, _⟩ => exact Fin.ext (show 0 + 1 * 0 = 0 by omega)
  | ⟨2, _⟩ => exact Fin.ext (show 0 + 1 * d.val = d.val by omega)
  | ⟨3, _⟩ => exact Fin.ext (show 0 + 1 * f.val = f.val by omega)

theorem load_u (k : ℕ) (hk : k < 4) (inb : ∀ a, (![k, 0, 0] : Fin 3 → ℕ) a + S1x704x1024.size a ≤ S4x704x1024.size a)
    (f : Fin 704) (d : Fin 1024) :
    View.ld u (Rect.unit (s := S4x704x1024) ![k, 0, 0] S1x704x1024.size inb) (ix3 0 f d) = u (ix3 ⟨k, hk⟩ f d) := by
  refine congrArg u (funext fun a => ?_)
  match a with
  | ⟨0, _⟩ => exact Fin.ext (show k + 1 * 0 = k by omega)
  | ⟨1, _⟩ => exact Fin.ext (show 0 + 1 * f.val = f.val by omega)
  | ⟨2, _⟩ => exact Fin.ext (show 0 + 1 * d.val = d.val by omega)

/-- The blocks' rows and groups. -/
abbrev rowX (r : Fin 256) (d : Fin 1024) : EReal := x (ix2 r d)
abbrev rowG (d : Fin 1024) : EReal := g (ix2 0 d)
abbrev groupsW (c : Fin 8) (d : Fin 1024) (f : Fin 704) : EReal := w (ix4 c 0 d f)
abbrev groupsU (c : Fin 4) (f : Fin 704) (d : Fin 1024) : EReal := u (ix3 c f d)

theorem product_at (k : ℕ) (hk : k < 8)
    (inb : ∀ a, (![k, 0, 0, 0] : Fin 4 → ℕ) a + S1x1x1024x704.size a ≤ S8x1x1024x704.size a) (r : Fin 256) (f : Fin 704) :
    product (k0_pay4 x g) (View.ld w (Rect.unit (s := S8x1x1024x704) ![k, 0, 0, 0] S1x1x1024x704.size inb)) r f
      = unit (rowX x r) (rowG g) (groupsW w) ⟨k, hk⟩ f :=
  Finset.sum_congr rfl fun d _ => by rw [normed_at, load_w w k hk]

theorem added_at (k : ℕ) (hk : k < 4)
    (i1 : ∀ a, (![k, 0, 0, 0] : Fin 4 → ℕ) a + S1x1x1024x704.size a ≤ S8x1x1024x704.size a)
    (i2 : ∀ a, (![4 + k, 0, 0, 0] : Fin 4 → ℕ) a + S1x1x1024x704.size a ≤ S8x1x1024x704.size a)
    (i3 : ∀ a, (![k, 0, 0] : Fin 3 → ℕ) a + S1x704x1024.size a ≤ S4x704x1024.size a) (r : Fin 256) (d : Fin 1024) :
    added (k0_pay4 x g) (View.ld w (Rect.unit (s := S8x1x1024x704) ![k, 0, 0, 0] S1x1x1024x704.size i1))
        (View.ld w (Rect.unit (s := S8x1x1024x704) ![4 + k, 0, 0, 0] S1x1x1024x704.size i2))
        (View.ld u (Rect.unit (s := S4x704x1024) ![k, 0, 0] S1x704x1024.size i3)) r d
      = part (rowX x r) (rowG g) (groupsW w) (groupsU u) ⟨k, hk⟩ d :=
  Finset.sum_congr rfl fun f _ => by
    rw [product_at x g w k (by omega), product_at x g w (4 + k) (by omega), load_u u k hk]
    rfl

/-- The normed input. -/
theorem block_normed (r : Fin 256) (d : Fin 1024) : out0_5 x g w u (ix2 r d) = normed (rowX x r) (rowG g) d := by
  unfold out0_5
  rw [View.canon_unit_zero (S := S256x1024) hz2, View.ld_unit_zero (S := S256x1024) hz2, View.ld_unit_zero (S := S1x1024) hz2,
    normed_at]

/-- The output. -/
theorem block_out (r : Fin 256) (d : Fin 1024) :
    out0_4 x g w u (ix2 r d) = output (rowX x r) (rowG g) (groupsW w) (groupsU u) d := by
  unfold out0_4
  rw [View.canon_unit_zero (S := S256x1024) hz2]
  simp only [k0_pay23, k0_pay24, View.ld_unit_zero (S := S256x1024) hz2, View.ld_unit_zero (S := S1x1024) hz2]
  rw [pay3_at, pay19_at, pay14_at, output_eq]
  exact congrArg₂ (fun a b : EReal => a + b) (congrArg₂ (fun a b : EReal => a + b) (congrArg₂ (fun a b : EReal => a + b)
    (congrArg (fun b : EReal => x (ix2 r d) + b) (added_at x g w u 0 (by decide) _ _ _ r d))
    (added_at x g w u 1 (by decide) _ _ _ r d)) (added_at x g w u 2 (by decide) _ _ _ r d))
    (added_at x g w u 3 (by decide) _ _ _ r d)

/-- The units' array. -/
def units : Vec Ideal S8x256x704 .bf16 := fun y => unit (rowX x (y 1)) (rowG g) (groupsW w) (y 0) (y 2)

theorem place_unit (k : ℕ) (hk : k < 8) (inb : ∀ a, (![k, 0, 0] : Fin 3 → ℕ) a + S1x256x704.size a ≤ S8x256x704.size a)
    (r : Fin 256) (f : Fin 704) :
    (Rect.unit (s := S8x256x704) ![k, 0, 0] S1x256x704.size inb).emb (ix3 0 r f) = ix3 ⟨k, hk⟩ r f := by
  funext a
  match a with
  | ⟨0, _⟩ => exact Fin.ext (show k + 1 * 0 = k by omega)
  | ⟨1, _⟩ => exact Fin.ext (show 0 + 1 * r.val = r.val by omega)
  | ⟨2, _⟩ => exact Fin.ext (show 0 + 1 * f.val = f.val by omega)

/-- A store of one group's units is that group of the array. -/
theorem piece (k : ℕ) (hk : k < 8) (inb : ∀ a, (![k, 0, 0] : Fin 3 → ℕ) a + S1x256x704.size a ≤ S8x256x704.size a)
    (inbw : ∀ a, (![k, 0, 0, 0] : Fin 4 → ℕ) a + S1x1x1024x704.size a ≤ S8x1x1024x704.size a)
    (P : FVec Ideal S1x256x704 .bf16)
    (hP : ∀ r f, P (ix3 0 r f) = product (k0_pay4 x g)
      (View.ld w (Rect.unit (s := S8x1x1024x704) ![k, 0, 0, 0] S1x1x1024x704.size inbw)) r f)
    (y : (Rect.unit (s := S8x256x704) ![k, 0, 0] S1x256x704.size inb).shape.Idx) :
    P y = units x g w ((Rect.unit (s := S8x256x704) ![k, 0, 0] S1x256x704.size inb).emb y) := by
  obtain ⟨a, r, f, rfl⟩ : ∃ (a : Fin 1) (r : Fin 256) (f : Fin 704), y = ix3 a r f := ⟨_, _, _, eq_ix3 y⟩
  obtain rfl := Subsingleton.elim a 0
  rw [place_unit k hk inb, hP, product_at x g w k hk]
  rfl

/-- The units. -/
theorem block_units (y : S8x256x704.Idx) : out0_6 x g w u y = units x g w y := by
  unfold out0_6
  refine View.canon_apply_of_pieces (units x g w) _ ?_ y (cover0_6 _ _ _ _ _ _ _ _ y)
  simp only [k0_pay23, k0_pay24, View.ld_unit_zero (S := S256x1024) hz2, View.ld_unit_zero (S := S1x1024) hz2]
  intro pc hpc
  simp only [List.mem_cons, List.not_mem_nil, or_false] at hpc
  rcases hpc with rfl | rfl | rfl | rfl | rfl | rfl | rfl | rfl
  · exact piece x g w 7 (by decide) inb_S8x256x704_S1x256x704_7_0_0 inb_S8x1x1024x704_S1x1x1024x704_7_0_0_0 _ (pay2_at _ _)
  · exact piece x g w 3 (by decide) inb_S8x256x704_S1x256x704_3_0_0 inb_S8x1x1024x704_S1x1x1024x704_3_0_0_0 _ (pay22_at _ _)
  · exact piece x g w 6 (by decide) inb_S8x256x704_S1x256x704_6_0_0 inb_S8x1x1024x704_S1x1x1024x704_6_0_0_0 _ (pay18_at _ _)
  · exact piece x g w 2 (by decide) inb_S8x256x704_S1x256x704_2_0_0 inb_S8x1x1024x704_S1x1x1024x704_2_0_0_0 _ (pay17_at _ _)
  · exact piece x g w 5 (by decide) inb_S8x256x704_S1x256x704_5_0_0 inb_S8x1x1024x704_S1x1x1024x704_5_0_0_0 _ (pay13_at _ _)
  · exact piece x g w 1 (by decide) inb_S8x256x704_S1x256x704_1_0_0 inb_S8x1x1024x704_S1x1x1024x704_1_0_0_0 _ (pay12_at _ _)
  · exact piece x g w 4 (by decide) inb_S8x256x704_S1x256x704_4_0_0 inb_S8x1x1024x704_S1x1x1024x704_4_0_0_0 _ (pay8_at _ _ _)
  · exact piece x g w 0 (by decide) inb_S8x256x704_S1x256x704_0_0_0 inb_S8x1x1024x704_S1x1x1024x704_0_0_0_0 _ (pay7_at _ _ _)

end Cert.Feed
end
-- ==== Proof.Feed.Plain.lean ====
module

public import proofs.«01_k».proof.Proof.Feed.Row
public import proofs.«01_k».proof.Proof.Gen.Reference7Ideal.Run
public import Idealize.ShloMosaic.Lib.Pointwise

/-! The reference's three results as arrays of the arguments, read row by row. -/

@[expose] public section
set_option maxRecDepth 16384
noncomputable section
namespace Cert.Feed

open Idealize.ShloMosaic Idealize.ShloMosaic.TcCoe
open Cert.Reference7Ideal Cert.Reference7Ideal.Gen

variable (x : FVec Ideal S16384x1024 .f32) (g : FVec Ideal S1x1024 .f32) (w : FVec Ideal S8x2x1024x704 .bf16)
  (u : FVec Ideal S4x704x1024 .bf16)

/-- The arguments' rows and the first layer's groups. -/
abbrev argX (i : Fin 16384) (d : Fin 1024) : EReal := x (ix2 i d)
abbrev argG (d : Fin 1024) : EReal := g (ix2 0 d)
abbrev argW (c : Fin 8) (d : Fin 1024) (f : Fin 704) : EReal := w (ix4 c 0 d f)
abbrev argU (c : Fin 4) (f : Fin 704) (d : Fin 1024) : EReal := u (ix3 c f d)

/-- The rows' mean squares. -/
def meanSq : FVec Ideal S16384x1 .f32 :=
  Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))

/-- The normed rows. -/
def normedArr : FVec Ideal S16384x1024 .f32 :=
  mulf (mulf x (broadcastInDim S16384x1024 ![0, 1] bcast_S16384x1_S16384x1024_0_1 (Host.rsqrt (addf (meanSq x) (broadcastInDim S16384x1 ![] bcast_S_S16384x1 (constant S_ .f32 0x358637BD#32)))))) (broadcastInDim S16384x1024 ![0, 1] bcast_S1x1024_S16384x1024_0_1 g)

/-- The first layer's weight, its groups of columns. -/
def firstW : FVec Ideal S8x1024x704 .f32 :=
  extf .f32 (shapeCast _ (extractStridedSlice S8x1x1024x704 ![0, 0, 0, 0] w slices_S8x2x1024x704_S8x1x1024x704_0_0_0_0) shapeCasts_S8x1x1024x704_S8x1024x704) bitsLt_bf16_f32

/-- The hidden units. -/
def unitsArr : FVec Ideal S8x16384x704 .f32 :=
  transpose S8x16384x704 [0, 2, 1] (Host.dotGeneral dot_S8x1024x704_S16384x1024_S8x704x16384_1_1_02_0_n_n none (firstW w) (normedArr x g)) transposes_S8x704x16384_S8x16384x704_0_2_1

/-- The gated units of the units. -/
def gatedArr (z : FVec Ideal S8x16384x704 .f32) : FVec Ideal S4x16384x704 .f32 :=
  mulf (mulf (extractStridedSlice S4x16384x704 ![0, 0, 0] z slices_S8x16384x704_S4x16384x704_0_0_0) (Host.divf (broadcastInDim S4x16384x704 ![] bcast_S_S4x16384x704 (constant S_ .f32 0x3F800000#32)) (addf (broadcastInDim S4x16384x704 ![] bcast_S_S4x16384x704 (constant S_ .f32 0x3F800000#32)) (Host.exp (Host.negf (extractStridedSlice S4x16384x704 ![0, 0, 0] z slices_S8x16384x704_S4x16384x704_0_0_0)))))) (extractStridedSlice S4x16384x704 ![4, 0, 0] z slices_S8x16384x704_S4x16384x704_4_0_0)

/-- The output from the gated units. -/
def outArr (z : FVec Ideal S4x16384x704 .f32) : FVec Ideal S16384x1024 .f32 :=
  addf x (Host.dotGeneral dot_S4x16384x704_S4x704x1024_S16384x1024_02_01_1_2_n_n none z (extf .f32 u bitsLt_bf16_f32))

/-- The three results. -/
def plainOut : FVec Ideal S16384x1024 .f32 := outArr x u (gatedArr (unitsArr x g w))
def plainNormed : FVec Ideal S16384x1024 .bf16 := truncf .bf16 (normedArr x g) bitsLt_bf16_f32
def plainUnits : FVec Ideal S8x16384x704 .bf16 := truncf .bf16 (unitsArr x g w) bitsLt_bf16_f32

theorem meanSq_at (i : Fin 16384) :
    meanSq x (ix2 i 0) = Ideal.div (∑ e, argX x i e * argX x i e) (Ideal.ofBits .f32 0x44800000#32) := by
  unfold meanSq
  pointwise []

theorem normedArr_at (i : Fin 16384) (d : Fin 1024) : normedArr x g (ix2 i d) = normed (argX x i) (argG g) d := by
  unfold normedArr
  pointwise []
  rw [meanSq_at]
  rfl

theorem firstW_at (c : Fin 8) (d : Fin 1024) (f : Fin 704) : firstW w (ix3 c d f) = argW w c d f := by
  unfold firstW
  pointwise []

theorem unitsArr_at (c : Fin 8) (i : Fin 16384) (f : Fin 704) :
    unitsArr x g w (ix3 c i f) = unit (argX x i) (argG g) (argW w) c f := by
  unfold unitsArr
  pointwise []
  exact Finset.sum_congr rfl fun d _ => by rw [normedArr_at, firstW_at, mul_comm]

theorem gatedArr_at (z : FVec Ideal S8x16384x704 .f32) (c : Fin 4) (i : Fin 16384) (f : Fin 704) :
    gatedArr z (ix3 c i f) = z (ix3 (c.castLE (by decide)) i f) * Ideal.logistic (z (ix3 (c.castLE (by decide)) i f))
      * z (ix3 (c.natAdd 4) i f) := by
  unfold gatedArr
  pointwise []
  rfl

theorem outArr_at (z : FVec Ideal S4x16384x704 .f32) (i : Fin 16384) (d : Fin 1024) :
    outArr x u z (ix2 i d) = argX x i d + ∑ c, ∑ f, z (ix3 c i f) * argU u c f d := by
  unfold outArr
  pointwise []

theorem plainNormed_at (i : Fin 16384) (d : Fin 1024) : plainNormed x g (ix2 i d) = normed (argX x i) (argG g) d :=
  normedArr_at x g i d

theorem plainUnits_at (c : Fin 8) (i : Fin 16384) (f : Fin 704) :
    plainUnits x g w (ix3 c i f) = unit (argX x i) (argG g) (argW w) c f := unitsArr_at x g w c i f

theorem plainOut_at (i : Fin 16384) (d : Fin 1024) :
    plainOut x g w u (ix2 i d) = output (argX x i) (argG g) (argW w) (argU u) d := by
  rw [plainOut, outArr_at]
  simp only [gatedArr_at, unitsArr_at]
  rfl

end Cert.Feed
end
-- ==== Proof.Feed.Grid.lean ====
module

public import proofs.«01_k».proof.Proof.Feed.Block
public import proofs.«01_k».proof.Proof.Feed.Plain
public import proofs.«01_k».proof.Proof.Gen.Kernel7Ideal.Value

/-! The grid: point `t` has rows `256 t` to `256 t + 255`, and the three results' arrays are the reference's. -/

@[expose] public section
set_option maxRecDepth 16384
noncomputable section
namespace Cert.Feed

open Idealize.ShloMosaic Idealize.ShloMosaic.TcCoe
open Cert.Kernel7Ideal Cert.Kernel7Ideal.Gen

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, t.val, 0] := (by decide +kernel : ∀ t : Fin grid0.N, _)

/-- The row a block's row `r` is. -/
def rowOf (t : Fin cfg0.N) (r : Fin 256) : Fin 16384 :=
  ⟨256 * t.val + r.val, by have := lt_of_lt_of_eq t.isLt N_0; omega⟩

variable (m : (ℓ : Loc nD τ sig) → Buf (Elt Ideal) ℓ) (c : Dev nD) (t : Fin cfg0.N)

theorem read0 (X : FVec Ideal S16384x1024 .f32) (r : Fin 256) (d : Fin 1024) :
    ((cfg0.win 0).blk t).view.read (Elt Ideal) X (ix2 r d) = X (ix2 (rowOf t r) d) := by
  blk_ext [idx0 t, rowOf]

theorem read1 (X : FVec Ideal S1x1024 .f32) (d : Fin 1024) :
    ((cfg0.win 1).blk t).view.read (Elt Ideal) X (ix2 0 d) = X (ix2 0 d) := by
  blk_ext [idx1 t]

theorem read2 (X : FVec Ideal S8x2x1024x704 .bf16) (k : Fin 8) (d : Fin 1024) (f : Fin 704) :
    ((cfg0.win 2).blk t).view.read (Elt Ideal) X (ix4 k 0 d f) = X (ix4 k 0 d f) := by
  blk_ext [idx2 t]

theorem read3 (X : FVec Ideal S4x704x1024 .bf16) (k : Fin 4) (f : Fin 704) (d : Fin 1024) :
    ((cfg0.win 3).blk t).view.read (Elt Ideal) X (ix3 k f d) = X (ix3 k f d) := by
  blk_ext [idx3 t]

/-- Where the results' blocks lie. -/
theorem place4 (r : Fin 256) (d : Fin 1024) : ((cfg0.win 4).blk t).view.emb (ix2 r d) = ix2 (rowOf t r) d := by
  blk_ext [idx4 t, rowOf]

theorem place5 (r : Fin 256) (d : Fin 1024) : ((cfg0.win 5).blk t).view.emb (ix2 r d) = ix2 (rowOf t r) d := by
  blk_ext [idx5 t, rowOf]

theorem place6 (k : Fin 8) (r : Fin 256) (f : Fin 704) :
    ((cfg0.win 6).blk t).view.emb (ix3 k r f) = ix3 k (rowOf t r) f := by
  blk_ext [idx6 t, rowOf]

/-- The arguments. -/
abbrev argx : FVec Ideal S16384x1024 .f32 := m ((c.tc : Thread nD τ).loc main_arg0)
abbrev argg : FVec Ideal S1x1024 .f32 := m ((c.tc : Thread nD τ).loc main_arg1)
abbrev argw : FVec Ideal S8x2x1024x704 .bf16 := m ((c.tc : Thread nD τ).loc main_arg2)
abbrev argu : FVec Ideal S4x704x1024 .bf16 := m ((c.tc : Thread nD τ).loc main_arg3)

theorem rowX_eq (r : Fin 256) : rowX (iblk m c 0 t) r = argX (argx m c) (rowOf t r) := funext fun d =>
  (read0 t (V m c main_arg0) r d).trans (congrFun (V_main_arg0 m c) _)

theorem rowG_eq : rowG (iblk m c 1 t) = argG (argg m c) := funext fun d =>
  (read1 t (V m c main_arg1) d).trans (congrFun (V_main_arg1 m c) _)

theorem groupsW_eq : groupsW (iblk m c 2 t) = argW (argw m c) := funext fun k => funext fun d => funext fun f =>
  (read2 t (V m c main_arg2) k d f).trans (congrFun (V_main_arg2 m c) _)

theorem groupsU_eq : groupsU (iblk m c 3 t) = argU (argu m c) := funext fun k => funext fun f => funext fun d =>
  (read3 t (V m c main_arg3) k f d).trans (congrFun (V_main_arg3 m c) _)

/-- What a point writes. -/
theorem point_out (r : Fin 256) (d : Fin 1024) : out0_4 (iblk m c 0 t) (iblk m c 1 t) (iblk m c 2 t) (iblk m c 3 t) (ix2 r d)
    = plainOut (argx m c) (argg m c) (argw m c) (argu m c) (ix2 (rowOf t r) d) := by
  rw [block_out, plainOut_at, rowX_eq, rowG_eq, groupsW_eq, groupsU_eq]

theorem point_normed (r : Fin 256) (d : Fin 1024) :
    out0_5 (iblk m c 0 t) (iblk m c 1 t) (iblk m c 2 t) (iblk m c 3 t) (ix2 r d)
      = plainNormed (argx m c) (argg m c) (ix2 (rowOf t r) d) := by
  rw [block_normed, plainNormed_at, rowX_eq, rowG_eq]

theorem point_units (k : Fin 8) (r : Fin 256) (f : Fin 704) :
    out0_6 (iblk m c 0 t) (iblk m c 1 t) (iblk m c 2 t) (iblk m c 3 t) (ix3 k r f)
      = plainUnits (argx m c) (argg m c) (argw m c) (ix3 k (rowOf t r) f) := by
  rw [block_units, plainUnits_at, ← rowX_eq, ← rowG_eq m c t, ← groupsW_eq m c t]
  rfl

/-- The array of the outputs. -/
theorem final_out : (dats m 0 c).arrAt 4 cfg0.N = plainOut (argx m c) (argg m c) (argw m c) (argu m c) := by
  refine (dats m 0 c).arrAt_eq_of_covers 4 _ (by decide +kernel) fun t hf y => ?_
  obtain ⟨r, d, rfl⟩ : ∃ (r : Fin 256) (d : Fin 1024), y = ix2 r d := ⟨_, _, eq_ix2 y⟩
  rw [place4, after0_4]
  have e := point_out m c t r d
  generalize out0_4 (iblk m c 0 t) (iblk m c 1 t) (iblk m c 2 t) (iblk m c 3 t) = Y at e ⊢
  exact e

/-- The array of the normed inputs. -/
theorem final_normed : (dats m 0 c).arrAt 5 cfg0.N = plainNormed (argx m c) (argg m c) := by
  refine (dats m 0 c).arrAt_eq_of_covers 5 _ (by decide +kernel) fun t hf y => ?_
  obtain ⟨r, d, rfl⟩ : ∃ (r : Fin 256) (d : Fin 1024), y = ix2 r d := ⟨_, _, eq_ix2 y⟩
  rw [place5, after0_5]
  have e := point_normed m c t r d
  generalize out0_5 (iblk m c 0 t) (iblk m c 1 t) (iblk m c 2 t) (iblk m c 3 t) = Y at e ⊢
  exact e

/-- The array of the hidden units. -/
theorem final_units : (dats m 0 c).arrAt 6 cfg0.N = plainUnits (argx m c) (argg m c) (argw m c) := by
  refine (dats m 0 c).arrAt_eq_of_covers 6 _ (by decide +kernel) fun t hf y => ?_
  obtain ⟨k, r, f, rfl⟩ : ∃ (k : Fin 8) (r : Fin 256) (f : Fin 704), y = ix3 k r f := ⟨_, _, _, eq_ix3 y⟩
  rw [place6, after0_6]
  have e := point_units m c t k r f
  generalize out0_6 (iblk m c 0 t) (iblk m c 1 t) (iblk m c 2 t) (iblk m c 3 t) = Y at e ⊢
  exact e

end Cert.Feed
end
-- ==== Proof.Feed.Equal.lean ====
module

public import proofs.«01_k».proof.Defs
public import proofs.«01_k».proof.Proof.Feed.Grid
public import proofs.«01_k».proof.Proof.Gen.Kernel7.Frame

/-! The claims for the feed-forward layer's forward call. -/

@[expose] public section
set_option maxRecDepth 16384
noncomputable section
namespace Cert.Proof.Feed

open Idealize.ShloMosaic Idealize.ShloMosaic.TcCoe Idealize.SL.Sem
open Cert.Feed

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- Nothing is rewritten in the idealized kernel. -/
theorem preserves : Cert.preserves_Kernel7_Kernel7Ideal := trivial

/-- The kernel and the reference leave the same output, normed input and hidden units. -/
theorem algebraic : Cert.algebraic_Kernel7Ideal_Reference7Ideal := by
  intro m g m' g' _ hargs
  refine ⟨fun c => plainOut (argx m c) (argg m c) (argw m c) (argu m c), fun c => plainNormed (argx m c) (argg m c),
    fun c => plainUnits (argx m c) (argg m c) (argw m c), ?_, ?_⟩
  · exact (θ_run Cert.Kernel7Ideal.defs _ _).mono (fun r h c => ⟨(h c).1.trans (final_out m c),
        (h c).2.1.trans (final_normed m c), (h c).2.2.1.trans (final_units m c), (h c).2.2.2⟩)
      (Cert.Kernel7Ideal.Value.run_blocks m g)
  · refine (θ_run Cert.Reference7Ideal.defs _ _).mono (fun r h c => ⟨(h c).1.trans ?_, (h c).2.1.trans ?_,
        (h c).2.2.1.trans ?_, (h c).2.2.2⟩)
      (Cert.Reference7Ideal.Value.run (F := Ideal) m' g')
    · rw [(hargs c).1, (hargs c).2.1, (hargs c).2.2.1, (hargs c).2.2.2]; rfl
    · rw [(hargs c).1, (hargs c).2.1]; rfl
    · rw [(hargs c).1, (hargs c).2.1, (hargs c).2.2.1]; rfl

end Cert.Proof.Feed
end
-- ==== Proof.lean ====
module

public import proofs.«01_k».proof.Proof.Final.Frames
public import proofs.«01_k».proof.Proof.Final.Values
public import proofs.«01_k».proof.Proof.Gen.Pre_finite
public import proofs.«01_k».proof.Proof.Weights.FirstEqual
public import proofs.«01_k».proof.Proof.Weights.SecondEqual
public import proofs.«01_k».proof.Proof.Weights.ThirdEqual
public import proofs.«01_k».proof.Proof.Weights.FourthEqual
public import proofs.«01_k».proof.Proof.Forward.Equal
public import proofs.«01_k».proof.Proof.Feed.Equal

/-! The certificate: for the attention's backward call, for four weight gradients, for the attention's forward call and for
    the feed-forward layer's forward call, the frames of the kernel, of its idealization and of the reference, what the
    idealization replaces, and the equality of the results over the reals. -/

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite6.Gen.facts, frame_p, frame_pi, frame_pi_finite, frame_ri, frame_ri_finite,
  First.frame_p, First.frame_pi, First.frame_ri, Second.frame_p, Second.frame_pi, Second.frame_ri,
  Third.frame_p, Third.frame_pi, Third.frame_ri, Fourth.frame_p, Fourth.frame_pi, Fourth.frame_ri,
  Forward.frame_p, Forward.frame_pi, Forward.frame_pi_finite, Forward.frame_ri, Forward.frame_ri_finite,
  Feed.frame_p, Feed.frame_pi, Feed.frame_ri,
  preserves, algebraic, First.preserves, First.algebraic, Second.preserves, Second.algebraic,
  Third.preserves, Third.algebraic, Fourth.preserves, Fourth.algebraic, Forward.preserves, Forward.algebraic,
  Feed.preserves, Feed.algebraic⟩

end Cert.Proof

end
